-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_P1 (m : (ℓ : Loc Cert.P1.nD Cert.P1.τ Cert.P1.sig) → Buf (Elt Bits) ℓ) : Prop :=
  True

def Pre_P1Ideal (m : (ℓ : Loc Cert.P1Ideal.nD Cert.P1Ideal.τ Cert.P1Ideal.sig) → Buf (Elt Ideal) ℓ) : Prop :=
  True

def Pre_P1RefIdeal (m : (ℓ : Loc Cert.P1RefIdeal.nD Cert.P1RefIdeal.τ Cert.P1RefIdeal.sig) → Buf (Elt Ideal) ℓ) : Prop :=
  True

def Pre_PB (m : (ℓ : Loc Cert.PB.nD Cert.PB.τ Cert.PB.sig) → Buf (Elt Bits) ℓ) : Prop :=
  True

def Pre_PBIdeal (m : (ℓ : Loc Cert.PBIdeal.nD Cert.PBIdeal.τ Cert.PBIdeal.sig) → Buf (Elt Ideal) ℓ) : Prop :=
  True

def Pre_PBRefIdeal (m : (ℓ : Loc Cert.PBRefIdeal.nD Cert.PBRefIdeal.τ Cert.PBRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_CA (m : (ℓ : Loc Cert.CA.nD Cert.CA.τ Cert.CA.sig) → Buf (Elt Bits) ℓ) : Prop :=
  True

def Pre_CAIdeal (m : (ℓ : Loc Cert.CAIdeal.nD Cert.CAIdeal.τ Cert.CAIdeal.sig) → Buf (Elt Ideal) ℓ) : Prop :=
  True

def Pre_CARefIdeal (m : (ℓ : Loc Cert.CARefIdeal.nD Cert.CARefIdeal.τ Cert.CARefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_P1 [hP1 : Cert.P1.Facts] : Prop :=
  ∀ (m : (ℓ : Loc Cert.P1.nD Cert.P1.τ Cert.P1.sig) → Buf (Elt Bits) ℓ) (g : Dev Cert.P1.nD → PrngReg), Pre_P1 m →
    θ_run (Cert.P1.defs (F := Bits)) (onTc (τ := Cert.P1.τ) (Cert.P1.main (F := Bits))) ⟨m, fun _ => 0, g⟩ (fun r => (∀ c : Dev Cert.P1.nD,
      r.2.mem ((c.tc : Thread Cert.P1.nD Cert.P1.τ).loc Cert.P1.main_arg0) = m ((c.tc : Thread Cert.P1.nD Cert.P1.τ).loc Cert.P1.main_arg0)
      ∧ r.2.mem ((c.tc : Thread Cert.P1.nD Cert.P1.τ).loc Cert.P1.main_arg1) = m ((c.tc : Thread Cert.P1.nD Cert.P1.τ).loc Cert.P1.main_arg1))
      ∧ r.2.sem = fun _ => 0)

def quiescent_P1Ideal [hP1Ideal : Cert.P1Ideal.Facts] : Prop :=
  ∀ (m : (ℓ : Loc Cert.P1Ideal.nD Cert.P1Ideal.τ Cert.P1Ideal.sig) → Buf (Elt Ideal) ℓ) (g : Dev Cert.P1Ideal.nD → PrngReg), Pre_P1Ideal m →
    θ_run (Cert.P1Ideal.defs (F := Ideal)) (onTc (τ := Cert.P1Ideal.τ) (Cert.P1Ideal.main (F := Ideal))) ⟨m, fun _ => 0, g⟩ (fun r => (∀ c : Dev Cert.P1Ideal.nD,
      r.2.mem ((c.tc : Thread Cert.P1Ideal.nD Cert.P1Ideal.τ).loc Cert.P1Ideal.main_arg0) = m ((c.tc : Thread Cert.P1Ideal.nD Cert.P1Ideal.τ).loc Cert.P1Ideal.main_arg0)
      ∧ r.2.mem ((c.tc : Thread Cert.P1Ideal.nD Cert.P1Ideal.τ).loc Cert.P1Ideal.main_arg1) = m ((c.tc : Thread Cert.P1Ideal.nD Cert.P1Ideal.τ).loc Cert.P1Ideal.main_arg1))
      ∧ r.2.sem = fun _ => 0)

def quiescent_P1RefIdeal [hP1RefIdeal : Cert.P1RefIdeal.Facts] : Prop :=
  ∀ (m : (ℓ : Loc Cert.P1RefIdeal.nD Cert.P1RefIdeal.τ Cert.P1RefIdeal.sig) → Buf (Elt Ideal) ℓ) (g : Dev Cert.P1RefIdeal.nD → PrngReg), Pre_P1RefIdeal m →
    θ_run (Cert.P1RefIdeal.defs (F := Ideal)) (onTc (τ := Cert.P1RefIdeal.τ) (Cert.P1RefIdeal.main (F := Ideal))) ⟨m, fun _ => 0, g⟩ (fun r => (∀ c : Dev Cert.P1RefIdeal.nD,
      r.2.mem ((c.tc : Thread Cert.P1RefIdeal.nD Cert.P1RefIdeal.τ).loc Cert.P1RefIdeal.main_arg0) = m ((c.tc : Thread Cert.P1RefIdeal.nD Cert.P1RefIdeal.τ).loc Cert.P1RefIdeal.main_arg0)
      ∧ r.2.mem ((c.tc : Thread Cert.P1RefIdeal.nD Cert.P1RefIdeal.τ).loc Cert.P1RefIdeal.main_arg1) = m ((c.tc : Thread Cert.P1RefIdeal.nD Cert.P1RefIdeal.τ).loc Cert.P1RefIdeal.main_arg1))
      ∧ r.2.sem = fun _ => 0)

def quiescent_PB [hPB : Cert.PB.Facts] : Prop :=
  ∀ (m : (ℓ : Loc Cert.PB.nD Cert.PB.τ Cert.PB.sig) → Buf (Elt Bits) ℓ) (g : Dev Cert.PB.nD → PrngReg), Pre_PB m →
    θ_run (Cert.PB.defs (F := Bits)) (onTc (τ := Cert.PB.τ) (Cert.PB.main (F := Bits))) ⟨m, fun _ => 0, g⟩ (fun r => (∀ c : Dev Cert.PB.nD,
      r.2.mem ((c.tc : Thread Cert.PB.nD Cert.PB.τ).loc Cert.PB.main_arg0) = m ((c.tc : Thread Cert.PB.nD Cert.PB.τ).loc Cert.PB.main_arg0)
      ∧ r.2.mem ((c.tc : Thread Cert.PB.nD Cert.PB.τ).loc Cert.PB.main_arg1) = m ((c.tc : Thread Cert.PB.nD Cert.PB.τ).loc Cert.PB.main_arg1))
      ∧ r.2.sem = fun _ => 0)

def quiescent_PBIdeal [hPBIdeal : Cert.PBIdeal.Facts] : Prop :=
  ∀ (m : (ℓ : Loc Cert.PBIdeal.nD Cert.PBIdeal.τ Cert.PBIdeal.sig) → Buf (Elt Ideal) ℓ) (g : Dev Cert.PBIdeal.nD → PrngReg), Pre_PBIdeal m →
    θ_run (Cert.PBIdeal.defs (F := Ideal)) (onTc (τ := Cert.PBIdeal.τ) (Cert.PBIdeal.main (F := Ideal))) ⟨m, fun _ => 0, g⟩ (fun r => (∀ c : Dev Cert.PBIdeal.nD,
      r.2.mem ((c.tc : Thread Cert.PBIdeal.nD Cert.PBIdeal.τ).loc Cert.PBIdeal.main_arg0) = m ((c.tc : Thread Cert.PBIdeal.nD Cert.PBIdeal.τ).loc Cert.PBIdeal.main_arg0)
      ∧ r.2.mem ((c.tc : Thread Cert.PBIdeal.nD Cert.PBIdeal.τ).loc Cert.PBIdeal.main_arg1) = m ((c.tc : Thread Cert.PBIdeal.nD Cert.PBIdeal.τ).loc Cert.PBIdeal.main_arg1))
      ∧ r.2.sem = fun _ => 0)

def quiescent_PBRefIdeal [hPBRefIdeal : Cert.PBRefIdeal.Facts] : Prop :=
  ∀ (m : (ℓ : Loc Cert.PBRefIdeal.nD Cert.PBRefIdeal.τ Cert.PBRefIdeal.sig) → Buf (Elt Ideal) ℓ) (g : Dev Cert.PBRefIdeal.nD → PrngReg), Pre_PBRefIdeal m →
    θ_run (Cert.PBRefIdeal.defs (F := Ideal)) (onTc (τ := Cert.PBRefIdeal.τ) (Cert.PBRefIdeal.main (F := Ideal))) ⟨m, fun _ => 0, g⟩ (fun r => (∀ c : Dev Cert.PBRefIdeal.nD,
      r.2.mem ((c.tc : Thread Cert.PBRefIdeal.nD Cert.PBRefIdeal.τ).loc Cert.PBRefIdeal.main_arg0) = m ((c.tc : Thread Cert.PBRefIdeal.nD Cert.PBRefIdeal.τ).loc Cert.PBRefIdeal.main_arg0)
      ∧ r.2.mem ((c.tc : Thread Cert.PBRefIdeal.nD Cert.PBRefIdeal.τ).loc Cert.PBRefIdeal.main_arg1) = m ((c.tc : Thread Cert.PBRefIdeal.nD Cert.PBRefIdeal.τ).loc Cert.PBRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2)
      ∧ r.2.mem ((c.tc : Thread Cert.WOut.nD Cert.WOut.τ).loc Cert.WOut.main_arg3) = m ((c.tc : Thread Cert.WOut.nD Cert.WOut.τ).loc Cert.WOut.main_arg3))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
      ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1)
      ∧ r.2.mem ((c.tc : Thread Cert.WOutRefIdeal.nD Cert.WOutRefIdeal.τ).loc Cert.WOutRefIdeal.main_arg2) = m ((c.tc : Thread Cert.WOutRefIdeal.nD Cert.WOutRefIdeal.τ).loc Cert.WOutRefIdeal.main_arg2)
      ∧ r.2.mem ((c.tc : Thread Cert.WOutRefIdeal.nD Cert.WOutRefIdeal.τ).loc Cert.WOutRefIdeal.main_arg3) = m ((c.tc : Thread Cert.WOutRefIdeal.nD Cert.WOutRefIdeal.τ).loc Cert.WOutRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_CA [hCA : Cert.CA.Facts] : Prop :=
  ∀ (m : (ℓ : Loc Cert.CA.nD Cert.CA.τ Cert.CA.sig) → Buf (Elt Bits) ℓ) (g : Dev Cert.CA.nD → PrngReg), Pre_CA m →
    θ_run (Cert.CA.defs (F := Bits)) (onTc (τ := Cert.CA.τ) (Cert.CA.main (F := Bits))) ⟨m, fun _ => 0, g⟩ (fun r => (∀ c : Dev Cert.CA.nD,
      r.2.mem ((c.tc : Thread Cert.CA.nD Cert.CA.τ).loc Cert.CA.main_arg0) = m ((c.tc : Thread Cert.CA.nD Cert.CA.τ).loc Cert.CA.main_arg0)
      ∧ r.2.mem ((c.tc : Thread Cert.CA.nD Cert.CA.τ).loc Cert.CA.main_arg1) = m ((c.tc : Thread Cert.CA.nD Cert.CA.τ).loc Cert.CA.main_arg1))
      ∧ r.2.sem = fun _ => 0)

def quiescent_CAIdeal [hCAIdeal : Cert.CAIdeal.Facts] : Prop :=
  ∀ (m : (ℓ : Loc Cert.CAIdeal.nD Cert.CAIdeal.τ Cert.CAIdeal.sig) → Buf (Elt Ideal) ℓ) (g : Dev Cert.CAIdeal.nD → PrngReg), Pre_CAIdeal m →
    θ_run (Cert.CAIdeal.defs (F := Ideal)) (onTc (τ := Cert.CAIdeal.τ) (Cert.CAIdeal.main (F := Ideal))) ⟨m, fun _ => 0, g⟩ (fun r => (∀ c : Dev Cert.CAIdeal.nD,
      r.2.mem ((c.tc : Thread Cert.CAIdeal.nD Cert.CAIdeal.τ).loc Cert.CAIdeal.main_arg0) = m ((c.tc : Thread Cert.CAIdeal.nD Cert.CAIdeal.τ).loc Cert.CAIdeal.main_arg0)
      ∧ r.2.mem ((c.tc : Thread Cert.CAIdeal.nD Cert.CAIdeal.τ).loc Cert.CAIdeal.main_arg1) = m ((c.tc : Thread Cert.CAIdeal.nD Cert.CAIdeal.τ).loc Cert.CAIdeal.main_arg1))
      ∧ r.2.sem = fun _ => 0)

def quiescent_CARefIdeal [hCARefIdeal : Cert.CARefIdeal.Facts] : Prop :=
  ∀ (m : (ℓ : Loc Cert.CARefIdeal.nD Cert.CARefIdeal.τ Cert.CARefIdeal.sig) → Buf (Elt Ideal) ℓ) (g : Dev Cert.CARefIdeal.nD → PrngReg), Pre_CARefIdeal m →
    θ_run (Cert.CARefIdeal.defs (F := Ideal)) (onTc (τ := Cert.CARefIdeal.τ) (Cert.CARefIdeal.main (F := Ideal))) ⟨m, fun _ => 0, g⟩ (fun r => (∀ c : Dev Cert.CARefIdeal.nD,
      r.2.mem ((c.tc : Thread Cert.CARefIdeal.nD Cert.CARefIdeal.τ).loc Cert.CARefIdeal.main_arg0) = m ((c.tc : Thread Cert.CARefIdeal.nD Cert.CARefIdeal.τ).loc Cert.CARefIdeal.main_arg0)
      ∧ r.2.mem ((c.tc : Thread Cert.CARefIdeal.nD Cert.CARefIdeal.τ).loc Cert.CARefIdeal.main_arg1) = m ((c.tc : Thread Cert.CARefIdeal.nD Cert.CARefIdeal.τ).loc Cert.CARefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Kernel_KernelIdeal : Prop :=
  IdealRules.named_const.Statement Cert.KernelIdeal.κ "qk_scale" .f32 0x3E0293EE#32 (((Real.sqrt 128)⁻¹ * (Real.log 2)⁻¹ : ℝ) : EReal)

def preserves_Reference_ReferenceIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_P1_P1Ideal : Prop :=
  True

def algebraic_P1Ideal_P1RefIdeal [hP1Ideal : Cert.P1Ideal.Facts] [hP1RefIdeal : Cert.P1RefIdeal.Facts] : Prop :=
  ∀ (m : (ℓ : Loc Cert.P1Ideal.nD Cert.P1Ideal.τ Cert.P1Ideal.sig) → Buf (Elt Ideal) ℓ) (g : Dev Cert.P1Ideal.nD → PrngReg)
    (m' : (ℓ : Loc Cert.P1RefIdeal.nD Cert.P1RefIdeal.τ Cert.P1RefIdeal.sig) → Buf (Elt Ideal) ℓ) (g' : Dev Cert.P1RefIdeal.nD → PrngReg), Pre_P1Ideal m →
    (∀ c : Dev Cert.P1Ideal.nD,
      m' ((c.tc : Thread Cert.P1RefIdeal.nD Cert.P1RefIdeal.τ).loc Cert.P1RefIdeal.main_arg0) = m ((c.tc : Thread Cert.P1Ideal.nD Cert.P1Ideal.τ).loc Cert.P1Ideal.main_arg0)
      ∧ m' ((c.tc : Thread Cert.P1RefIdeal.nD Cert.P1RefIdeal.τ).loc Cert.P1RefIdeal.main_arg1) = m ((c.tc : Thread Cert.P1Ideal.nD Cert.P1Ideal.τ).loc Cert.P1Ideal.main_arg1)) →
    ∃ (v0 : (c : Dev Cert.P1Ideal.nD) → Buf (Elt Ideal) ((c.tc : Thread Cert.P1Ideal.nD Cert.P1Ideal.τ).loc Cert.P1Ideal.main_v1)),
      θ_run (Cert.P1Ideal.defs (F := Ideal)) (onTc (τ := Cert.P1Ideal.τ) (Cert.P1Ideal.main (F := Ideal))) ⟨m, fun _ => 0, g⟩ (fun r => ∀ c : Dev Cert.P1Ideal.nD,
          r.2.mem ((c.tc : Thread Cert.P1Ideal.nD Cert.P1Ideal.τ).loc Cert.P1Ideal.main_v1) = v0 c
          ∧ r.2.mem ((c.tc : Thread Cert.P1Ideal.nD Cert.P1Ideal.τ).loc Cert.P1Ideal.main_arg0) = m ((c.tc : Thread Cert.P1Ideal.nD Cert.P1Ideal.τ).loc Cert.P1Ideal.main_arg0)
          ∧ r.2.mem ((c.tc : Thread Cert.P1Ideal.nD Cert.P1Ideal.τ).loc Cert.P1Ideal.main_arg1) = m ((c.tc : Thread Cert.P1Ideal.nD Cert.P1Ideal.τ).loc Cert.P1Ideal.main_arg1))
      ∧ θ_run (Cert.P1RefIdeal.defs (F := Ideal)) (onTc (τ := Cert.P1RefIdeal.τ) (Cert.P1RefIdeal.main (F := Ideal))) ⟨m', fun _ => 0, g'⟩ (fun r => ∀ c : Dev Cert.P1RefIdeal.nD,
          r.2.mem ((c.tc : Thread Cert.P1RefIdeal.nD Cert.P1RefIdeal.τ).loc Cert.P1RefIdeal.main_v4) = v0 c
          ∧ r.2.mem ((c.tc : Thread Cert.P1RefIdeal.nD Cert.P1RefIdeal.τ).loc Cert.P1RefIdeal.main_arg0) = m' ((c.tc : Thread Cert.P1RefIdeal.nD Cert.P1RefIdeal.τ).loc Cert.P1RefIdeal.main_arg0)
          ∧ r.2.mem ((c.tc : Thread Cert.P1RefIdeal.nD Cert.P1RefIdeal.τ).loc Cert.P1RefIdeal.main_arg1) = m' ((c.tc : Thread Cert.P1RefIdeal.nD Cert.P1RefIdeal.τ).loc Cert.P1RefIdeal.main_arg1))

def preserves_PB_PBIdeal : Prop :=
  True

def algebraic_PBIdeal_PBRefIdeal [hPBIdeal : Cert.PBIdeal.Facts] [hPBRefIdeal : Cert.PBRefIdeal.Facts] : Prop :=
  ∀ (m : (ℓ : Loc Cert.PBIdeal.nD Cert.PBIdeal.τ Cert.PBIdeal.sig) → Buf (Elt Ideal) ℓ) (g : Dev Cert.PBIdeal.nD → PrngReg)
    (m' : (ℓ : Loc Cert.PBRefIdeal.nD Cert.PBRefIdeal.τ Cert.PBRefIdeal.sig) → Buf (Elt Ideal) ℓ) (g' : Dev Cert.PBRefIdeal.nD → PrngReg), Pre_PBIdeal m →
    (∀ c : Dev Cert.PBIdeal.nD,
      m' ((c.tc : Thread Cert.PBRefIdeal.nD Cert.PBRefIdeal.τ).loc Cert.PBRefIdeal.main_arg0) = m ((c.tc : Thread Cert.PBIdeal.nD Cert.PBIdeal.τ).loc Cert.PBIdeal.main_arg0)
      ∧ m' ((c.tc : Thread Cert.PBRefIdeal.nD Cert.PBRefIdeal.τ).loc Cert.PBRefIdeal.main_arg1) = m ((c.tc : Thread Cert.PBIdeal.nD Cert.PBIdeal.τ).loc Cert.PBIdeal.main_arg1)) →
    ∃ (v0 : (c : Dev Cert.PBIdeal.nD) → Buf (Elt Ideal) ((c.tc : Thread Cert.PBIdeal.nD Cert.PBIdeal.τ).loc Cert.PBIdeal.main_v1)),
      θ_run (Cert.PBIdeal.defs (F := Ideal)) (onTc (τ := Cert.PBIdeal.τ) (Cert.PBIdeal.main (F := Ideal))) ⟨m, fun _ => 0, g⟩ (fun r => ∀ c : Dev Cert.PBIdeal.nD,
          r.2.mem ((c.tc : Thread Cert.PBIdeal.nD Cert.PBIdeal.τ).loc Cert.PBIdeal.main_v1) = v0 c
          ∧ r.2.mem ((c.tc : Thread Cert.PBIdeal.nD Cert.PBIdeal.τ).loc Cert.PBIdeal.main_arg0) = m ((c.tc : Thread Cert.PBIdeal.nD Cert.PBIdeal.τ).loc Cert.PBIdeal.main_arg0)
          ∧ r.2.mem ((c.tc : Thread Cert.PBIdeal.nD Cert.PBIdeal.τ).loc Cert.PBIdeal.main_arg1) = m ((c.tc : Thread Cert.PBIdeal.nD Cert.PBIdeal.τ).loc Cert.PBIdeal.main_arg1))
      ∧ θ_run (Cert.PBRefIdeal.defs (F := Ideal)) (onTc (τ := Cert.PBRefIdeal.τ) (Cert.PBRefIdeal.main (F := Ideal))) ⟨m', fun _ => 0, g'⟩ (fun r => ∀ c : Dev Cert.PBRefIdeal.nD,
          r.2.mem ((c.tc : Thread Cert.PBRefIdeal.nD Cert.PBRefIdeal.τ).loc Cert.PBRefIdeal.main_v4) = v0 c
          ∧ r.2.mem ((c.tc : Thread Cert.PBRefIdeal.nD Cert.PBRefIdeal.τ).loc Cert.PBRefIdeal.main_arg0) = m' ((c.tc : Thread Cert.PBRefIdeal.nD Cert.PBRefIdeal.τ).loc Cert.PBRefIdeal.main_arg0)
          ∧ r.2.mem ((c.tc : Thread Cert.PBRefIdeal.nD Cert.PBRefIdeal.τ).loc Cert.PBRefIdeal.main_arg1) = m' ((c.tc : Thread Cert.PBRefIdeal.nD Cert.PBRefIdeal.τ).loc Cert.PBRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)
      ∧ m' ((c.tc : Thread Cert.WOutRefIdeal.nD Cert.WOutRefIdeal.τ).loc Cert.WOutRefIdeal.main_arg2) = m ((c.tc : Thread Cert.WOutIdeal.nD Cert.WOutIdeal.τ).loc Cert.WOutIdeal.main_arg2)
      ∧ m' ((c.tc : Thread Cert.WOutRefIdeal.nD Cert.WOutRefIdeal.τ).loc Cert.WOutRefIdeal.main_arg3) = m ((c.tc : Thread Cert.WOutIdeal.nD Cert.WOutIdeal.τ).loc Cert.WOutIdeal.main_arg3)) →
    ∃ (v0 : (c : Dev Cert.WOutIdeal.nD) → Buf (Elt Ideal) ((c.tc : Thread Cert.WOutIdeal.nD Cert.WOutIdeal.τ).loc Cert.WOutIdeal.main_v1)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v1) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
          ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v20) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1)
          ∧ r.2.mem ((c.tc : Thread Cert.WOutRefIdeal.nD Cert.WOutRefIdeal.τ).loc Cert.WOutRefIdeal.main_arg2) = m' ((c.tc : Thread Cert.WOutRefIdeal.nD Cert.WOutRefIdeal.τ).loc Cert.WOutRefIdeal.main_arg2)
          ∧ r.2.mem ((c.tc : Thread Cert.WOutRefIdeal.nD Cert.WOutRefIdeal.τ).loc Cert.WOutRefIdeal.main_arg3) = m' ((c.tc : Thread Cert.WOutRefIdeal.nD Cert.WOutRefIdeal.τ).loc Cert.WOutRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v20) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v9)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v9) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v59) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v5) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v4) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v53) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_CA_CAIdeal : Prop :=
  True

def algebraic_CAIdeal_CARefIdeal [hCAIdeal : Cert.CAIdeal.Facts] [hCARefIdeal : Cert.CARefIdeal.Facts] : Prop :=
  ∀ (m : (ℓ : Loc Cert.CAIdeal.nD Cert.CAIdeal.τ Cert.CAIdeal.sig) → Buf (Elt Ideal) ℓ) (g : Dev Cert.CAIdeal.nD → PrngReg)
    (m' : (ℓ : Loc Cert.CARefIdeal.nD Cert.CARefIdeal.τ Cert.CARefIdeal.sig) → Buf (Elt Ideal) ℓ) (g' : Dev Cert.CARefIdeal.nD → PrngReg), Pre_CAIdeal m →
    (∀ c : Dev Cert.CAIdeal.nD,
      m' ((c.tc : Thread Cert.CARefIdeal.nD Cert.CARefIdeal.τ).loc Cert.CARefIdeal.main_arg0) = m ((c.tc : Thread Cert.CAIdeal.nD Cert.CAIdeal.τ).loc Cert.CAIdeal.main_arg0)
      ∧ m' ((c.tc : Thread Cert.CARefIdeal.nD Cert.CARefIdeal.τ).loc Cert.CARefIdeal.main_arg1) = m ((c.tc : Thread Cert.CAIdeal.nD Cert.CAIdeal.τ).loc Cert.CAIdeal.main_arg1)) →
    ∃ (v0 : (c : Dev Cert.CAIdeal.nD) → Buf (Elt Ideal) ((c.tc : Thread Cert.CAIdeal.nD Cert.CAIdeal.τ).loc Cert.CAIdeal.main_v6)),
      θ_run (Cert.CAIdeal.defs (F := Ideal)) (onTc (τ := Cert.CAIdeal.τ) (Cert.CAIdeal.main (F := Ideal))) ⟨m, fun _ => 0, g⟩ (fun r => ∀ c : Dev Cert.CAIdeal.nD,
          r.2.mem ((c.tc : Thread Cert.CAIdeal.nD Cert.CAIdeal.τ).loc Cert.CAIdeal.main_v6) = v0 c
          ∧ r.2.mem ((c.tc : Thread Cert.CAIdeal.nD Cert.CAIdeal.τ).loc Cert.CAIdeal.main_arg0) = m ((c.tc : Thread Cert.CAIdeal.nD Cert.CAIdeal.τ).loc Cert.CAIdeal.main_arg0)
          ∧ r.2.mem ((c.tc : Thread Cert.CAIdeal.nD Cert.CAIdeal.τ).loc Cert.CAIdeal.main_arg1) = m ((c.tc : Thread Cert.CAIdeal.nD Cert.CAIdeal.τ).loc Cert.CAIdeal.main_arg1))
      ∧ θ_run (Cert.CARefIdeal.defs (F := Ideal)) (onTc (τ := Cert.CARefIdeal.τ) (Cert.CARefIdeal.main (F := Ideal))) ⟨m', fun _ => 0, g'⟩ (fun r => ∀ c : Dev Cert.CARefIdeal.nD,
          r.2.mem ((c.tc : Thread Cert.CARefIdeal.nD Cert.CARefIdeal.τ).loc Cert.CARefIdeal.main_v5) = v0 c
          ∧ r.2.mem ((c.tc : Thread Cert.CARefIdeal.nD Cert.CARefIdeal.τ).loc Cert.CARefIdeal.main_arg0) = m' ((c.tc : Thread Cert.CARefIdeal.nD Cert.CARefIdeal.τ).loc Cert.CARefIdeal.main_arg0)
          ∧ r.2.mem ((c.tc : Thread Cert.CARefIdeal.nD Cert.CARefIdeal.τ).loc Cert.CARefIdeal.main_arg1) = m' ((c.tc : Thread Cert.CARefIdeal.nD Cert.CARefIdeal.τ).loc Cert.CARefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v8) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hKernel : Cert.Kernel.Facts) (hKernelIdeal : Cert.KernelIdeal.Facts) (hReferenceIdeal : Cert.ReferenceIdeal.Facts) (hReference : Cert.Reference.Facts) (hP1 : Cert.P1.Facts) (hP1Ideal : Cert.P1Ideal.Facts) (hP1RefIdeal : Cert.P1RefIdeal.Facts) (hPB : Cert.PB.Facts) (hPBIdeal : Cert.PBIdeal.Facts) (hPBRefIdeal : Cert.PBRefIdeal.Facts) (hWOut : Cert.WOut.Facts) (hWOutIdeal : Cert.WOutIdeal.Facts) (hWOutRefIdeal : Cert.WOutRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hGates : Cert.Gates.Facts) (hGatesIdeal : Cert.GatesIdeal.Facts) (hGatesRefIdeal : Cert.GatesRefIdeal.Facts) (hFinal : Cert.Final.Facts) (hFinalIdeal : Cert.FinalIdeal.Facts) (hFinalRefIdeal : Cert.FinalRefIdeal.Facts) (hNorm : Cert.Norm.Facts) (hNormIdeal : Cert.NormIdeal.Facts) (hNormRefIdeal : Cert.NormRefIdeal.Facts) (hCA : Cert.CA.Facts) (hCAIdeal : Cert.CAIdeal.Facts) (hCARefIdeal : Cert.CARefIdeal.Facts) (hMod : Cert.Mod.Facts) (hModIdeal : Cert.ModIdeal.Facts) (hModRefIdeal : Cert.ModRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Reference (hReference := hReference)
    ∧ quiescent_P1 (hP1 := hP1)
    ∧ quiescent_P1Ideal (hP1Ideal := hP1Ideal)
    ∧ quiescent_P1RefIdeal (hP1RefIdeal := hP1RefIdeal)
    ∧ quiescent_PB (hPB := hPB)
    ∧ quiescent_PBIdeal (hPBIdeal := hPBIdeal)
    ∧ quiescent_PBRefIdeal (hPBRefIdeal := hPBRefIdeal)
    ∧ quiescent_WOut (hWOut := hWOut)
    ∧ quiescent_WOutIdeal (hWOutIdeal := hWOutIdeal)
    ∧ quiescent_WOutRefIdeal (hWOutRefIdeal := hWOutRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Gates (hGates := hGates)
    ∧ quiescent_GatesIdeal (hGatesIdeal := hGatesIdeal)
    ∧ quiescent_GatesRefIdeal (hGatesRefIdeal := hGatesRefIdeal)
    ∧ quiescent_Final (hFinal := hFinal)
    ∧ quiescent_FinalIdeal (hFinalIdeal := hFinalIdeal)
    ∧ quiescent_FinalRefIdeal (hFinalRefIdeal := hFinalRefIdeal)
    ∧ quiescent_Norm (hNorm := hNorm)
    ∧ quiescent_NormIdeal (hNormIdeal := hNormIdeal)
    ∧ quiescent_NormRefIdeal (hNormRefIdeal := hNormRefIdeal)
    ∧ quiescent_CA (hCA := hCA)
    ∧ quiescent_CAIdeal (hCAIdeal := hCAIdeal)
    ∧ quiescent_CARefIdeal (hCARefIdeal := hCARefIdeal)
    ∧ quiescent_Mod (hMod := hMod)
    ∧ quiescent_ModIdeal (hModIdeal := hModIdeal)
    ∧ quiescent_ModRefIdeal (hModRefIdeal := hModRefIdeal)
    ∧ preserves_Kernel_KernelIdeal
    ∧ preserves_Reference_ReferenceIdeal
    ∧ algebraic_KernelIdeal_ReferenceIdeal_pre_finite_qk (hKernelIdeal := hKernelIdeal) (hReferenceIdeal := hReferenceIdeal) (hPre_finite_qk := hPre_finite_qk)
    ∧ preserves_P1_P1Ideal
    ∧ algebraic_P1Ideal_P1RefIdeal (hP1Ideal := hP1Ideal) (hP1RefIdeal := hP1RefIdeal)
    ∧ preserves_PB_PBIdeal
    ∧ algebraic_PBIdeal_PBRefIdeal (hPBIdeal := hPBIdeal) (hPBRefIdeal := hPBRefIdeal)
    ∧ preserves_WOut_WOutIdeal
    ∧ algebraic_WOutIdeal_WOutRefIdeal (hWOutIdeal := hWOutIdeal) (hWOutRefIdeal := hWOutRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Gates_GatesIdeal
    ∧ algebraic_GatesIdeal_GatesRefIdeal (hGatesIdeal := hGatesIdeal) (hGatesRefIdeal := hGatesRefIdeal)
    ∧ preserves_Final_FinalIdeal
    ∧ algebraic_FinalIdeal_FinalRefIdeal (hFinalIdeal := hFinalIdeal) (hFinalRefIdeal := hFinalRefIdeal)
    ∧ preserves_Norm_NormIdeal
    ∧ algebraic_NormIdeal_NormRefIdeal (hNormIdeal := hNormIdeal) (hNormRefIdeal := hNormRefIdeal)
    ∧ preserves_CA_CAIdeal
    ∧ algebraic_CAIdeal_CARefIdeal (hCAIdeal := hCAIdeal) (hCARefIdeal := hCARefIdeal)
    ∧ preserves_Mod_ModIdeal
    ∧ algebraic_ModIdeal_ModRefIdeal (hModIdeal := hModIdeal) (hModRefIdeal := hModRefIdeal)
-- ==== Pre_finite_qk.lean ====
abbrev S16640x512 : Shape := ⟨2, ![16640, 512]⟩
abbrev S16640x256 : Shape := ⟨2, ![16640, 256]⟩
abbrev S_ : Shape := ⟨0, ![]⟩

class Facts : Prop where
  bcast_S_S16640x512 : S_.BroadcastsInDim S16640x512 (![] : Fin 0 → Fin S16640x512.rank)
  reducesTo_S16640x512_S_d0_1 : S16640x512.ReducesTo [0, 1] S_
  h_S_ : 0 < S_.numel
  bcast_S_S16640x256 : S_.BroadcastsInDim S16640x256 (![] : Fin 0 → Fin S16640x256.rank)
  reducesTo_S16640x256_S_d0_1 : S16640x256.ReducesTo [0, 1] S_

variable [Facts]

def fn {F : FTy → Type} [FloatOps F] (main_arg0 : FVec F S16640x512 .f32) (main_arg1 : FVec F S16640x256 .f32) (main_arg2 : FVec F S16640x256 .f32) : IVec S_ 1 :=
  let main_v0 : FVec F S16640x512 .f32 := Host.absf main_arg0
  let main_cst : FVec F S_ .f32 := constant S_ .f32 0x7F800000#32
  let main_v1 : FVec F S16640x512 .f32 := broadcastInDim S16640x512 ![] bcast_S_S16640x512 main_cst
  let main_v2 : IVec S16640x512 1 := cmpf .olt main_v0 main_v1
  let main_c : IVec S_ 1 := constantI S_ 1 1#1
  let main_v3 : IVec S_ 1 := (fun x v => Host.reduce IntOp.andi x v reducesTo_S16640x512_S_d0_1 h_S_) main_v2 main_c
  let main_v4 : FVec F S16640x256 .f32 := Host.absf main_arg1
  let main_cst_0 : FVec F S_ .f32 := constant S_ .f32 0x7F800000#32
  let main_v5 : FVec F S16640x256 .f32 := broadcastInDim S16640x256 ![] bcast_S_S16640x256 main_cst_0
  let main_v6 : IVec S16640x256 1 := cmpf .olt main_v4 main_v5
  let main_c_1 : IVec S_ 1 := constantI S_ 1 1#1
  let main_v7 : IVec S_ 1 := (fun x v => Host.reduce IntOp.andi x v reducesTo_S16640x256_S_d0_1 h_S_) main_v6 main_c_1
  let main_v8 : IVec S_ 1 := andi main_v3 main_v7
  main_v8
-- ==== Kernel.lean ====
abbrev S16640x512 : Shape := ⟨2, ![16640, 512]⟩
abbrev S16640x256 : Shape := ⟨2, ![16640, 256]⟩
abbrev S16640x2x128 : Shape := ⟨3, ![16640, 2, 128]⟩
abbrev S_ : Shape := ⟨0, ![]⟩
abbrev S16640x2x256 : Shape := ⟨3, ![16640, 2, 256]⟩
abbrev S16384x512 : Shape := ⟨2, ![16384, 512]⟩
abbrev S1024x256 : Shape := ⟨2, ![1024, 256]⟩
abbrev S16640x128 : Shape := ⟨2, ![16640, 128]⟩
abbrev S2x1024x1 : Shape := ⟨3, ![2, 1024, 1]⟩
abbrev S2x1024x256 : Shape := ⟨3, ![2, 1024, 256]⟩
abbrev S2x1024x1280 : Shape := ⟨3, ![2, 1024, 1280]⟩
abbrev S1280x128 : Shape := ⟨2, ![1280, 128]⟩
abbrev S1024x128 : Shape := ⟨2, ![1024, 128]⟩
abbrev S1024x1280 : Shape := ⟨2, ![1024, 1280]⟩
abbrev S1x1024x1280 : Shape := ⟨3, ![1, 1024, 1280]⟩
abbrev S1280x256 : Shape := ⟨2, ![1280, 256]⟩
abbrev S1x1024x1 : Shape := ⟨3, ![1, 1024, 1]⟩
abbrev S1024x1 : Shape := ⟨2, ![1024, 1]⟩
abbrev S1024 : Shape := ⟨1, ![1024]⟩
abbrev S1x1024x256 : Shape := ⟨3, ![1, 1024, 256]⟩

abbrev nBuf : Space → Nat
  | .hbm => 11
  | .vmem => 10
  | .smem => 0
  | _ => 0

abbrev bufTy : (tb : Table) → Fin (tcTables nBuf tb) → BufTy
  | .hbm, ⟨0, _⟩ => ⟨S16640x512, .f32⟩
  | .hbm, ⟨1, _⟩ => ⟨S16640x256, .f32⟩
  | .hbm, ⟨2, _⟩ => ⟨S16640x256, .f32⟩
  | .hbm, ⟨3, _⟩ => ⟨S16640x256, .bf16⟩
  | .hbm, ⟨4, _⟩ => ⟨S16640x256, .bf16⟩
  | .hbm, ⟨5, _⟩ => ⟨S16640x2x128, .bf16⟩
  | .hbm, ⟨6, _⟩ => ⟨S_, .bf16⟩
  | .hbm, ⟨7, _⟩ => ⟨S16640x2x128, .bf16⟩
  | .hbm, ⟨8, _⟩ => ⟨S16640x2x256, .bf16⟩
  | .hbm, ⟨9, _⟩ => ⟨S16640x512, .bf16⟩
  | .hbm, ⟨10, _⟩ => ⟨S16384x512, .bf16⟩
  | .local _ .vmem, ⟨0, _⟩ => ⟨S1024x256, .f32⟩
  | .local _ .vmem, ⟨1, _⟩ => ⟨S1024x256, .f32⟩
  | .local _ .vmem, ⟨2, _⟩ => ⟨S16640x128, .bf16⟩
  | .local _ .vmem, ⟨3, _⟩ => ⟨S16640x256, .bf16⟩
  | .local _ .vmem, ⟨4, _⟩ => ⟨S1024x256, .bf16⟩
  | .local _ .vmem, ⟨5, _⟩ => ⟨S1024x256, .bf16⟩
  | .local _ .vmem, ⟨6, _⟩ => ⟨S2x1024x1, .f32⟩
  | .local _ .vmem, ⟨7, _⟩ => ⟨S2x1024x256, .f32⟩
  | .local _ .vmem, ⟨8, _⟩ => ⟨S2x1024x1280, .f32⟩
  | .local _ .vmem, ⟨9, _⟩ => ⟨S2x1024x1280, .f32⟩
  | _, _ => ⟨S16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  c0_i32
@[reducible] def k0_t1_loop : Scf.Loop 32 :=
  let c0_i32_19 : BitVec 32 := 0#32
  let c6_i32 : BitVec 32 := 6#32
  let v28 : BitVec 32 := Scalar.addi c0_i32_19 c6_i32
  let c1_i32 : BitVec 32 := 1#32
  ⟨c0_i32_19, v28, c1_i32⟩
def k0_mult2 (k0_t1 : Fin k0_t1_loop.trips) : BitVec 32 :=
  let c2_i32 : BitVec 32 := 2#32
  let c0_i32_19 : BitVec 32 := 0#32
  let c1_i32 : BitVec 32 := 1#32
  let arg10 : BitVec 32 := Scf.iv c0_i32_19 c1_i32 k0_t1
  let v97 : BitVec 32 := Scalar.muli c2_i32 arg10
  let c1_i32_66 : BitVec 32 := 1#32
  let v98 : BitVec 32 := Scalar.addi v97 c1_i32_66
  let c1280_i32 : BitVec 32 := 1280#32
  let v99 : BitVec 32 := Scalar.muli v98 c1280_i32
  v99
def k0_off1 (k0_t1 : Fin k0_t1_loop.trips) (c1_i32_66 : BitVec 32) : Fin 2 → Nat :=
  let c2_i32 : BitVec 32 := 2#32
  let c0_i32_19 : BitVec 32 := 0#32
  let c1_i32 : BitVec 32 := 1#32
  let arg10 : BitVec 32 := Scf.iv c0_i32_19 c1_i32 k0_t1
  let v97 : BitVec 32 := Scalar.muli c2_i32 arg10
  let v98 : BitVec 32 := Scalar.addi v97 c1_i32_66
  let c1280_i32 : BitVec 32 := 1280#32
  let v99 : BitVec 32 := Scalar.muli v98 c1280_i32
  let v100 : BitVec 32 := v99
  let v101 : Index := Scalar.indexCast v100
  let c0_67 : Index := 0#32
  ![v101.toNat, 0]
def k0_mult3 (k0_t1 : Fin k0_t1_loop.trips) : BitVec 32 :=
  let c2_i32 : BitVec 32 := 2#32
  let c0_i32_19 : BitVec 32 := 0#32
  let c1_i32 : BitVec 32 := 1#32
  let arg10 : BitVec 32 := Scf.iv c0_i32_19 c1_i32 k0_t1
  let v97 : BitVec 32 := Scalar.muli c2_i32 arg10
  let c1280_i32_82 : BitVec 32 := 1280#32
  let v120 : BitVec 32 := Scalar.muli v97 c1280_i32_82
  v120
def k0_off2 (k0_t1 : Fin k0_t1_loop.trips) : Fin 2 → Nat :=
  let c2_i32 : BitVec 32 := 2#32
  let c0_i32_19 : BitVec 32 := 0#32
  let c1_i32 : BitVec 32 := 1#32
  let arg10 : BitVec 32 := Scf.iv c0_i32_19 c1_i32 k0_t1
  let v97 : BitVec 32 := Scalar.muli c2_i32 arg10
  let c1280_i32_82 : BitVec 32 := 1280#32
  let v120 : BitVec 32 := Scalar.muli v97 c1280_i32_82
  let v121 : BitVec 32 := v120
  let v122 : Index := Scalar.indexCast v121
  let c0_83 : Index := 0#32
  ![v122.toNat, 0]
def k0_mult4 (k0_t1 : Fin k0_t1_loop.trips) : BitVec 32 :=
  let c2_i32 : BitVec 32 := 2#32
  let c0_i32_19 : BitVec 32 := 0#32
  let c1_i32 : BitVec 32 := 1#32
  let arg10 : BitVec 32 := Scf.iv c0_i32_19 c1_i32 k0_t1
  let v97 : BitVec 32 := Scalar.muli c2_i32 arg10
  let c2_i32_118 : BitVec 32 := 2#32
  let v175 : BitVec 32 := Scalar.addi v97 c2_i32_118
  let c1280_i32_119 : BitVec 32 := 1280#32
  let v176 : BitVec 32 := Scalar.muli v175 c1280_i32_119
  v176
def k0_mult5 (k0_t1 : Fin k0_t1_loop.trips) : BitVec 32 :=
  let c2_i32 : BitVec 32 := 2#32
  let c0_i32_19 : BitVec 32 := 0#32
  let c1_i32 : BitVec 32 := 1#32
  let arg10 : BitVec 32 := Scf.iv c0_i32_19 c1_i32 k0_t1
  let v97 : BitVec 32 := Scalar.muli c2_i32 arg10
  let c1_i32_135 : BitVec 32 := 1#32
  let v197 : BitVec 32 := Scalar.addi v97 c1_i32_135
  let c1280_i32_136 : BitVec 32 := 1280#32
  let v198 : BitVec 32 := Scalar.muli v197 c1280_i32_136
  v198
def k0_off3 (k0_t1 : Fin k0_t1_loop.trips) : Fin 2 → Nat :=
  let c2_i32 : BitVec 32 := 2#32
  let c0_i32_19 : BitVec 32 := 0#32
  let c1_i32 : BitVec 32 := 1#32
  let arg10 : BitVec 32 := Scf.iv c0_i32_19 c1_i32 k0_t1
  let v97 : BitVec 32 := Scalar.muli c2_i32 arg10
  let c1_i32_135 : BitVec 32 := 1#32
  let v197 : BitVec 32 := Scalar.addi v97 c1_i32_135
  let c1280_i32_136 : BitVec 32 := 1280#32
  let v198 : BitVec 32 := Scalar.muli v197 c1280_i32_136
  let v199 : BitVec 32 := v198
  let v200 : Index := Scalar.indexCast v199
  let c0_137 : Index := 0#32
  ![v200.toNat, 0]
def k0_mult6 : BitVec 32 :=
  let c15360_i32 : BitVec 32 := 15360#32
  c15360_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "qk_scale" => some (((Real.sqrt 128)⁻¹ * (Real.log 2)⁻¹ : ℝ) : EReal)
  | _ => none
-- ==== Reference.lean ====
abbrev S16640x512 : Shape := ⟨2, ![16640, 512]⟩
abbrev S16640x256 : Shape := ⟨2, ![16640, 256]⟩
abbrev S16384x512 : Shape := ⟨2, ![16384, 512]⟩
abbrev S16384x2x2x128 : Shape := ⟨4, ![16384, 2, 2, 128]⟩
abbrev S16640x2x128 : Shape := ⟨3, ![16640, 2, 128]⟩
abbrev S2x16640x16384x2 : Shape := ⟨4, ![2, 16640, 16384, 2]⟩
abbrev S2x2x16384x16640 : Shape := ⟨4, ![2, 2, 16384, 16640]⟩
abbrev S_ : Shape := ⟨0, ![]⟩
abbrev S2x2x16384 : Shape := ⟨3, ![2, 2, 16384]⟩
abbrev S2x2x16384x1 : Shape := ⟨4, ![2, 2, 16384, 1]⟩
abbrev S2x128x2x16384 : Shape := ⟨4, ![2, 128, 2, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16640x512, .f32⟩
  | .hbm, ⟨1, _⟩ => ⟨S16640x256, .f32⟩
  | .hbm, ⟨2, _⟩ => ⟨S16640x256, .f32⟩
  | .hbm, ⟨3, _⟩ => ⟨S16384x512, .f32⟩
  | .hbm, ⟨4, _⟩ => ⟨S16384x2x2x128, .f32⟩
  | .hbm, ⟨5, _⟩ => ⟨S16640x2x128, .f32⟩
  | .hbm, ⟨6, _⟩ => ⟨S16640x2x128, .f32⟩
  | .hbm, ⟨7, _⟩ => ⟨S2x16640x16384x2, .f32⟩
  | .hbm, ⟨8, _⟩ => ⟨S2x2x16384x16640, .f32⟩
  | .hbm, ⟨9, _⟩ => ⟨S_, .f32⟩
  | .hbm, ⟨10, _⟩ => ⟨S_, .f32⟩
  | .hbm, ⟨11, _⟩ => ⟨S2x2x16384x16640, .f32⟩
  | .hbm, ⟨12, _⟩ => ⟨S2x2x16384x16640, .f32⟩
  | .hbm, ⟨13, _⟩ => ⟨S_, .f32⟩
  | .hbm, ⟨14, _⟩ => ⟨S2x2x16384, .f32⟩
  | .hbm, ⟨15, _⟩ => ⟨S_, .f32⟩
  | .hbm, ⟨16, _⟩ => ⟨S2x2x16384, .f32⟩
  | .hbm, ⟨17, _⟩ => ⟨S2x2x16384, .f32⟩
  | .hbm, ⟨18, _⟩ => ⟨S2x2x16384x1, .f32⟩
  | .hbm, ⟨19, _⟩ => ⟨S2x2x16384x16640, .f32⟩
  | .hbm, ⟨20, _⟩ => ⟨S2x2x16384x16640, .f32⟩
  | .hbm, ⟨21, _⟩ => ⟨S2x2x16384x16640, .f32⟩
  | .hbm, ⟨22, _⟩ => ⟨S_, .f32⟩
  | .hbm, ⟨23, _⟩ => ⟨S2x2x16384, .f32⟩
  | .hbm, ⟨24, _⟩ => ⟨S2x2x16384x1, .f32⟩
  | .hbm, ⟨25, _⟩ => ⟨S2x2x16384x16640, .f32⟩
  | .hbm, ⟨26, _⟩ => ⟨S2x2x16384x16640, .f32⟩
  | .hbm, ⟨27, _⟩ => ⟨S2x128x2x16384, .f32⟩
  | .hbm, ⟨28, _⟩ => ⟨S16384x2x2x128, .f32⟩
  | .hbm, ⟨29, _⟩ => ⟨S16384x512, .f32⟩
  | .hbm, ⟨30, _⟩ => ⟨S16384x512, .bf16⟩
  | _, _ => ⟨S16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== P1.lean ====
abbrev S16640x2048 : Shape := ⟨2, ![16640, 2048]⟩
abbrev S2x2048x13856 : Shape := ⟨3, ![2, 2048, 13856]⟩
abbrev S2x13856x2048 : Shape := ⟨3, ![2, 13856, 2048]⟩
abbrev S16640x3584 : Shape := ⟨2, ![16640, 3584]⟩
abbrev S640x2048 : Shape := ⟨2, ![640, 2048]⟩
abbrev S1x256x2048 : Shape := ⟨3, ![1, 256, 2048]⟩
abbrev S640x1792 : Shape := ⟨2, ![640, 1792]⟩
abbrev S1792x2048 : Shape := ⟨2, ![1792, 2048]⟩
abbrev S256x2048 : Shape := ⟨2, ![256, 2048]⟩

abbrev nBuf : Space → Nat
  | .hbm => 4
  | .vmem => 12
  | .smem => 0
  | _ => 0

abbrev bufTy : (tb : Table) → Fin (tcTables nBuf tb) → BufTy
  | .hbm, ⟨0, _⟩ => ⟨S16640x2048, .bf16⟩
  | .hbm, ⟨1, _⟩ => ⟨S2x2048x13856, .f32⟩
  | .hbm, ⟨2, _⟩ => ⟨S2x13856x2048, .f32⟩
  | .hbm, ⟨3, _⟩ => ⟨S16640x3584, .f32⟩
  | .local _ .vmem, ⟨0, _⟩ => ⟨S640x2048, .bf16⟩
  | .local _ .vmem, ⟨1, _⟩ => ⟨S640x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S640x1792, .f32⟩
  | .local _ .vmem, ⟨10, _⟩ => ⟨S640x1792, .f32⟩
  | .local _ .vmem, ⟨11, _⟩ => ⟨S1792x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let c0_i32 : BitVec 32 := 0#32
  let v1 : BitVec 32 := Scalar.addi c0_i32 v0
  let c2_i32 : BitVec 32 := 2#32
  let v2 : BitVec 32 := Scalar.addi v1 c2_i32
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let c0_i32 : BitVec 32 := 0#32
  let v1 : BitVec 32 := Scalar.addi c0_i32 v0
  let c3_i32 : BitVec 32 := 3#32
  let v2 : BitVec 32 := Scalar.addi v1 c3_i32
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let c0_i32 : BitVec 32 := 0#32
  let v1 : BitVec 32 := Scalar.addi c0_i32 v0
  let c4_i32 : BitVec 32 := 4#32
  let v2 : BitVec 32 := Scalar.addi v1 c4_i32
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let c0_i32 : BitVec 32 := 0#32
  let v1 : BitVec 32 := Scalar.addi c0_i32 v0
  let c5_i32 : BitVec 32 := 5#32
  let v2 : BitVec 32 := Scalar.addi v1 c5_i32
  let c0_i32_0 : BitVec 32 := 0#32
  let c0_i32_1 : BitVec 32 := 0#32
  let c0_i32_2 : BitVec 32 := 0#32
  ![c0_i32_0.toNat, v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let c0_i32 : BitVec 32 := 0#32
  let v1 : BitVec 32 := Scalar.addi c0_i32 v0
  let c6_i32 : BitVec 32 := 6#32
  let v2 : BitVec 32 := Scalar.addi v1 c6_i32
  let c0_i32_0 : BitVec 32 := 0#32
  let c0_i32_1 : BitVec 32 := 0#32
  let c0_i32_2 : BitVec 32 := 0#32
  ![c0_i32_0.toNat, v2.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S640x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== P1RefIdeal.lean ====
abbrev S16640x2048 : Shape := ⟨2, ![16640, 2048]⟩
abbrev S2x2048x13856 : Shape := ⟨3, ![2, 2048, 13856]⟩
abbrev S1x2048x13856 : Shape := ⟨3, ![1, 2048, 13856]⟩
abbrev S2048x13856 : Shape := ⟨2, ![2048, 13856]⟩
abbrev S16640x13856 : Shape := ⟨2, ![16640, 13856]⟩
abbrev S16640x3584 : Shape := ⟨2, ![16640, 3584]⟩

abbrev nBuf : Space → Nat
  | .hbm => 7
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2x2048x13856, .f32⟩
  | .hbm, ⟨2, _⟩ => ⟨S16640x2048, .f32⟩
  | .hbm, ⟨3, _⟩ => ⟨S1x2048x13856, .f32⟩
  | .hbm, ⟨4, _⟩ => ⟨S2048x13856, .f32⟩
  | .hbm, ⟨5, _⟩ => ⟨S16640x13856, .f32⟩
  | .hbm, ⟨6, _⟩ => ⟨S16640x3584, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PB.lean ====
abbrev S16640x2048 : Shape := ⟨2, ![16640, 2048]⟩
abbrev S2x2048x13856 : Shape := ⟨3, ![2, 2048, 13856]⟩
abbrev S2x13856x2048 : Shape := ⟨3, ![2, 13856, 2048]⟩
abbrev S1280x2048 : Shape := ⟨2, ![1280, 2048]⟩
abbrev S1x256x2048 : Shape := ⟨3, ![1, 256, 2048]⟩
abbrev S1x128x2048 : Shape := ⟨3, ![1, 128, 2048]⟩
abbrev S1280x1024 : Shape := ⟨2, ![1280, 1024]⟩
abbrev S1024x2048 : Shape := ⟨2, ![1024, 2048]⟩
abbrev S256x2048 : Shape := ⟨2, ![256, 2048]⟩
abbrev S128x2048 : Shape := ⟨2, ![128, 2048]⟩
abbrev S1152x2048 : Shape := ⟨2, ![1152, 2048]⟩

abbrev nBuf : Space → Nat
  | .hbm => 4
  | .vmem => 10
  | .smem => 0
  | _ => 0

abbrev bufTy : (tb : Table) → Fin (tcTables nBuf tb) → BufTy
  | .hbm, ⟨0, _⟩ => ⟨S16640x2048, .bf16⟩
  | .hbm, ⟨1, _⟩ => ⟨S2x2048x13856, .f32⟩
  | .hbm, ⟨2, _⟩ => ⟨S2x13856x2048, .f32⟩
  | .hbm, ⟨3, _⟩ => ⟨S16640x2048, .f32⟩
  | .local _ .vmem, ⟨0, _⟩ => ⟨S1280x2048, .bf16⟩
  | .local _ .vmem, ⟨1, _⟩ => ⟨S1280x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x128x2048, .f32⟩
  | .local _ .vmem, ⟨7, _⟩ => ⟨S1280x1024, .f32⟩
  | .local _ .vmem, ⟨8, _⟩ => ⟨S1280x1024, .f32⟩
  | .local _ .vmem, ⟨9, _⟩ => ⟨S1024x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c14_i32 : BitVec 32 := 14#32
  let v1 : BitVec 32 := Scalar.addi c14_i32 v0
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c14_i32 : BitVec 32 := 14#32
  let v1 : BitVec 32 := Scalar.addi c14_i32 v0
  let c1_i32 : BitVec 32 := 1#32
  let v2 : BitVec 32 := Scalar.addi v1 c1_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c14_i32 : BitVec 32 := 14#32
  let v1 : BitVec 32 := Scalar.addi c14_i32 v0
  let c2_i32 : BitVec 32 := 2#32
  let v2 : BitVec 32 := Scalar.addi v1 c2_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c14_i32 : BitVec 32 := 14#32
  let v1 : BitVec 32 := Scalar.addi c14_i32 v0
  let c3_i32 : BitVec 32 := 3#32
  let v2 : BitVec 32 := Scalar.addi v1 c3_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c28_i32 : BitVec 32 := 28#32
  let v2 : BitVec 32 := Scalar.addi c28_i32 v1
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1280x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PBRefIdeal.lean ====
abbrev S16640x2048 : Shape := ⟨2, ![16640, 2048]⟩
abbrev S2x2048x13856 : Shape := ⟨3, ![2, 2048, 13856]⟩
abbrev S1x2048x13856 : Shape := ⟨3, ![1, 2048, 13856]⟩
abbrev S2048x13856 : Shape := ⟨2, ![2048, 13856]⟩
abbrev S16640x13856 : Shape := ⟨2, ![16640, 13856]⟩

abbrev nBuf : Space → Nat
  | .hbm => 7
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2x2048x13856, .f32⟩
  | .hbm, ⟨2, _⟩ => ⟨S16640x2048, .f32⟩
  | .hbm, ⟨3, _⟩ => ⟨S1x2048x13856, .f32⟩
  | .hbm, ⟨4, _⟩ => ⟨S2048x13856, .f32⟩
  | .hbm, ⟨5, _⟩ => ⟨S16640x13856, .f32⟩
  | .hbm, ⟨6, _⟩ => ⟨S16640x2048, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== WOut.lean ====
abbrev S16640x2048 : Shape := ⟨2, ![16640, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S1280x2048 : Shape := ⟨2, ![1280, 2048]⟩
abbrev S1x2048x1024 : Shape := ⟨3, ![1, 2048, 1024]⟩
abbrev S1280x1024 : Shape := ⟨2, ![1280, 1024]⟩
abbrev S2x1x1024 : Shape := ⟨3, ![2, 1, 1024]⟩
abbrev S2048x1024 : Shape := ⟨2, ![2048, 1024]⟩
abbrev S1280x1 : Shape := ⟨2, ![1280, 1]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16640x2048, .bf16⟩
  | .hbm, ⟨1, _⟩ => ⟨S2x2048x2048, .f32⟩
  | .hbm, ⟨2, _⟩ => ⟨S16640x2048, .f32⟩
  | .hbm, ⟨3, _⟩ => ⟨S2x2048, .f32⟩
  | .hbm, ⟨4, _⟩ => ⟨S2x1x2048, .f32⟩
  | .hbm, ⟨5, _⟩ => ⟨S16640x2048, .f32⟩
  | .local _ .vmem, ⟨0, _⟩ => ⟨S1280x2048, .bf16⟩
  | .local _ .vmem, ⟨1, _⟩ => ⟨S1280x2048, .bf16⟩
  | .local _ .vmem, ⟨2, _⟩ => ⟨S1x2048x1024, .f32⟩
  | .local _ .vmem, ⟨3, _⟩ => ⟨S1280x1024, .f32⟩
  | .local _ .vmem, ⟨4, _⟩ => ⟨S1280x1024, .f32⟩
  | .local _ .vmem, ⟨5, _⟩ => ⟨S2x1x1024, .f32⟩
  | .local _ .vmem, ⟨6, _⟩ => ⟨S2x1x1024, .f32⟩
  | .local _ .vmem, ⟨7, _⟩ => ⟨S1280x1024, .f32⟩
  | .local _ .vmem, ⟨8, _⟩ => ⟨S1280x1024, .f32⟩
  | .local _ .vmem, ⟨9, _⟩ => ⟨S2048x1024, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WOutIdeal.lean ====
abbrev S16640x2048 : Shape := ⟨2, ![16640, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S1280x2048 : Shape := ⟨2, ![1280, 2048]⟩
abbrev S1x2048x1024 : Shape := ⟨3, ![1, 2048, 1024]⟩
abbrev S1280x1024 : Shape := ⟨2, ![1280, 1024]⟩
abbrev S2x1x1024 : Shape := ⟨3, ![2, 1, 1024]⟩
abbrev S2048x1024 : Shape := ⟨2, ![2048, 1024]⟩
abbrev S1280x1 : Shape := ⟨2, ![1280, 1]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16640x2048, .bf16⟩
  | .hbm, ⟨1, _⟩ => ⟨S2x2048x2048, .f32⟩
  | .hbm, ⟨2, _⟩ => ⟨S16640x2048, .f32⟩
  | .hbm, ⟨3, _⟩ => ⟨S2x2048, .f32⟩
  | .hbm, ⟨4, _⟩ => ⟨S2x1x2048, .f32⟩
  | .hbm, ⟨5, _⟩ => ⟨S16640x2048, .f32⟩
  | .local _ .vmem, ⟨0, _⟩ => ⟨S1280x2048, .bf16⟩
  | .local _ .vmem, ⟨1, _⟩ => ⟨S1280x2048, .bf16⟩
  | .local _ .vmem, ⟨2, _⟩ => ⟨S1x2048x1024, .f32⟩
  | .local _ .vmem, ⟨3, _⟩ => ⟨S1280x1024, .f32⟩
  | .local _ .vmem, ⟨4, _⟩ => ⟨S1280x1024, .f32⟩
  | .local _ .vmem, ⟨5, _⟩ => ⟨S2x1x1024, .f32⟩
  | .local _ .vmem, ⟨6, _⟩ => ⟨S2x1x1024, .f32⟩
  | .local _ .vmem, ⟨7, _⟩ => ⟨S1280x1024, .f32⟩
  | .local _ .vmem, ⟨8, _⟩ => ⟨S1280x1024, .f32⟩
  | .local _ .vmem, ⟨9, _⟩ => ⟨S2048x1024, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WOutRefIdeal.lean ====
abbrev S16640x2048 : Shape := ⟨2, ![16640, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S16384x2048 : Shape := ⟨2, ![16384, 2048]⟩
abbrev S1x2048 : Shape := ⟨2, ![1, 2048]⟩
abbrev S2048 : Shape := ⟨1, ![2048]⟩
abbrev S256x2048 : Shape := ⟨2, ![256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2x2048x2048, .f32⟩
  | .hbm, ⟨2, _⟩ => ⟨S16640x2048, .f32⟩
  | .hbm, ⟨3, _⟩ => ⟨S2x2048, .f32⟩
  | .hbm, ⟨4, _⟩ => ⟨S16640x2048, .f32⟩
  | .hbm, ⟨5, _⟩ => ⟨S1x2048x2048, .f32⟩
  | .hbm, ⟨6, _⟩ => ⟨S2048x2048, .f32⟩
  | .hbm, ⟨7, _⟩ => ⟨S16640x2048, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S256x2048, .f32⟩
  | .hbm, ⟨17, _⟩ => ⟨S1x2048, .f32⟩
  | .hbm, ⟨18, _⟩ => ⟨S2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S16640x2048, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Down.lean ====
abbrev S16640x5632 : Shape := ⟨2, ![16640, 5632]⟩
abbrev S2x5632x2048 : Shape := ⟨3, ![2, 5632, 2048]⟩
abbrev S16640x2048 : Shape := ⟨2, ![16640, 2048]⟩
abbrev S2x2048 : Shape := ⟨2, ![2, 2048]⟩
abbrev S2x1x2048 : Shape := ⟨3, ![2, 1, 2048]⟩
abbrev S640x5632 : Shape := ⟨2, ![640, 5632]⟩
abbrev S1x5632x512 : Shape := ⟨3, ![1, 5632, 512]⟩
abbrev S640x512 : Shape := ⟨2, ![640, 512]⟩
abbrev S2x1x512 : Shape := ⟨3, ![2, 1, 512]⟩
abbrev S5632x512 : Shape := ⟨2, ![5632, 512]⟩
abbrev S640x1 : Shape := ⟨2, ![640, 1]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16640x5632, .bf16⟩
  | .hbm, ⟨1, _⟩ => ⟨S2x5632x2048, .f32⟩
  | .hbm, ⟨2, _⟩ => ⟨S16640x2048, .f32⟩
  | .hbm, ⟨3, _⟩ => ⟨S2x2048, .f32⟩
  | .hbm, ⟨4, _⟩ => ⟨S2x1x2048, .f32⟩
  | .hbm, ⟨5, _⟩ => ⟨S16640x2048, .f32⟩
  | .local _ .vmem, ⟨0, _⟩ => ⟨S640x5632, .bf16⟩
  | .local _ .vmem, ⟨1, _⟩ => ⟨S640x5632, .bf16⟩
  | .local _ .vmem, ⟨2, _⟩ => ⟨S1x5632x512, .f32⟩
  | .local _ .vmem, ⟨3, _⟩ => ⟨S640x512, .f32⟩
  | .local _ .vmem, ⟨4, _⟩ => ⟨S640x512, .f32⟩
  | .local _ .vmem, ⟨5, _⟩ => ⟨S2x1x512, .f32⟩
  | .local _ .vmem, ⟨6, _⟩ => ⟨S2x1x512, .f32⟩
  | .local _ .vmem, ⟨7, _⟩ => ⟨S640x512, .f32⟩
  | .local _ .vmem, ⟨8, _⟩ => ⟨S640x512, .f32⟩
  | .local _ .vmem, ⟨9, _⟩ => ⟨S5632x512, .bf16⟩
  | _, _ => ⟨S16640x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x5632x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S16640x5632 : Shape := ⟨2, ![16640, 5632]⟩
abbrev S2x5632x2048 : Shape := ⟨3, ![2, 5632, 2048]⟩
abbrev S16640x2048 : Shape := ⟨2, ![16640, 2048]⟩
abbrev S2x2048 : Shape := ⟨2, ![2, 2048]⟩
abbrev S1x5632x2048 : Shape := ⟨3, ![1, 5632, 2048]⟩
abbrev S5632x2048 : Shape := ⟨2, ![5632, 2048]⟩
abbrev S16384x2048 : Shape := ⟨2, ![16384, 2048]⟩
abbrev S1x2048 : Shape := ⟨2, ![1, 2048]⟩
abbrev S2048 : Shape := ⟨1, ![2048]⟩
abbrev S256x2048 : Shape := ⟨2, ![256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16640x5632, .bf16⟩
  | .hbm, ⟨1, _⟩ => ⟨S2x5632x2048, .f32⟩
  | .hbm, ⟨2, _⟩ => ⟨S16640x2048, .f32⟩
  | .hbm, ⟨3, _⟩ => ⟨S2x2048, .f32⟩
  | .hbm, ⟨4, _⟩ => ⟨S16640x5632, .f32⟩
  | .hbm, ⟨5, _⟩ => ⟨S1x5632x2048, .f32⟩
  | .hbm, ⟨6, _⟩ => ⟨S5632x2048, .f32⟩
  | .hbm, ⟨7, _⟩ => ⟨S16640x2048, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S256x2048, .f32⟩
  | .hbm, ⟨17, _⟩ => ⟨S1x2048, .f32⟩
  | .hbm, ⟨18, _⟩ => ⟨S2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S16640x2048, .f32⟩
  | _, _ => ⟨S16640x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Up.lean ====
abbrev S16640x2048 : Shape := ⟨2, ![16640, 2048]⟩
abbrev S2x2048x11264 : Shape := ⟨3, ![2, 2048, 11264]⟩
abbrev S3x11264 : Shape := ⟨2, ![3, 11264]⟩
abbrev S11264 : Shape := ⟨1, ![11264]⟩
abbrev S13x1280x2048 : Shape := ⟨3, ![13, 1280, 2048]⟩
abbrev S12x16x2048 : Shape := ⟨3, ![12, 16, 2048]⟩
abbrev S_ : Shape := ⟨0, ![]⟩
abbrev S13x16x2048 : Shape := ⟨3, ![13, 16, 2048]⟩
abbrev S13x1312x2048 : Shape := ⟨3, ![13, 1312, 2048]⟩
abbrev S17056x2048 : Shape := ⟨2, ![17056, 2048]⟩
abbrev S1x11264 : Shape := ⟨2, ![1, 11264]⟩
abbrev S16640x5632 : Shape := ⟨2, ![16640, 5632]⟩
abbrev S1312x2048 : Shape := ⟨2, ![1312, 2048]⟩
abbrev S1x2048x512 : Shape := ⟨3, ![1, 2048, 512]⟩
abbrev S3x512 : Shape := ⟨2, ![3, 512]⟩
abbrev S1x512 : Shape := ⟨2, ![1, 512]⟩
abbrev S1280x512 : Shape := ⟨2, ![1280, 512]⟩
abbrev S2048x512 : Shape := ⟨2, ![2048, 512]⟩
abbrev S672x2048 : Shape := ⟨2, ![672, 2048]⟩
abbrev S672x512 : Shape := ⟨2, ![672, 512]⟩
abbrev S640x512 : Shape := ⟨2, ![640, 512]⟩
abbrev S16x1 : Shape := ⟨2, ![16, 1]⟩
abbrev S48x2048 : Shape := ⟨2, ![48, 2048]⟩
abbrev S48x512 : Shape := ⟨2, ![48, 512]⟩
abbrev S16x512 : Shape := ⟨2, ![16, 512]⟩

abbrev nBuf : Space → Nat
  | .hbm => 18
  | .vmem => 16
  | .smem => 0
  | _ => 0

abbrev bufTy : (tb : Table) → Fin (tcTables nBuf tb) → BufTy
  | .hbm, ⟨0, _⟩ => ⟨S16640x2048, .bf16⟩
  | .hbm, ⟨1, _⟩ => ⟨S2x2048x11264, .f32⟩
  | .hbm, ⟨2, _⟩ => ⟨S3x11264, .f32⟩
  | .hbm, ⟨3, _⟩ => ⟨S11264, .f32⟩
  | .hbm, ⟨4, _⟩ => ⟨S13x1280x2048, .bf16⟩
  | .hbm, ⟨5, _⟩ => ⟨S12x16x2048, .bf16⟩
  | .hbm, ⟨6, _⟩ => ⟨S_, .i32⟩
  | .hbm, ⟨7, _⟩ => ⟨S_, .bf16⟩
  | .hbm, ⟨8, _⟩ => ⟨S13x16x2048, .bf16⟩
  | .hbm, ⟨9, _⟩ => ⟨S12x16x2048, .bf16⟩
  | .hbm, ⟨10, _⟩ => ⟨S_, .i32⟩
  | .hbm, ⟨11, _⟩ => ⟨S_, .bf16⟩
  | .hbm, ⟨12, _⟩ => ⟨S13x16x2048, .bf16⟩
  | .hbm, ⟨13, _⟩ => ⟨S13x1312x2048, .bf16⟩
  | .hbm, ⟨14, _⟩ => ⟨S17056x2048, .bf16⟩
  | .hbm, ⟨15, _⟩ => ⟨S1x11264, .f32⟩
  | .hbm, ⟨16, _⟩ => ⟨S1x11264, .f32⟩
  | .hbm, ⟨17, _⟩ => ⟨S16640x5632, .bf16⟩
  | .local _ .vmem, ⟨0, _⟩ => ⟨S1312x2048, .bf16⟩
  | .local _ .vmem, ⟨1, _⟩ => ⟨S1312x2048, .bf16⟩
  | .local _ .vmem, ⟨2, _⟩ => ⟨S1x2048x512, .f32⟩
  | .local _ .vmem, ⟨3, _⟩ => ⟨S1x2048x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1280x512, .bf16⟩
  | .local _ .vmem, ⟨13, _⟩ => ⟨S1280x512, .bf16⟩
  | .local _ .vmem, ⟨14, _⟩ => ⟨S2048x512, .bf16⟩
  | .local _ .vmem, ⟨15, _⟩ => ⟨S2048x512, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1312x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1280x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S16640x2048 : Shape := ⟨2, ![16640, 2048]⟩
abbrev S2x2048x11264 : Shape := ⟨3, ![2, 2048, 11264]⟩
abbrev S3x11264 : Shape := ⟨2, ![3, 11264]⟩
abbrev S11264 : Shape := ⟨1, ![11264]⟩
abbrev S1x2048x11264 : Shape := ⟨3, ![1, 2048, 11264]⟩
abbrev S2048x11264 : Shape := ⟨2, ![2048, 11264]⟩
abbrev S16640x11264 : Shape := ⟨2, ![16640, 11264]⟩
abbrev S16384x11264 : Shape := ⟨2, ![16384, 11264]⟩
abbrev S_ : Shape := ⟨0, ![]⟩
abbrev S16386x11264 : Shape := ⟨2, ![16386, 11264]⟩
abbrev S1x11264 : Shape := ⟨2, ![1, 11264]⟩
abbrev S256x11264 : Shape := ⟨2, ![256, 11264]⟩
abbrev S258x11264 : Shape := ⟨2, ![258, 11264]⟩
abbrev S16640x5632 : Shape := ⟨2, ![16640, 5632]⟩

abbrev nBuf : Space → Nat
  | .hbm => 76
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2x2048x11264, .f32⟩
  | .hbm, ⟨2, _⟩ => ⟨S3x11264, .f32⟩
  | .hbm, ⟨3, _⟩ => ⟨S11264, .f32⟩
  | .hbm, ⟨4, _⟩ => ⟨S16640x2048, .f32⟩
  | .hbm, ⟨5, _⟩ => ⟨S1x2048x11264, .f32⟩
  | .hbm, ⟨6, _⟩ => ⟨S2048x11264, .f32⟩
  | .hbm, ⟨7, _⟩ => ⟨S16640x11264, .f32⟩
  | .hbm, ⟨8, _⟩ => ⟨S16384x11264, .f32⟩
  | .hbm, ⟨9, _⟩ => ⟨S_, .i32⟩
  | .hbm, ⟨10, _⟩ => ⟨S_, .f32⟩
  | .hbm, ⟨11, _⟩ => ⟨S16386x11264, .f32⟩
  | .hbm, ⟨12, _⟩ => ⟨S16384x11264, .f32⟩
  | .hbm, ⟨13, _⟩ => ⟨S1x11264, .f32⟩
  | .hbm, ⟨14, _⟩ => ⟨S11264, .f32⟩
  | .hbm, ⟨15, _⟩ => ⟨S1x11264, .f32⟩
  | .hbm, ⟨16, _⟩ => ⟨S16384x11264, .f32⟩
  | .hbm, ⟨17, _⟩ => ⟨S16384x11264, .f32⟩
  | .hbm, ⟨18, _⟩ => ⟨S16384x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S16384x11264, .f32⟩
  | .hbm, ⟨23, _⟩ => ⟨S16384x11264, .f32⟩
  | .hbm, ⟨24, _⟩ => ⟨S16384x11264, .f32⟩
  | .hbm, ⟨25, _⟩ => ⟨S16384x11264, .f32⟩
  | .hbm, ⟨26, _⟩ => ⟨S1x11264, .f32⟩
  | .hbm, ⟨27, _⟩ => ⟨S11264, .f32⟩
  | .hbm, ⟨28, _⟩ => ⟨S1x11264, .f32⟩
  | .hbm, ⟨29, _⟩ => ⟨S16384x11264, .f32⟩
  | .hbm, ⟨30, _⟩ => ⟨S16384x11264, .f32⟩
  | .hbm, ⟨31, _⟩ => ⟨S16384x11264, .f32⟩
  | .hbm, ⟨32, _⟩ => ⟨S1x11264, .f32⟩
  | .hbm, ⟨33, _⟩ => ⟨S16384x11264, .f32⟩
  | .hbm, ⟨34, _⟩ => ⟨S16384x11264, .f32⟩
  | .hbm, ⟨35, _⟩ => ⟨S256x11264, .f32⟩
  | .hbm, ⟨36, _⟩ => ⟨S_, .i32⟩
  | .hbm, ⟨37, _⟩ => ⟨S_, .f32⟩
  | .hbm, ⟨38, _⟩ => ⟨S258x11264, .f32⟩
  | .hbm, ⟨39, _⟩ => ⟨S256x11264, .f32⟩
  | .hbm, ⟨40, _⟩ => ⟨S1x11264, .f32⟩
  | .hbm, ⟨41, _⟩ => ⟨S11264, .f32⟩
  | .hbm, ⟨42, _⟩ => ⟨S1x11264, .f32⟩
  | .hbm, ⟨43, _⟩ => ⟨S256x11264, .f32⟩
  | .hbm, ⟨44, _⟩ => ⟨S256x11264, .f32⟩
  | .hbm, ⟨45, _⟩ => ⟨S256x11264, .f32⟩
  | .hbm, ⟨46, _⟩ => ⟨S1x11264, .f32⟩
  | .hbm, ⟨47, _⟩ => ⟨S11264, .f32⟩
  | .hbm, ⟨48, _⟩ => ⟨S1x11264, .f32⟩
  | .hbm, ⟨49, _⟩ => ⟨S256x11264, .f32⟩
  | .hbm, ⟨50, _⟩ => ⟨S256x11264, .f32⟩
  | .hbm, ⟨51, _⟩ => ⟨S256x11264, .f32⟩
  | .hbm, ⟨52, _⟩ => ⟨S256x11264, .f32⟩
  | .hbm, ⟨53, _⟩ => ⟨S1x11264, .f32⟩
  | .hbm, ⟨54, _⟩ => ⟨S11264, .f32⟩
  | .hbm, ⟨55, _⟩ => ⟨S1x11264, .f32⟩
  | .hbm, ⟨56, _⟩ => ⟨S256x11264, .f32⟩
  | .hbm, ⟨57, _⟩ => ⟨S256x11264, .f32⟩
  | .hbm, ⟨58, _⟩ => ⟨S256x11264, .f32⟩
  | .hbm, ⟨59, _⟩ => ⟨S1x11264, .f32⟩
  | .hbm, ⟨60, _⟩ => ⟨S256x11264, .f32⟩
  | .hbm, ⟨61, _⟩ => ⟨S256x11264, .f32⟩
  | .hbm, ⟨62, _⟩ => ⟨S16640x11264, .f32⟩
  | .hbm, ⟨63, _⟩ => ⟨S16640x5632, .f32⟩
  | .hbm, ⟨64, _⟩ => ⟨S16640x5632, .f32⟩
  | .hbm, ⟨65, _⟩ => ⟨S16640x5632, .f32⟩
  | .hbm, ⟨66, _⟩ => ⟨S16640x5632, .f32⟩
  | .hbm, ⟨67, _⟩ => ⟨S_, .f32⟩
  | .hbm, ⟨68, _⟩ => ⟨S16640x5632, .f32⟩
  | .hbm, ⟨69, _⟩ => ⟨S16640x5632, .f32⟩
  | .hbm, ⟨70, _⟩ => ⟨S_, .f32⟩
  | .hbm, ⟨71, _⟩ => ⟨S16640x5632, .f32⟩
  | .hbm, ⟨72, _⟩ => ⟨S16640x5632, .f32⟩
  | .hbm, ⟨73, _⟩ => ⟨S16640x5632, .f32⟩
  | .hbm, ⟨74, _⟩ => ⟨S16640x5632, .f32⟩
  | .hbm, ⟨75, _⟩ => ⟨S16640x5632, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_0 : Ref sig .tc := ⟨.hbm, 36, rfl⟩
abbrev main_call1_v0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Gates.lean ====
abbrev S16640x2048 : Shape := ⟨2, ![16640, 2048]⟩
abbrev S2x2048x13856 : Shape := ⟨3, ![2, 2048, 13856]⟩
abbrev S2x13856x2048 : Shape := ⟨3, ![2, 13856, 2048]⟩
abbrev S16640x8192 : Shape := ⟨2, ![16640, 8192]⟩
abbrev S1280x2048 : Shape := ⟨2, ![1280, 2048]⟩
abbrev S1x256x2048 : Shape := ⟨3, ![1, 256, 2048]⟩
abbrev S1x128x2048 : Shape := ⟨3, ![1, 128, 2048]⟩
abbrev S1280x1024 : Shape := ⟨2, ![1280, 1024]⟩
abbrev S1024x2048 : Shape := ⟨2, ![1024, 2048]⟩
abbrev S256x2048 : Shape := ⟨2, ![256, 2048]⟩
abbrev S128x2048 : Shape := ⟨2, ![128, 2048]⟩
abbrev S1152x2048 : Shape := ⟨2, ![1152, 2048]⟩

abbrev nBuf : Space → Nat
  | .hbm => 4
  | .vmem => 10
  | .smem => 0
  | _ => 0

abbrev bufTy : (tb : Table) → Fin (tcTables nBuf tb) → BufTy
  | .hbm, ⟨0, _⟩ => ⟨S16640x2048, .bf16⟩
  | .hbm, ⟨1, _⟩ => ⟨S2x2048x13856, .f32⟩
  | .hbm, ⟨2, _⟩ => ⟨S2x13856x2048, .f32⟩
  | .hbm, ⟨3, _⟩ => ⟨S16640x8192, .bf16⟩
  | .local _ .vmem, ⟨0, _⟩ => ⟨S1280x2048, .bf16⟩
  | .local _ .vmem, ⟨1, _⟩ => ⟨S1280x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x128x2048, .f32⟩
  | .local _ .vmem, ⟨7, _⟩ => ⟨S1280x1024, .bf16⟩
  | .local _ .vmem, ⟨8, _⟩ => ⟨S1280x1024, .bf16⟩
  | .local _ .vmem, ⟨9, _⟩ => ⟨S1024x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c22_i32 : BitVec 32 := 22#32
  let v1 : BitVec 32 := Scalar.addi c22_i32 v0
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c22_i32 : BitVec 32 := 22#32
  let v1 : BitVec 32 := Scalar.addi c22_i32 v0
  let c1_i32 : BitVec 32 := 1#32
  let v2 : BitVec 32 := Scalar.addi v1 c1_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c22_i32 : BitVec 32 := 22#32
  let v1 : BitVec 32 := Scalar.addi c22_i32 v0
  let c2_i32 : BitVec 32 := 2#32
  let v2 : BitVec 32 := Scalar.addi v1 c2_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c22_i32 : BitVec 32 := 22#32
  let v1 : BitVec 32 := Scalar.addi c22_i32 v0
  let c3_i32 : BitVec 32 := 3#32
  let v2 : BitVec 32 := Scalar.addi v1 c3_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c44_i32 : BitVec 32 := 44#32
  let v2 : BitVec 32 := Scalar.addi c44_i32 v1
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1280x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GatesRefIdeal.lean ====
abbrev S16640x2048 : Shape := ⟨2, ![16640, 2048]⟩
abbrev S2x2048x13856 : Shape := ⟨3, ![2, 2048, 13856]⟩
abbrev S1x2048x13856 : Shape := ⟨3, ![1, 2048, 13856]⟩
abbrev S2048x13856 : Shape := ⟨2, ![2048, 13856]⟩
abbrev S16640x13856 : Shape := ⟨2, ![16640, 13856]⟩
abbrev S16640x8192 : Shape := ⟨2, ![16640, 8192]⟩

abbrev nBuf : Space → Nat
  | .hbm => 8
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2x2048x13856, .f32⟩
  | .hbm, ⟨2, _⟩ => ⟨S16640x2048, .f32⟩
  | .hbm, ⟨3, _⟩ => ⟨S1x2048x13856, .f32⟩
  | .hbm, ⟨4, _⟩ => ⟨S2048x13856, .f32⟩
  | .hbm, ⟨5, _⟩ => ⟨S16640x13856, .f32⟩
  | .hbm, ⟨6, _⟩ => ⟨S16640x8192, .f32⟩
  | .hbm, ⟨7, _⟩ => ⟨S16640x8192, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Final.lean ====
abbrev S16640x2048 : Shape := ⟨2, ![16640, 2048]⟩
abbrev S2048 : Shape := ⟨1, ![2048]⟩
abbrev S_ : Shape := ⟨0, ![]⟩
abbrev S2x2048 : Shape := ⟨2, ![2, 2048]⟩
abbrev S1x2048 : Shape := ⟨2, ![1, 2048]⟩
abbrev S2x1x2048 : Shape := ⟨3, ![2, 1, 2048]⟩
abbrev S16384x2048 : Shape := ⟨2, ![16384, 2048]⟩
abbrev S1024x2048 : Shape := ⟨2, ![1024, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S_, .f32⟩
  | .hbm, ⟨3, _⟩ => ⟨S2x2048, .f32⟩
  | .hbm, ⟨4, _⟩ => ⟨S1x2048, .f32⟩
  | .hbm, ⟨5, _⟩ => ⟨S2x1x2048, .f32⟩
  | .hbm, ⟨6, _⟩ => ⟨S2x1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2x1x2048, .f32⟩
  | .local _ .vmem, ⟨4, _⟩ => ⟨S2x1x2048, .f32⟩
  | .local _ .vmem, ⟨5, _⟩ => ⟨S1024x2048, .f32⟩
  | .local _ .vmem, ⟨6, _⟩ => ⟨S1024x2048, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S16640x2048 : Shape := ⟨2, ![16640, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Norm.lean ====
abbrev S16640x2048 : Shape := ⟨2, ![16640, 2048]⟩
abbrev S2048 : Shape := ⟨1, ![2048]⟩
abbrev S2x2048 : Shape := ⟨2, ![2, 2048]⟩
abbrev S1x2048 : Shape := ⟨2, ![1, 2048]⟩
abbrev S2x1x2048 : Shape := ⟨3, ![2, 1, 2048]⟩
abbrev S1280x2048 : Shape := ⟨2, ![1280, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2x1x2048, .f32⟩
  | .hbm, ⟨6, _⟩ => ⟨S2x1x2048, .f32⟩
  | .hbm, ⟨7, _⟩ => ⟨S16640x2048, .bf16⟩
  | .local _ .vmem, ⟨0, _⟩ => ⟨S1280x2048, .f32⟩
  | .local _ .vmem, ⟨1, _⟩ => ⟨S1280x2048, .f32⟩
  | .local _ .vmem, ⟨2, _⟩ => ⟨S1x2048, .f32⟩
  | .local _ .vmem, ⟨3, _⟩ => ⟨S2x1x2048, .f32⟩
  | .local _ .vmem, ⟨4, _⟩ => ⟨S2x1x2048, .f32⟩
  | .local _ .vmem, ⟨5, _⟩ => ⟨S1280x2048, .bf16⟩
  | .local _ .vmem, ⟨6, _⟩ => ⟨S1280x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16640x2048 : Shape := ⟨2, ![16640, 2048]⟩
abbrev S2048 : Shape := ⟨1, ![2048]⟩
abbrev S2x2048 : Shape := ⟨2, ![2, 2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S256x2048 : Shape := ⟨2, ![256, 2048]⟩
abbrev S256 : Shape := ⟨1, ![256]⟩
abbrev S256x1 : Shape := ⟨2, ![256, 1]⟩

abbrev nBuf : Space → Nat
  | .hbm => 66
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S16384x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S256x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S2048, .f32⟩
  | .hbm, ⟨39, _⟩ => ⟨S256x2048, .f32⟩
  | .hbm, ⟨40, _⟩ => ⟨S_, .f32⟩
  | .hbm, ⟨41, _⟩ => ⟨S256, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x1, .f32⟩
  | .hbm, ⟨50, _⟩ => ⟨S256x2048, .f32⟩
  | .hbm, ⟨51, _⟩ => ⟨S256x2048, .f32⟩
  | .hbm, ⟨52, _⟩ => ⟨S1x2048, .f32⟩
  | .hbm, ⟨53, _⟩ => ⟨S256x2048, .f32⟩
  | .hbm, ⟨54, _⟩ => ⟨S256x2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S1x2048, .f32⟩
  | .hbm, ⟨59, _⟩ => ⟨S256x2048, .f32⟩
  | .hbm, ⟨60, _⟩ => ⟨S256x2048, .f32⟩
  | .hbm, ⟨61, _⟩ => ⟨S1x2048, .f32⟩
  | .hbm, ⟨62, _⟩ => ⟨S256x2048, .f32⟩
  | .hbm, ⟨63, _⟩ => ⟨S256x2048, .f32⟩
  | .hbm, ⟨64, _⟩ => ⟨S16640x2048, .f32⟩
  | .hbm, ⟨65, _⟩ => ⟨S16640x2048, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== CA.lean ====
abbrev S16640x2048 : Shape := ⟨2, ![16640, 2048]⟩
abbrev S2x2048x13856 : Shape := ⟨3, ![2, 2048, 13856]⟩
abbrev S2x13856x2048 : Shape := ⟨3, ![2, 13856, 2048]⟩
abbrev S1x32x2048 : Shape := ⟨3, ![1, 32, 2048]⟩
abbrev S32x2048 : Shape := ⟨2, ![32, 2048]⟩
abbrev S2048x32 : Shape := ⟨2, ![2048, 32]⟩
abbrev S_ : Shape := ⟨0, ![]⟩
abbrev S2048x128 : Shape := ⟨2, ![2048, 128]⟩
abbrev S1x2048x128 : Shape := ⟨3, ![1, 2048, 128]⟩
abbrev S16640x128 : Shape := ⟨2, ![16640, 128]⟩
abbrev S1280x2048 : Shape := ⟨2, ![1280, 2048]⟩
abbrev S1280x128 : Shape := ⟨2, ![1280, 128]⟩

abbrev nBuf : Space → Nat
  | .hbm => 11
  | .vmem => 6
  | .smem => 0
  | _ => 0

abbrev bufTy : (tb : Table) → Fin (tcTables nBuf tb) → BufTy
  | .hbm, ⟨0, _⟩ => ⟨S16640x2048, .bf16⟩
  | .hbm, ⟨1, _⟩ => ⟨S2x2048x13856, .f32⟩
  | .hbm, ⟨2, _⟩ => ⟨S2x13856x2048, .f32⟩
  | .hbm, ⟨3, _⟩ => ⟨S1x32x2048, .f32⟩
  | .hbm, ⟨4, _⟩ => ⟨S32x2048, .f32⟩
  | .hbm, ⟨5, _⟩ => ⟨S2048x32, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S1x2048x128, .f32⟩
  | .hbm, ⟨10, _⟩ => ⟨S16640x128, .f32⟩
  | .local _ .vmem, ⟨0, _⟩ => ⟨S1280x2048, .bf16⟩
  | .local _ .vmem, ⟨1, _⟩ => ⟨S1280x2048, .bf16⟩
  | .local _ .vmem, ⟨2, _⟩ => ⟨S1x2048x128, .f32⟩
  | .local _ .vmem, ⟨3, _⟩ => ⟨S1280x128, .f32⟩
  | .local _ .vmem, ⟨4, _⟩ => ⟨S1280x128, .f32⟩
  | .local _ .vmem, ⟨5, _⟩ => ⟨S2048x128, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CARefIdeal.lean ====
abbrev S16640x2048 : Shape := ⟨2, ![16640, 2048]⟩
abbrev S2x2048x13856 : Shape := ⟨3, ![2, 2048, 13856]⟩
abbrev S1x2048x13856 : Shape := ⟨3, ![1, 2048, 13856]⟩
abbrev S2048x13856 : Shape := ⟨2, ![2048, 13856]⟩
abbrev S16640x13856 : Shape := ⟨2, ![16640, 13856]⟩
abbrev S16640x32 : Shape := ⟨2, ![16640, 32]⟩
abbrev S_ : Shape := ⟨0, ![]⟩
abbrev S16640x128 : Shape := ⟨2, ![16640, 128]⟩

abbrev nBuf : Space → Nat
  | .hbm => 10
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2x2048x13856, .f32⟩
  | .hbm, ⟨2, _⟩ => ⟨S16640x2048, .f32⟩
  | .hbm, ⟨3, _⟩ => ⟨S1x2048x13856, .f32⟩
  | .hbm, ⟨4, _⟩ => ⟨S2048x13856, .f32⟩
  | .hbm, ⟨5, _⟩ => ⟨S16640x13856, .f32⟩
  | .hbm, ⟨6, _⟩ => ⟨S16640x32, .f32⟩
  | .hbm, ⟨7, _⟩ => ⟨S_, .i32⟩
  | .hbm, ⟨8, _⟩ => ⟨S_, .f32⟩
  | .hbm, ⟨9, _⟩ => ⟨S16640x128, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Mod.lean ====
abbrev S16x2048 : Shape := ⟨2, ![16, 2048]⟩
abbrev S2x2048x12288 : Shape := ⟨3, ![2, 2048, 12288]⟩
abbrev S2x12288 : Shape := ⟨2, ![2, 12288]⟩
abbrev S1x12288 : Shape := ⟨2, ![1, 12288]⟩
abbrev S12288 : Shape := ⟨1, ![12288]⟩
abbrev S16x12288 : Shape := ⟨2, ![16, 12288]⟩
abbrev S1x2048x1024 : Shape := ⟨3, ![1, 2048, 1024]⟩
abbrev S1x1024 : Shape := ⟨2, ![1, 1024]⟩
abbrev S16x1024 : Shape := ⟨2, ![16, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16x2048, .bf16⟩
  | .hbm, ⟨1, _⟩ => ⟨S2x2048x12288, .f32⟩
  | .hbm, ⟨2, _⟩ => ⟨S2x12288, .f32⟩
  | .hbm, ⟨3, _⟩ => ⟨S1x12288, .f32⟩
  | .hbm, ⟨4, _⟩ => ⟨S12288, .f32⟩
  | .hbm, ⟨5, _⟩ => ⟨S1x12288, .f32⟩
  | .hbm, ⟨6, _⟩ => ⟨S16x12288, .f32⟩
  | .local _ .vmem, ⟨0, _⟩ => ⟨S16x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | .local _ .vmem, ⟨7, _⟩ => ⟨S2048x1024, .bf16⟩
  | _, _ => ⟨S16x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x2048 : Shape := ⟨2, ![16, 2048]⟩
abbrev S2x2048x12288 : Shape := ⟨3, ![2, 2048, 12288]⟩
abbrev S2x12288 : Shape := ⟨2, ![2, 12288]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩

abbrev nBuf : Space → Nat
  | .hbm => 12
  | .vmem => 0
  | .smem => 0
  | _ => 0

abbrev bufTy : (tb : Table) → Fin (tcTables nBuf tb) → BufTy
  | .hbm, ⟨0, _⟩ => ⟨S16x2048, .bf16⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S1x2048x12288, .f32⟩
  | .hbm, ⟨5, _⟩ => ⟨S2048x12288, .f32⟩
  | .hbm, ⟨6, _⟩ => ⟨S16x12288, .f32⟩
  | .hbm, ⟨7, _⟩ => ⟨S1x12288, .f32⟩
  | .hbm, ⟨8, _⟩ => ⟨S12288, .f32⟩
  | .hbm, ⟨9, _⟩ => ⟨S1x12288, .f32⟩
  | .hbm, ⟨10, _⟩ => ⟨S16x12288, .f32⟩
  | .hbm, ⟨11, _⟩ => ⟨S16x12288, .f32⟩
  | _, _ => ⟨S16x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Planes.lean ====
/-
  Two planes of a buffer, written and read one at a time.
-/
module

public import Idealize.ShloMosaic.Lib.WritesUnit
public import Idealize.ShloMosaic.Lib.Pipeline.FrameBody
public import Idealize.ShloMosaic.Lib.Pipeline.Value
public import Idealize.ShloMosaic.Lib.Pipeline.ValueKit.Tiles
public import Idealize.ShloMosaic.Lib.Pipeline.ReadBack

@[expose] public section

set_option maxRecDepth 16384

noncomputable section

namespace Cert.Planes

open Idealize.ShloMosaic

section Planes

variable {Val : EltTy → Type} {e : EltTy} {n : ℕ}

/-- The index of a plane below the index of the two planes. -/
def low (x : (⟨3, ![2, 1024, n]⟩ : Shape).Idx) : (⟨3, ![1, 1024, n]⟩ : Shape).Idx := fun a =>
  match a with
  | ⟨0, _⟩ => ⟨0, Nat.one_pos⟩
  | ⟨1, _⟩ => ⟨(x 1).val, (x 1).isLt⟩
  | ⟨2, _⟩ => ⟨(x 2).val, (x 2).isLt⟩

/-- Two planes, one after the other. -/
def glue (a b : (⟨3, ![1, 1024, n]⟩ : Shape).Idx → Val e) : (⟨3, ![2, 1024, n]⟩ : Shape).Idx → Val e :=
  fun x => if (x 0).val = 0 then a (low x) else b (low x)

/-- Plane 0 of the two. -/
theorem ld_glue_zero (a b : (⟨3, ![1, 1024, n]⟩ : Shape).Idx → Val e)
    (inb : ∀ i, (![0, 0, 0] : Fin 3 → ℕ) i + (![1, 1024, n] : Fin 3 → ℕ) i ≤ (⟨3, ![2, 1024, n]⟩ : Shape).size i) :
    View.ld (S := ⟨3, ![2, 1024, n]⟩) (glue a b) (Rect.unit ![0, 0, 0] ![1, 1024, n] inb) = a := by
  funext y
  have h0 : (y 0).val = 0 := by have := (y 0).isLt; change _ < 1 at this; omega
  rw [View.ld_unit_apply_of (S := ⟨3, ![2, 1024, n]⟩) (glue a b) ![0, 0, 0] ![1, 1024, n] inb y
    (fun i => match i with
      | ⟨0, _⟩ => ⟨0, Nat.two_pos⟩
      | ⟨1, _⟩ => ⟨(y 1).val, (y 1).isLt⟩
      | ⟨2, _⟩ => ⟨(y 2).val, (y 2).isLt⟩)
    (fun i => by
      match i with
      | ⟨0, _⟩ => show 0 = 0 + (y 0).val; omega
      | ⟨1, _⟩ => show (y 1).val = 0 + (y 1).val; omega
      | ⟨2, _⟩ => show (y 2).val = 0 + (y 2).val; omega)]
  refine (if_pos rfl).trans (congrArg a (funext fun i => Fin.ext ?_))
  match i with
  | ⟨0, _⟩ => exact h0.symm
  | ⟨1, _⟩ => rfl
  | ⟨2, _⟩ => rfl

/-- Plane 1 of the two. -/
theorem ld_glue_one (a b : (⟨3, ![1, 1024, n]⟩ : Shape).Idx → Val e)
    (inb : ∀ i, (![1, 0, 0] : Fin 3 → ℕ) i + (![1, 1024, n] : Fin 3 → ℕ) i ≤ (⟨3, ![2, 1024, n]⟩ : Shape).size i) :
    View.ld (S := ⟨3, ![2, 1024, n]⟩) (glue a b) (Rect.unit ![1, 0, 0] ![1, 1024, n] inb) = b := by
  funext y
  have h0 : (y 0).val = 0 := by have := (y 0).isLt; change _ < 1 at this; omega
  rw [View.ld_unit_apply_of (S := ⟨3, ![2, 1024, n]⟩) (glue a b) ![1, 0, 0] ![1, 1024, n] inb y
    (fun i => match i with
      | ⟨0, _⟩ => ⟨1, Nat.one_lt_two⟩
      | ⟨1, _⟩ => ⟨(y 1).val, (y 1).isLt⟩
      | ⟨2, _⟩ => ⟨(y 2).val, (y 2).isLt⟩)
    (fun i => by
      match i with
      | ⟨0, _⟩ => show 1 = 1 + (y 0).val; omega
      | ⟨1, _⟩ => show (y 1).val = 0 + (y 1).val; omega
      | ⟨2, _⟩ => show (y 2).val = 0 + (y 2).val; omega)]
  refine (if_neg (by show ¬(1 : ℕ) = 0; decide)).trans (congrArg b (funext fun i => Fin.ext ?_))
  match i with
  | ⟨0, _⟩ => exact h0.symm
  | ⟨1, _⟩ => rfl
  | ⟨2, _⟩ => rfl

/-- A buffer whose planes 0 and 1 were written last, in this order, holds the two planes. -/
theorem read_planes {sig : RefSig} {κ : Kind} {sp : Space} (v : View sig κ sp ⟨3, ![2, 1024, n]⟩ e) (f : v.ty.Contents Val)
    (a b : (⟨3, ![1, 1024, n]⟩ : Shape).Idx → Val e)
    (inb0 : ∀ i, (![0, 0, 0] : Fin 3 → ℕ) i + (![1, 1024, n] : Fin 3 → ℕ) i ≤ (⟨3, ![2, 1024, n]⟩ : Shape).size i)
    (inb1 : ∀ i, (![1, 0, 0] : Fin 3 → ℕ) i + (![1, 1024, n] : Fin 3 → ℕ) i ≤ (⟨3, ![2, 1024, n]⟩ : Shape).size i)
    (L : List (View.Piece Val ⟨3, ![2, 1024, n]⟩ e)) :
    v.read Val (v.writes Val f (⟨Rect.unit ![1, 0, 0] ![1, 1024, n] inb1, b⟩
      :: ⟨Rect.unit ![0, 0, 0] ![1, 1024, n] inb0, a⟩ :: L)) = glue a b := by
  funext x
  have h2 : (x 0).val < 2 := (x 0).isLt
  unfold glue
  split
  · next h =>
    rw [View.read_writes_cons_unit_of_not_mem v f inb1 b _ x rfl 0 (Or.inl (by show (x 0).val < 1; omega))]
    refine View.read_writes_cons_unit_of_mem v f inb0 a L x (low x) rfl fun i => ?_
    match i with
    | ⟨0, _⟩ => show (x 0).val = 0 + 0; omega
    | ⟨1, _⟩ => show (x 1).val = 0 + (x 1).val; omega
    | ⟨2, _⟩ => show (x 2).val = 0 + (x 2).val; omega
  · next h =>
    refine View.read_writes_cons_unit_of_mem v f inb1 b _ x (low x) rfl fun i => ?_
    match i with
    | ⟨0, _⟩ => show (x 0).val = 1 + 0; omega
    | ⟨1, _⟩ => show (x 1).val = 0 + (x 1).val; omega
    | ⟨2, _⟩ => show (x 2).val = 0 + (x 2).val; omega

variable [∀ e, Nonempty (Val e)]

/-- A load of plane 0 after a store of plane 0 and then one of plane 1. -/
theorem readCov_zero {sig : RefSig} {κ : Kind} {sp : Space} (v : View sig κ sp ⟨3, ![2, 1024, n]⟩ e)
    (a b : (⟨3, ![1, 1024, n]⟩ : Shape).Idx → Val e)
    (inb0 : ∀ i, (![0, 0, 0] : Fin 3 → ℕ) i + (![1, 1024, n] : Fin 3 → ℕ) i ≤ (⟨3, ![2, 1024, n]⟩ : Shape).size i)
    (inb1 : ∀ i, (![1, 0, 0] : Fin 3 → ℕ) i + (![1, 1024, n] : Fin 3 → ℕ) i ≤ (⟨3, ![2, 1024, n]⟩ : Shape).size i)
    (L : List (View.Piece Val ⟨3, ![2, 1024, n]⟩ e)) :
    v.readCov (⟨Rect.unit ![1, 0, 0] ![1, 1024, n] inb1, b⟩ :: ⟨Rect.unit ![0, 0, 0] ![1, 1024, n] inb0, a⟩ :: L)
      (Rect.unit ![0, 0, 0] ![1, 1024, n] inb0).toLoadRect = a := by
  rw [View.readCov_cons_of_disjoint, View.readCov_cons_toLoadRect]
  refine Finset.disjoint_left.mpr fun y hy hy' => ?_
  rw [Rect.mem_set_unit] at hy
  have hy' := (Rect.mem_set_unit (s := ⟨3, ![2, 1024, n]⟩) (off := ![0, 0, 0]) (size := ![1, 1024, n]) (inb := inb0)).mp hy'
  have h := (hy 0).1
  have h' := (hy' 0).2
  change 1 ≤ _ at h
  change _ < 0 + 1 at h'
  omega

/-- A load of plane 1 after a store of plane 1 and then one of plane 0. -/
theorem readCov_one {sig : RefSig} {κ : Kind} {sp : Space} (v : View sig κ sp ⟨3, ![2, 1024, n]⟩ e)
    (a b : (⟨3, ![1, 1024, n]⟩ : Shape).Idx → Val e)
    (inb0 : ∀ i, (![0, 0, 0] : Fin 3 → ℕ) i + (![1, 1024, n] : Fin 3 → ℕ) i ≤ (⟨3, ![2, 1024, n]⟩ : Shape).size i)
    (inb1 : ∀ i, (![1, 0, 0] : Fin 3 → ℕ) i + (![1, 1024, n] : Fin 3 → ℕ) i ≤ (⟨3, ![2, 1024, n]⟩ : Shape).size i)
    (L : List (View.Piece Val ⟨3, ![2, 1024, n]⟩ e)) :
    v.readCov (⟨Rect.unit ![0, 0, 0] ![1, 1024, n] inb0, a⟩ :: ⟨Rect.unit ![1, 0, 0] ![1, 1024, n] inb1, b⟩ :: L)
      (Rect.unit ![1, 0, 0] ![1, 1024, n] inb1).toLoadRect = b := by
  rw [View.readCov_cons_of_disjoint, View.readCov_cons_toLoadRect]
  refine Finset.disjoint_left.mpr fun y hy hy' => ?_
  rw [Rect.mem_set_unit] at hy
  have hy' := (Rect.mem_set_unit (s := ⟨3, ![2, 1024, n]⟩) (off := ![1, 0, 0]) (size := ![1, 1024, n]) (inb := inb1)).mp hy'
  have h := (hy 0).2
  have h' := (hy' 0).1
  change _ < 0 + 1 at h
  change 1 ≤ _ at h'
  omega

end Planes

theorem read_full {n : ℕ} {e : EltTy} {Val : EltTy → Type} {sig : RefSig} {κ : Kind} {sp : Space} (v : View sig κ sp ⟨3, ![2, 1024, n]⟩ e) (f : v.ty.Contents Val)
    (a : (⟨3, ![2, 1024, n]⟩ : Shape).Idx → Val e)
    (inb : ∀ i, (![0, 0, 0] : Fin 3 → ℕ) i + (![2, 1024, n] : Fin 3 → ℕ) i ≤ (⟨3, ![2, 1024, n]⟩ : Shape).size i) :
    v.read Val (v.writes Val f [⟨Rect.unit ![0, 0, 0] ![2, 1024, n] inb, a⟩]) = a := by
  funext y
  refine View.read_writes_cons_unit_of_mem v f inb a [] y y rfl fun i => ?_
  match i with
  | ⟨0, _⟩ => show (y 0).val = 0 + (y 0).val; omega
  | ⟨1, _⟩ => show (y 1).val = 0 + (y 1).val; omega
  | ⟨2, _⟩ => show (y 2).val = 0 + (y 2).val; omega

end Cert.Planes

end
-- ==== Proof.KernelFrame.lean ====
/-
  The attention kernel as printed: the program runs at every instance, leaves its arguments unchanged and every semaphore
  counter at zero.
-/
module

public import proofs.«01_k».proof.Proof.KernelRun
public import Idealize.ShloMosaic.Lib.Claim
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's buffer at point `t`. -/
def out (c : Dev nD) (t : Fin cfg0.N) : Vec F S1024x256 .bf16 := outV (X0_0 m c t) (iblk m c 1 t) (iblk m c 2 t)

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => out m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply ((Flash.run c (grid0.coords t) _ _ _ _ _ _ _ _ _ _ _ _ _ _ _ _ (X0_0 m c t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Flash

end
-- ==== Proof.FlashTrip.lean ====
/-
  One trip of the attention kernel's loop over blocks of 1280 keys, read as arithmetic. The three scratch buffers that
  the loop carries hold, for each of the two query heads of a key head, the running row maximum, the running weighted
  sum of value rows, and the scores of the block that comes next. A trip takes two blocks.
-/
module

public import proofs.«01_k».proof.Proof.Gen.KernelIdeal.Loops
public import proofs.«01_k».proof.Proof.Planes
public import Idealize.ShloMosaic.Lib.WritesUnit
public import Idealize.ShloMosaic.Lib.Pipeline.FrameBody
public import Idealize.ShloMosaic.Lib.Pipeline.Value
public import Idealize.ShloMosaic.Lib.Pipeline.ValueKit.Tiles
public import Idealize.ShloMosaic.Lib.Pipeline.ReadBack

@[expose] public section

set_option maxRecDepth 16384

noncomputable section

namespace Cert.KernelIdeal.Flash

open Cert.KernelIdeal Cert.KernelIdeal.Gen Cert.Planes
open Idealize.ShloMosaic Idealize.ShloMosaic.TcCoe Idealize.ShloMosaic.Tactic

section Trip

variable {F : FTy → Type} [FloatOps F] [Named F]
variable (𝒱 : Variants) (c : Dev nD) (bd : Option 𝒱.V) (i : grid0.Coords) (arg2 : Memref sig .tc .vmem S1024x256 .f32) (harg2 : arg2.IsWhole) (arg3 : Memref sig .tc .vmem S16640x128 .bf16) (harg3 : arg3.IsWhole) (arg4 : Memref sig .tc .vmem S16640x256 .bf16) (harg4 : arg4.IsWhole) (arg5 : Memref sig .tc .vmem S1024x256 .bf16) (harg5 : arg5.IsWhole) (arg6 : Memref sig .tc .vmem S2x1024x1 .f32) (harg6 : arg6.IsWhole) (arg7 : Memref sig .tc .vmem S2x1024x256 .f32) (harg7 : arg7.IsWhole) (arg8 : Memref sig .tc .vmem S2x1024x1280 .f32) (harg8 : arg8.IsWhole) (arg9 : Memref sig .tc .vmem S2x1024x1280 .f32) (harg9 : arg9.IsWhole)
variable (z6 z7 : BitVec 32) (X2 : BufTy.Contents (Elt F) arg2.view.ty) (X3 : BufTy.Contents (Elt F) arg3.view.ty) (X4 : BufTy.Contents (Elt F) arg4.view.ty) (k : Fin k0_t1_loop.trips)
variable (f6 : BufTy.Contents (Elt F) arg6.view.ty) (f7 : BufTy.Contents (Elt F) arg7.view.ty) (f8 : BufTy.Contents (Elt F) arg8.view.ty) (f9 : BufTy.Contents (Elt F) arg9.view.ty)

/-- The queries of head 0 and of head 1. -/
abbrev q0 : Vec F S1024x128 .f32 := arg2.view.readAt (Elt F) (Rect.unit (s := S1024x256) ![0, 0] S1024x128.size inb_S1024x256_S1024x128_0_0).toLoadRect X2
abbrev q1 : Vec F S1024x128 .f32 := arg2.view.readAt (Elt F) (Rect.unit (s := S1024x256) ![0, 128] S1024x128.size inb_S1024x256_S1024x128_0_128).toLoadRect X2
/-- The two key blocks whose scores the trip computes, and the two value blocks it adds. -/
abbrev kb1 : Vec F S1280x128 .bf16 := arg3.view.readAt (Elt F) (Rect.unit (s := S16640x128) (k0_off1 k 1#32) S1280x128.size (k0_off1_inb k 0)).toLoadRect X3
abbrev kb2 : Vec F S1280x128 .bf16 := arg3.view.readAt (Elt F) (Rect.unit (s := S16640x128) (k0_off1 k 2#32) S1280x128.size (k0_off1_inb k 1)).toLoadRect X3
abbrev vb1 : Vec F S1280x256 .bf16 := arg4.view.readAt (Elt F) (Rect.unit (s := S16640x256) (k0_off2 k) S1280x256.size (k0_off2_inb k)).toLoadRect X4
abbrev vb2 : Vec F S1280x256 .bf16 := arg4.view.readAt (Elt F) (Rect.unit (s := S16640x256) (k0_off3 k) S1280x256.size (k0_off3_inb k)).toLoadRect X4
/-- The planes of the carried buffers. -/
abbrev m0 : Vec F S1x1024x1 .f32 := arg6.view.readAt (Elt F) (Rect.unit (s := S2x1024x1) ![0, 0, 0] S1x1024x1.size inb_S2x1024x1_S1x1024x1_0_0_0).toLoadRect f6
abbrev m1 : Vec F S1x1024x1 .f32 := arg6.view.readAt (Elt F) (Rect.unit (s := S2x1024x1) ![1, 0, 0] S1x1024x1.size inb_S2x1024x1_S1x1024x1_1_0_0).toLoadRect f6
abbrev a0 : Vec F S1x1024x256 .f32 := arg7.view.readAt (Elt F) (Rect.unit (s := S2x1024x256) ![0, 0, 0] S1x1024x256.size inb_S2x1024x256_S1x1024x256_0_0_0).toLoadRect f7
abbrev a1 : Vec F S1x1024x256 .f32 := arg7.view.readAt (Elt F) (Rect.unit (s := S2x1024x256) ![1, 0, 0] S1x1024x256.size inb_S2x1024x256_S1x1024x256_1_0_0).toLoadRect f7
abbrev s0 : Vec F S1x1024x1280 .f32 := arg8.view.readAt (Elt F) (Rect.unit (s := S2x1024x1280) ![0, 0, 0] S1x1024x1280.size inb_S2x1024x1280_S1x1024x1280_0_0_0).toLoadRect f8
abbrev s1 : Vec F S1x1024x1280 .f32 := arg8.view.readAt (Elt F) (Rect.unit (s := S2x1024x1280) ![1, 0, 0] S1x1024x1280.size inb_S2x1024x1280_S1x1024x1280_1_0_0).toLoadRect f8

/-- The scores a trip leaves for the next one. -/
theorem trip_scores : arg8.view.read (Elt F) (arg8.view.writes (Elt F) f8 ((trip_k0_t1 (F := F) 𝒱 c bd i arg2 harg2 arg3 harg3 arg4 harg4 arg5 harg5 arg6 harg6 arg7 harg7 arg8 harg8 arg9 harg9 z6 z7 X2 X3 X4 k).2.2.1 f6 f7 f8 f9))
    = glue (n := 1280) (Val := Elt F) (k0_pay31 (kb2 arg3 X3 k) (q0 arg2 X2)) (k0_pay31 (kb2 arg3 X3 k) (q1 arg2 X2)) := by
  unfold trip_k0_t1
  dsimp only
  sl_unfold_words
  exact read_planes arg8.view f8 _ _ _ _ _

/-- The running maxima after a trip. -/
theorem trip_max : arg6.view.read (Elt F) (arg6.view.writes (Elt F) f6 ((trip_k0_t1 (F := F) 𝒱 c bd i arg2 harg2 arg3 harg3 arg4 harg4 arg5 harg5 arg6 harg6 arg7 harg7 arg8 harg8 arg9 harg9 z6 z7 X2 X3 X4 k).1 f6 f7 f8 f9))
    = glue (n := 1) (Val := Elt F)
      (k0_pay42 (k0_pay31 (kb1 arg3 X3 k) (q0 arg2 X2)) (k0_pay42 (s0 arg8 f8) (m0 arg6 f6)))
      (k0_pay42 (k0_pay31 (kb1 arg3 X3 k) (q1 arg2 X2)) (k0_pay42 (s1 arg8 f8) (m1 arg6 f6))) := by
  unfold trip_k0_t1
  dsimp only
  sl_unfold_words
  simp only [View.readCov_cons_toLoadRect, readCov_zero, readCov_one]
  exact read_planes arg6.view f6 _ _ _ _ _

/-- The running sums after a trip. -/
theorem trip_sum : arg7.view.read (Elt F) (arg7.view.writes (Elt F) f7 ((trip_k0_t1 (F := F) 𝒱 c bd i arg2 harg2 arg3 harg3 arg4 harg4 arg5 harg5 arg6 harg6 arg7 harg7 arg8 harg8 arg9 harg9 z6 z7 X2 X3 X4 k).2.1 f6 f7 f8 f9))
    = glue (n := 256) (Val := Elt F)
      (k0_pay41 (vb2 arg4 X4 k) (k0_pay31 (kb1 arg3 X3 k) (q0 arg2 X2)) (k0_pay42 (s0 arg8 f8) (m0 arg6 f6)) (k0_pay41 (vb1 arg4 X4 k) (s0 arg8 f8) (m0 arg6 f6) (a0 arg7 f7)))
      (k0_pay41 (vb2 arg4 X4 k) (k0_pay31 (kb1 arg3 X3 k) (q1 arg2 X2)) (k0_pay42 (s1 arg8 f8) (m1 arg6 f6)) (k0_pay41 (vb1 arg4 X4 k) (s1 arg8 f8) (m1 arg6 f6) (a1 arg7 f7))) := by
  unfold trip_k0_t1
  dsimp only
  sl_unfold_words
  simp only [View.readCov_cons_toLoadRect, readCov_zero, readCov_one]
  exact read_planes arg7.view f7 _ _ _ _ _

end Trip

end Cert.KernelIdeal.Flash

end
-- ==== Proof.FlashRun.lean ====
/-
  The body of the attention kernel, run: the loop over blocks of keys by an invariant that names the running maxima, the
  running sums and the next scores as a recursion on the number of blocks taken, and what the body leaves in its output.
-/
module

public import proofs.«01_k».proof.Proof.FlashTrip
public import proofs.«01_k».proof.Proof.Gen.KernelIdeal.Frame.Runs

@[expose] public section

set_option maxRecDepth 16384

noncomputable section

namespace Cert.KernelIdeal.Flash

open Cert.KernelIdeal Cert.KernelIdeal.Gen Cert.Planes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Block `n` of 1280 keys. -/
def kblk (x1 : Vec F S16640x128 .bf16) (n : ℕ) : Vec F S1280x128 .bf16 := fun y => x1 fun a =>
  match a with
  | ⟨0, _⟩ => ⟨(1280 * n + (y 0).val) % 16640, Nat.mod_lt _ (by decide)⟩
  | ⟨1, _⟩ => ⟨(y 1).val, (y 1).isLt⟩

/-- Block `n` of 1280 value rows. -/
def vblk (x2 : Vec F S16640x256 .bf16) (n : ℕ) : Vec F S1280x256 .bf16 := fun y => x2 fun a =>
  match a with
  | ⟨0, _⟩ => ⟨(1280 * n + (y 0).val) % 16640, Nat.mod_lt _ (by decide)⟩
  | ⟨1, _⟩ => ⟨(y 1).val, (y 1).isLt⟩

theorem ld_kblk (x1 : Vec F S16640x128 .bf16) (n : ℕ) (hn : n < 13) (off : Fin 2 → ℕ) (hoff : off = ![1280 * n, 0])
    (inb : ∀ a, off a + S1280x128.size a ≤ S16640x128.size a) :
    View.ld (S := S16640x128) x1 (Rect.unit off S1280x128.size inb) = kblk x1 n := by
  subst hoff
  funext y
  have h0 : (y 0).val < 1280 := (y 0).isLt
  refine View.ld_unit_apply_of (S := S16640x128) x1 _ _ inb y _ fun a => ?_
  match a with
  | ⟨0, _⟩ => show (1280 * n + (y 0).val) % 16640 = 1280 * n + (y 0).val; exact Nat.mod_eq_of_lt (by omega)
  | ⟨1, _⟩ => show (y 1).val = 0 + (y 1).val; omega

theorem ld_vblk (x2 : Vec F S16640x256 .bf16) (n : ℕ) (hn : n < 13) (off : Fin 2 → ℕ) (hoff : off = ![1280 * n, 0])
    (inb : ∀ a, off a + S1280x256.size a ≤ S16640x256.size a) :
    View.ld (S := S16640x256) x2 (Rect.unit off S1280x256.size inb) = vblk x2 n := by
  subst hoff
  funext y
  have h0 : (y 0).val < 1280 := (y 0).isLt
  refine View.ld_unit_apply_of (S := S16640x256) x2 _ _ inb y _ fun a => ?_
  match a with
  | ⟨0, _⟩ => show (1280 * n + (y 0).val) % 16640 = 1280 * n + (y 0).val; exact Nat.mod_eq_of_lt (by omega)
  | ⟨1, _⟩ => show (y 1).val = 0 + (y 1).val; omega

/-- What the loop carries for one query head: the running maxima, the running sums, the scores of the next block. -/
abbrev St (F : FTy → Type) : Type := Vec F S1x1024x1 .f32 × Vec F S1x1024x256 .f32 × Vec F S1x1024x1280 .f32

/-- What one query head carries after `n` blocks, from `st`. -/
def hd (q : Vec F S1024x128 .f32) (x1 : Vec F S16640x128 .bf16) (x2 : Vec F S16640x256 .bf16) (st : St F) : ℕ → St F
  | 0 => st
  | n + 1 => (k0_pay42 (hd q x1 x2 st n).2.2 (hd q x1 x2 st n).1,
      k0_pay41 (vblk x2 n) (hd q x1 x2 st n).2.2 (hd q x1 x2 st n).1 (hd q x1 x2 st n).2.1,
      k0_pay31 (kblk x1 (n + 1)) q)

/-- The invariants of the loop over blocks of keys. -/
abbrev LoopTy (𝒱 : Variants) (c : Dev nD) (bd : Option 𝒱.V) (E : Set ℕ) (i : grid0.Coords) (arg2 : Memref sig .tc .vmem S1024x256 .f32) (harg2 : arg2.IsWhole) (arg3 : Memref sig .tc .vmem S16640x128 .bf16) (harg3 : arg3.IsWhole) (arg4 : Memref sig .tc .vmem S16640x256 .bf16) (harg4 : arg4.IsWhole) (arg5 : Memref sig .tc .vmem S1024x256 .bf16) (harg5 : arg5.IsWhole) (arg6 : Memref sig .tc .vmem S2x1024x1 .f32) (harg6 : arg6.IsWhole) (arg7 : Memref sig .tc .vmem S2x1024x256 .f32) (harg7 : arg7.IsWhole) (arg8 : Memref sig .tc .vmem S2x1024x1280 .f32) (harg8 : arg8.IsWhole) (arg9 : Memref sig .tc .vmem S2x1024x1280 .f32) (harg9 : arg9.IsWhole) (z6 z7 : BitVec 32) :=
  Idealize.ShloMosaic.LoopInv (M := MT nD τ sig Unit (Elt F) ℕ (UR sig nD τ) ℕ) Idealize.ShloMosaic.frame (wpE (defs₀ (F := F)) 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 z6 z7)

section Loop

variable (𝒱 : Variants) (c : Dev nD) (bd : Option 𝒱.V) (E : Set ℕ) (i : grid0.Coords) (arg2 : Memref sig .tc .vmem S1024x256 .f32) (harg2 : arg2.IsWhole) (arg3 : Memref sig .tc .vmem S16640x128 .bf16) (harg3 : arg3.IsWhole) (arg4 : Memref sig .tc .vmem S16640x256 .bf16) (harg4 : arg4.IsWhole) (arg5 : Memref sig .tc .vmem S1024x256 .bf16) (harg5 : arg5.IsWhole) (arg6 : Memref sig .tc .vmem S2x1024x1 .f32) (harg6 : arg6.IsWhole) (arg7 : Memref sig .tc .vmem S2x1024x256 .f32) (harg7 : arg7.IsWhole) (arg8 : Memref sig .tc .vmem S2x1024x1280 .f32) (harg8 : arg8.IsWhole) (arg9 : Memref sig .tc .vmem S2x1024x1280 .f32) (harg9 : arg9.IsWhole)
variable (z6 z7 : BitVec 32) (X2 : BufTy.Contents (Elt F) arg2.view.ty) (X3 : BufTy.Contents (Elt F) arg3.view.ty) (X4 : BufTy.Contents (Elt F) arg4.view.ty)
variable (G6 : BufTy.Contents (Elt F) arg6.view.ty) (G7 : BufTy.Contents (Elt F) arg7.view.ty) (G8 : BufTy.Contents (Elt F) arg8.view.ty)

/-- What the two heads carry after `n` blocks, from the contents at the loop's entry. -/
def h0 (n : ℕ) : St F := hd (q0 arg2 X2) (arg3.view.read (Elt F) X3) (arg4.view.read (Elt F) X4) (m0 arg6 G6, a0 arg7 G7, s0 arg8 G8) n
def h1 (n : ℕ) : St F := hd (q1 arg2 X2) (arg3.view.read (Elt F) X3) (arg4.view.read (Elt F) X4) (m1 arg6 G6, a1 arg7 G7, s1 arg8 G8) n

/-- The carried buffers before trip `k`. -/
def C6 : ℕ → BufTy.Contents (Elt F) arg6.view.ty
  | 0 => G6
  | k + 1 => harg6.unread (glue (n := 1) (Val := Elt F) (h0 arg2 arg3 arg4 arg6 arg7 arg8 X2 X3 X4 G6 G7 G8 (2 * (k + 1))).1 (h1 arg2 arg3 arg4 arg6 arg7 arg8 X2 X3 X4 G6 G7 G8 (2 * (k + 1))).1)
def C7 : ℕ → BufTy.Contents (Elt F) arg7.view.ty
  | 0 => G7
  | k + 1 => harg7.unread (glue (n := 256) (Val := Elt F) (h0 arg2 arg3 arg4 arg6 arg7 arg8 X2 X3 X4 G6 G7 G8 (2 * (k + 1))).2.1 (h1 arg2 arg3 arg4 arg6 arg7 arg8 X2 X3 X4 G6 G7 G8 (2 * (k + 1))).2.1)
def C8 : ℕ → BufTy.Contents (Elt F) arg8.view.ty
  | 0 => G8
  | k + 1 => harg8.unread (glue (n := 1280) (Val := Elt F) (h0 arg2 arg3 arg4 arg6 arg7 arg8 X2 X3 X4 G6 G7 G8 (2 * (k + 1))).2.2 (h1 arg2 arg3 arg4 arg6 arg7 arg8 X2 X3 X4 G6 G7 G8 (2 * (k + 1))).2.2)

theorem C6_m0 (k : ℕ) : m0 arg6 (C6 arg2 arg3 arg4 arg6 harg6 arg7 arg8 X2 X3 X4 G6 G7 G8 k) = (h0 arg2 arg3 arg4 arg6 arg7 arg8 X2 X3 X4 G6 G7 G8 (2 * k)).1 := by
  cases k with
  | zero => rfl
  | succ k => unfold m0 C6; rw [View.readAt_eq_ld, harg6.read_unread]; exact ld_glue_zero _ _ _
theorem C6_m1 (k : ℕ) : m1 arg6 (C6 arg2 arg3 arg4 arg6 harg6 arg7 arg8 X2 X3 X4 G6 G7 G8 k) = (h1 arg2 arg3 arg4 arg6 arg7 arg8 X2 X3 X4 G6 G7 G8 (2 * k)).1 := by
  cases k with
  | zero => rfl
  | succ k => unfold m1 C6; rw [View.readAt_eq_ld, harg6.read_unread]; exact ld_glue_one _ _ _
theorem C7_a0 (k : ℕ) : a0 arg7 (C7 arg2 arg3 arg4 arg6 arg7 harg7 arg8 X2 X3 X4 G6 G7 G8 k) = (h0 arg2 arg3 arg4 arg6 arg7 arg8 X2 X3 X4 G6 G7 G8 (2 * k)).2.1 := by
  cases k with
  | zero => rfl
  | succ k => unfold a0 C7; rw [View.readAt_eq_ld, harg7.read_unread]; exact ld_glue_zero _ _ _
theorem C7_a1 (k : ℕ) : a1 arg7 (C7 arg2 arg3 arg4 arg6 arg7 harg7 arg8 X2 X3 X4 G6 G7 G8 k) = (h1 arg2 arg3 arg4 arg6 arg7 arg8 X2 X3 X4 G6 G7 G8 (2 * k)).2.1 := by
  cases k with
  | zero => rfl
  | succ k => unfold a1 C7; rw [View.readAt_eq_ld, harg7.read_unread]; exact ld_glue_one _ _ _
theorem C8_s0 (k : ℕ) : s0 arg8 (C8 arg2 arg3 arg4 arg6 arg7 arg8 harg8 X2 X3 X4 G6 G7 G8 k) = (h0 arg2 arg3 arg4 arg6 arg7 arg8 X2 X3 X4 G6 G7 G8 (2 * k)).2.2 := by
  cases k with
  | zero => rfl
  | succ k => unfold s0 C8; rw [View.readAt_eq_ld, harg8.read_unread]; exact ld_glue_zero _ _ _
theorem C8_s1 (k : ℕ) : s1 arg8 (C8 arg2 arg3 arg4 arg6 arg7 arg8 harg8 X2 X3 X4 G6 G7 G8 k) = (h1 arg2 arg3 arg4 arg6 arg7 arg8 X2 X3 X4 G6 G7 G8 (2 * k)).2.2 := by
  cases k with
  | zero => rfl
  | succ k => unfold s1 C8; rw [View.readAt_eq_ld, harg8.read_unread]; exact ld_glue_one _ _ _

theorem trips_le (k : Fin k0_t1_loop.trips) : k.val < 6 := Nat.lt_of_lt_of_le k.isLt k0_t1_abs.2.1

theorem kb1_eq (k : Fin k0_t1_loop.trips) : kb1 arg3 X3 k = kblk (arg3.view.read (Elt F) X3) (2 * k.val + 1) :=
  ld_kblk _ _ (by have := trips_le k; omega) _ ((k0_off1_eq k 0).trans (by congr 1; show 2560 * k.val + 1280 * 0 + 1280 = 1280 * (2 * k.val + 1); omega)) _
theorem kb2_eq (k : Fin k0_t1_loop.trips) : kb2 arg3 X3 k = kblk (arg3.view.read (Elt F) X3) (2 * k.val + 2) :=
  ld_kblk _ _ (by have := trips_le k; omega) _ ((k0_off1_eq k 1).trans (by congr 1; show 2560 * k.val + 1280 * 1 + 1280 = 1280 * (2 * k.val + 2); omega)) _
theorem vb1_eq (k : Fin k0_t1_loop.trips) : vb1 arg4 X4 k = vblk (arg4.view.read (Elt F) X4) (2 * k.val) :=
  ld_vblk _ _ (by have := trips_le k; omega) _ ((k0_off2_eq k).trans (by congr 1; omega)) _
theorem vb2_eq (k : Fin k0_t1_loop.trips) : vb2 arg4 X4 k = vblk (arg4.view.read (Elt F) X4) (2 * k.val + 1) :=
  ld_vblk _ _ (by have := trips_le k; omega) _ ((k0_off3_eq k).trans (by congr 1; omega)) _

/-- The invariant before trip `k`. -/
abbrev inv (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg6.view.loc (c : Thread nD τ) ↦[arg6.view.set]{fullShare} f) ∗ ⌜f = C6 arg2 arg3 arg4 arg6 harg6 arg7 arg8 X2 X3 X4 G6 G7 G8 k⌝)
    ∗ (∃ f, (arg7.view.loc (c : Thread nD τ) ↦[arg7.view.set]{fullShare} f) ∗ ⌜f = C7 arg2 arg3 arg4 arg6 arg7 harg7 arg8 X2 X3 X4 G6 G7 G8 k⌝)
    ∗ (∃ f, (arg8.view.loc (c : Thread nD τ) ↦[arg8.view.set]{fullShare} f) ∗ ⌜f = C8 arg2 arg3 arg4 arg6 arg7 arg8 harg8 X2 X3 X4 G6 G7 G8 k⌝)
    ∗ (∃ f, (arg9.view.loc (c : Thread nD τ) ↦[arg9.view.set]{fullShare} f)))

theorem step6 (k : Fin k0_t1_loop.trips) (f9 : BufTy.Contents (Elt F) arg9.view.ty) :
    arg6.view.writes (Elt F) (C6 arg2 arg3 arg4 arg6 harg6 arg7 arg8 X2 X3 X4 G6 G7 G8 k) ((trip_k0_t1 (F := F) 𝒱 c bd i arg2 harg2 arg3 harg3 arg4 harg4 arg5 harg5 arg6 harg6 arg7 harg7 arg8 harg8 arg9 harg9 z6 z7 X2 X3 X4 k).1
      (C6 arg2 arg3 arg4 arg6 harg6 arg7 arg8 X2 X3 X4 G6 G7 G8 k) (C7 arg2 arg3 arg4 arg6 arg7 harg7 arg8 X2 X3 X4 G6 G7 G8 k) (C8 arg2 arg3 arg4 arg6 arg7 arg8 harg8 X2 X3 X4 G6 G7 G8 k) f9)
    = C6 arg2 arg3 arg4 arg6 harg6 arg7 arg8 X2 X3 X4 G6 G7 G8 (k.val + 1) :=
  harg6.eq_unread ((trip_max ..).trans (by rw [C6_m0, C6_m1, C8_s0, C8_s1, kb1_eq]; rfl))

theorem step7 (k : Fin k0_t1_loop.trips) (f9 : BufTy.Contents (Elt F) arg9.view.ty) :
    arg7.view.writes (Elt F) (C7 arg2 arg3 arg4 arg6 arg7 harg7 arg8 X2 X3 X4 G6 G7 G8 k) ((trip_k0_t1 (F := F) 𝒱 c bd i arg2 harg2 arg3 harg3 arg4 harg4 arg5 harg5 arg6 harg6 arg7 harg7 arg8 harg8 arg9 harg9 z6 z7 X2 X3 X4 k).2.1
      (C6 arg2 arg3 arg4 arg6 harg6 arg7 arg8 X2 X3 X4 G6 G7 G8 k) (C7 arg2 arg3 arg4 arg6 arg7 harg7 arg8 X2 X3 X4 G6 G7 G8 k) (C8 arg2 arg3 arg4 arg6 arg7 arg8 harg8 X2 X3 X4 G6 G7 G8 k) f9)
    = C7 arg2 arg3 arg4 arg6 arg7 harg7 arg8 X2 X3 X4 G6 G7 G8 (k.val + 1) :=
  harg7.eq_unread ((trip_sum ..).trans (by rw [C6_m0, C6_m1, C8_s0, C8_s1, C7_a0, C7_a1, kb1_eq, vb1_eq, vb2_eq]; rfl))

theorem step8 (k : Fin k0_t1_loop.trips) (f9 : BufTy.Contents (Elt F) arg9.view.ty) :
    arg8.view.writes (Elt F) (C8 arg2 arg3 arg4 arg6 arg7 arg8 harg8 X2 X3 X4 G6 G7 G8 k) ((trip_k0_t1 (F := F) 𝒱 c bd i arg2 harg2 arg3 harg3 arg4 harg4 arg5 harg5 arg6 harg6 arg7 harg7 arg8 harg8 arg9 harg9 z6 z7 X2 X3 X4 k).2.2.1
      (C6 arg2 arg3 arg4 arg6 harg6 arg7 arg8 X2 X3 X4 G6 G7 G8 k) (C7 arg2 arg3 arg4 arg6 arg7 harg7 arg8 X2 X3 X4 G6 G7 G8 k) (C8 arg2 arg3 arg4 arg6 arg7 arg8 harg8 X2 X3 X4 G6 G7 G8 k) f9)
    = C8 arg2 arg3 arg4 arg6 arg7 arg8 harg8 X2 X3 X4 G6 G7 G8 (k.val + 1) :=
  harg8.eq_unread ((trip_scores ..).trans (by rw [kb2_eq]; rfl))

set_option warn.classDefReducibility false in
/-- The loop over blocks of keys, by that invariant. -/
@[sl_loop] def loopInv :
    LoopTy (F := F) 𝒱 c bd E i arg2 harg2 arg3 harg3 arg4 harg4 arg5 harg5 arg6 harg6 arg7 harg7 arg8 harg8 arg9 harg9 z6 z7 where
  inv := inv c arg2 arg3 arg4 arg6 harg6 arg7 harg7 arg8 harg8 arg9 X2 X3 X4 G6 G7 G8
  step k acc := by
    iintro ⟨HR_arg2, HR_arg3, HR_arg4, ⟨%f_arg6, HW_arg6, %h_arg6⟩, ⟨%f_arg7, HW_arg7, %h_arg7⟩, ⟨%f_arg8, HW_arg8, %h_arg8⟩, ⟨%f_arg9, HW_arg9⟩⟩
    subst h_arg6 h_arg7 h_arg8
    iapply (wp_wand_r Idealize.ShloMosaic.frame (wpE (defs₀ (F := F)) 𝒱 (c : Thread nD τ) bd) E)
    isplitl [HR_arg2 HR_arg3 HR_arg4 HW_arg6 HW_arg7 HW_arg8 HW_arg9]
    · iapply ((trip_k0_t1 (F := F) 𝒱 c bd i arg2 harg2 arg3 harg3 arg4 harg4 arg5 harg5 arg6 harg6 arg7 harg7 arg8 harg8 arg9 harg9 z6 z7 X2 X3 X4 k).2.2.2.2 E _ _ _ f_arg9)
      isplitl [HR_arg2]; · iexact HR_arg2
      isplitl [HR_arg3]; · iexact HR_arg3
      isplitl [HR_arg4]; · iexact HR_arg4
      isplitl [HW_arg6]; · iexact HW_arg6
      isplitl [HW_arg7]; · iexact HW_arg7
      isplitl [HW_arg8]; · iexact HW_arg8
      iexact HW_arg9
    · iintro %_ ⟨HR_arg2, HR_arg3, HR_arg4, HW_arg6, HW_arg7, HW_arg8, HW_arg9⟩
      isplitl [HR_arg2]; · iexact HR_arg2
      isplitl [HR_arg3]; · iexact HR_arg3
      isplitl [HR_arg4]; · iexact HR_arg4
      isplitl [HW_arg6]
      · iexists _; isplitl
        · iexact HW_arg6
        · ipureintro; exact step6 ..
      isplitl [HW_arg7]
      · iexists _; isplitl
        · iexact HW_arg7
        · ipureintro; exact step7 ..
      isplitl [HW_arg8]
      · iexists _; isplitl
        · iexact HW_arg8
        · ipureintro; exact step8 ..
      iexists _; iexact HW_arg9

end Loop

section Body

/-- The two query heads of a block of queries. -/
def qh0 (x0 : Vec F S1024x256 .f32) : Vec F S1024x128 .f32 := fun y => x0 fun a =>
  match a with
  | ⟨0, _⟩ => ⟨(y 0).val, (y 0).isLt⟩
  | ⟨1, _⟩ => ⟨(y 1).val, Nat.lt_trans (m := 128) (k := 256) (y 1).isLt (by decide)⟩
def qh1 (x0 : Vec F S1024x256 .f32) : Vec F S1024x128 .f32 := fun y => x0 fun a =>
  match a with
  | ⟨0, _⟩ => ⟨(y 0).val, (y 0).isLt⟩
  | ⟨1, _⟩ => ⟨128 + (y 1).val, Nat.add_lt_add_left (m := 128) (y 1).isLt 128⟩

/-- Where the fold starts. -/
def st0 (q : Vec F S1024x128 .f32) (x1 : Vec F S16640x128 .bf16) : St F :=
  (fun _ => FloatOps.ofBits .f32 0xF149F2CA#32, fun _ => FloatOps.ofBits .f32 0x00000000#32, k0_pay31 (kblk x1 0) q)

/-- The sums of one query head over all thirteen blocks. -/
def sums (q : Vec F S1024x128 .f32) (x1 : Vec F S16640x128 .bf16) (x2 : Vec F S16640x256 .bf16) : Vec F S1x1024x256 .f32 :=
  (hd q x1 x2 (st0 q x1) 13).2.1

/-- The block of outputs from the sums of its two heads. -/
def outOf (t0 t1 : Vec F S1x1024x256 .f32) : Vec F S1024x256 .bf16 := fun y =>
  if h : (y 1).val < 128 then
    k0_pay48 t0 fun a => match a with
      | ⟨0, _⟩ => ⟨(y 0).val, (y 0).isLt⟩
      | ⟨1, _⟩ => ⟨(y 1).val, h⟩
  else
    k0_pay49 t1 fun a => match a with
      | ⟨0, _⟩ => ⟨(y 0).val, (y 0).isLt⟩
      | ⟨1, _⟩ => ⟨(y 1).val - 128, by have : (y 1).val < 256 := (y 1).isLt; show _ < 128; omega⟩

/-- The block of outputs. -/
def outV (x0 : Vec F S1024x256 .f32) (x1 : Vec F S16640x128 .bf16) (x2 : Vec F S16640x256 .bf16) : Vec F S1024x256 .bf16 :=
  outOf (sums (qh0 x0) x1 x2) (sums (qh1 x0) x1 x2)

theorem read_out (arg5 : Memref sig .tc .vmem S1024x256 .bf16) (f : BufTy.Contents (Elt F) arg5.view.ty) (t0 t1 : Vec F S1x1024x256 .f32) :
    arg5.view.read (Elt F) (arg5.view.writes (Elt F) f
      [⟨Rect.unit (s := S1024x256) ![0, 128] S1024x128.size inb_S1024x256_S1024x128_0_128, k0_pay49 t1⟩,
       ⟨Rect.unit (s := S1024x256) ![0, 0] S1024x128.size inb_S1024x256_S1024x128_0_0, k0_pay48 t0⟩]) = outOf t0 t1 := by
  funext y
  unfold outOf
  split
  · next h =>
    rw [View.read_writes_cons_unit_of_not_mem (s := S1024x256) arg5.view f inb_S1024x256_S1024x128_0_128 _ _ y rfl 1 (Or.inl h)]
    refine View.read_writes_cons_unit_of_mem (s := S1024x256) arg5.view f inb_S1024x256_S1024x128_0_0 _ [] y _ rfl fun a => ?_
    match a with
    | ⟨0, _⟩ => show (y 0).val = 0 + (y 0).val; omega
    | ⟨1, _⟩ => show (y 1).val = 0 + (y 1).val; omega
  · next h =>
    refine View.read_writes_cons_unit_of_mem (s := S1024x256) arg5.view f inb_S1024x256_S1024x128_0_128 _ _ y _ rfl fun a => ?_
    match a with
    | ⟨0, _⟩ => show (y 0).val = 0 + (y 0).val; omega
    | ⟨1, _⟩ => show (y 1).val = 128 + ((y 1).val - 128); omega

theorem ld_qh0 (x0 : Vec F S1024x256 .f32) :
    View.ld (S := S1024x256) x0 (Rect.unit ![0, 0] S1024x128.size inb_S1024x256_S1024x128_0_0) = qh0 x0 := by
  funext y
  refine View.ld_unit_apply_of (S := S1024x256) x0 _ _ _ y _ fun a => ?_
  match a with
  | ⟨0, _⟩ => show (y 0).val = 0 + (y 0).val; omega
  | ⟨1, _⟩ => show (y 1).val = 0 + (y 1).val; omega

theorem ld_qh1 (x0 : Vec F S1024x256 .f32) :
    View.ld (S := S1024x256) x0 (Rect.unit ![0, 128] S1024x128.size inb_S1024x256_S1024x128_0_128) = qh1 x0 := by
  funext y
  refine View.ld_unit_apply_of (S := S1024x256) x0 _ _ _ y _ fun a => ?_
  match a with
  | ⟨0, _⟩ => show (y 0).val = 0 + (y 0).val; omega
  | ⟨1, _⟩ => show 128 + (y 1).val = 128 + (y 1).val; rfl

/-- Head 1's last update is the update of the loop. -/
theorem pay46_eq (v : Vec F S1280x256 .bf16) (s : Vec F S1x1024x1280 .f32) (m : Vec F S1x1024x1 .f32) (a : Vec F S1x1024x256 .f32) :
    k0_pay46 (k0_pay37 v) (k0_pay43 s) m a = k0_pay41 v s m a := rfl

section Last

variable (arg2 : Memref sig .tc .vmem S1024x256 .f32) (harg2 : arg2.IsWhole) (arg3 : Memref sig .tc .vmem S16640x128 .bf16) (harg3 : arg3.IsWhole) (arg4 : Memref sig .tc .vmem S16640x256 .bf16) (harg4 : arg4.IsWhole) (arg6 : Memref sig .tc .vmem S2x1024x1 .f32) (harg6 : arg6.IsWhole) (arg7 : Memref sig .tc .vmem S2x1024x256 .f32) (harg7 : arg7.IsWhole) (arg8 : Memref sig .tc .vmem S2x1024x1280 .f32) (harg8 : arg8.IsWhole)
variable (x0 : Vec F S1024x256 .f32) (x1 : Vec F S16640x128 .bf16) (x2 : Vec F S16640x256 .bf16)
variable (f6 : BufTy.Contents (Elt F) arg6.view.ty) (f7 : BufTy.Contents (Elt F) arg7.view.ty) (f8 : BufTy.Contents (Elt F) arg8.view.ty)

/-- The carried buffers at the loop's entry. -/
abbrev e6 : BufTy.Contents (Elt F) arg6.view.ty := arg6.view.writes (Elt F) f6
  [⟨Rect.unit (s := S2x1024x1) ![0, 0, 0] S2x1024x1.size inb_S2x1024x1_S2x1024x1_0_0_0, k0_pay28 (F := F)⟩]
abbrev e7 : BufTy.Contents (Elt F) arg7.view.ty := arg7.view.writes (Elt F) f7
  [⟨Rect.unit (s := S2x1024x256) ![0, 0, 0] S2x1024x256.size inb_S2x1024x256_S2x1024x256_0_0_0, k0_pay29 (F := F)⟩]
abbrev e8 : BufTy.Contents (Elt F) arg8.view.ty := arg8.view.writes (Elt F) f8
  [⟨Rect.unit (s := S2x1024x1280) ![1, 0, 0] S1x1024x1280.size inb_S2x1024x1280_S1x1024x1280_1_0_0,
      k0_pay32 (arg3.view.readAt (Elt F) (Rect.unit (s := S16640x128) ![0, 0] S1280x128.size inb_S16640x128_S1280x128_0_0).toLoadRect (harg3.unread x1)) (q1 arg2 (harg2.unread x0))⟩,
   ⟨Rect.unit (s := S2x1024x1280) ![0, 0, 0] S1x1024x1280.size inb_S2x1024x1280_S1x1024x1280_0_0_0,
      k0_pay31 (arg3.view.readAt (Elt F) (Rect.unit (s := S16640x128) ![0, 0] S1280x128.size inb_S16640x128_S1280x128_0_0).toLoadRect (harg3.unread x1)) (q0 arg2 (harg2.unread x0))⟩]

theorem e6_m0 : m0 arg6 (e6 (F := F) arg6 f6) = fun _ => FloatOps.ofBits .f32 0xF149F2CA#32 := by
  unfold m0 e6; rw [View.readAt_eq_ld]; rw [read_full (n := 1)]; rfl
theorem e6_m1 : m1 arg6 (e6 (F := F) arg6 f6) = fun _ => FloatOps.ofBits .f32 0xF149F2CA#32 := by
  unfold m1 e6; rw [View.readAt_eq_ld]; rw [read_full (n := 1)]; rfl
theorem e7_a0 : a0 arg7 (e7 (F := F) arg7 f7) = fun _ => FloatOps.ofBits .f32 0x00000000#32 := by
  unfold a0 e7; rw [View.readAt_eq_ld]; rw [read_full (n := 256)]; rfl
theorem e7_a1 : a1 arg7 (e7 (F := F) arg7 f7) = fun _ => FloatOps.ofBits .f32 0x00000000#32 := by
  unfold a1 e7; rw [View.readAt_eq_ld]; rw [read_full (n := 256)]; rfl

theorem kb_zero : arg3.view.readAt (Elt F) (Rect.unit (s := S16640x128) ![0, 0] S1280x128.size inb_S16640x128_S1280x128_0_0).toLoadRect (harg3.unread x1) = kblk x1 0 := by
  rw [View.readAt_eq_ld, harg3.read_unread]; exact ld_kblk x1 0 (by omega) _ rfl _
theorem vb_last : arg4.view.readAt (Elt F) (Rect.unit (s := S16640x256) ![15360, 0] S1280x256.size inb_S16640x256_S1280x256_15360_0).toLoadRect (harg4.unread x2) = vblk x2 12 := by
  rw [View.readAt_eq_ld, harg4.read_unread]; exact ld_vblk x2 12 (by omega) _ rfl _
theorem q0_eq : q0 arg2 (harg2.unread x0) = qh0 x0 := by
  unfold q0; rw [View.readAt_eq_ld, harg2.read_unread]; exact ld_qh0 x0
theorem q1_eq : q1 arg2 (harg2.unread x0) = qh1 x0 := by
  unfold q1; rw [View.readAt_eq_ld, harg2.read_unread]; exact ld_qh1 x0

theorem e8_s0 : s0 arg8 (e8 arg2 harg2 arg3 harg3 arg8 x0 x1 f8) = k0_pay31 (kblk x1 0) (qh0 x0) := by
  unfold s0 e8
  rw [View.readAt_eq_ld, kb_zero, q0_eq, q1_eq]
  exact (congrArg (fun z => View.ld (S := S2x1024x1280) z _) (read_planes (n := 1280) arg8.view f8 _ _ _ _ [])).trans (ld_glue_zero _ _ _)
theorem e8_s1 : s1 arg8 (e8 arg2 harg2 arg3 harg3 arg8 x0 x1 f8) = k0_pay31 (kblk x1 0) (qh1 x0) := by
  unfold s1 e8
  rw [View.readAt_eq_ld, kb_zero, q0_eq, q1_eq]
  exact (congrArg (fun z => View.ld (S := S2x1024x1280) z _) (read_planes (n := 1280) arg8.view f8 _ _ _ _ [])).trans (ld_glue_one _ _ _)

theorem last0 (T : ℕ) (hT : T = 6) :
    k0_pay41 (arg4.view.readAt (Elt F) (Rect.unit (s := S16640x256) ![15360, 0] S1280x256.size inb_S16640x256_S1280x256_15360_0).toLoadRect (harg4.unread x2))
      (s0 arg8 (C8 arg2 arg3 arg4 arg6 arg7 arg8 harg8 (harg2.unread x0) (harg3.unread x1) (harg4.unread x2) (e6 arg6 f6) (e7 arg7 f7) (e8 arg2 harg2 arg3 harg3 arg8 x0 x1 f8) T))
      (m0 arg6 (C6 arg2 arg3 arg4 arg6 harg6 arg7 arg8 (harg2.unread x0) (harg3.unread x1) (harg4.unread x2) (e6 arg6 f6) (e7 arg7 f7) (e8 arg2 harg2 arg3 harg3 arg8 x0 x1 f8) T))
      (a0 arg7 (C7 arg2 arg3 arg4 arg6 arg7 harg7 arg8 (harg2.unread x0) (harg3.unread x1) (harg4.unread x2) (e6 arg6 f6) (e7 arg7 f7) (e8 arg2 harg2 arg3 harg3 arg8 x0 x1 f8) T))
    = sums (qh0 x0) x1 x2 := by
  subst hT
  rw [C6_m0, C7_a0, C8_s0, vb_last]
  unfold h0
  rw [e6_m0, e7_a0, e8_s0, q0_eq, harg3.read_unread, harg4.read_unread]
  rfl

theorem last1 (T : ℕ) (hT : T = 6) :
    k0_pay41 (arg4.view.readAt (Elt F) (Rect.unit (s := S16640x256) ![15360, 0] S1280x256.size inb_S16640x256_S1280x256_15360_0).toLoadRect (harg4.unread x2))
      (s1 arg8 (C8 arg2 arg3 arg4 arg6 arg7 arg8 harg8 (harg2.unread x0) (harg3.unread x1) (harg4.unread x2) (e6 arg6 f6) (e7 arg7 f7) (e8 arg2 harg2 arg3 harg3 arg8 x0 x1 f8) T))
      (m1 arg6 (C6 arg2 arg3 arg4 arg6 harg6 arg7 arg8 (harg2.unread x0) (harg3.unread x1) (harg4.unread x2) (e6 arg6 f6) (e7 arg7 f7) (e8 arg2 harg2 arg3 harg3 arg8 x0 x1 f8) T))
      (a1 arg7 (C7 arg2 arg3 arg4 arg6 arg7 harg7 arg8 (harg2.unread x0) (harg3.unread x1) (harg4.unread x2) (e6 arg6 f6) (e7 arg7 f7) (e8 arg2 harg2 arg3 harg3 arg8 x0 x1 f8) T))
    = sums (qh1 x0) x1 x2 := by
  subst hT
  rw [C6_m1, C7_a1, C8_s1, vb_last]
  unfold h1
  rw [e6_m1, e7_a1, e8_s1, q1_eq, harg3.read_unread, harg4.read_unread]
  rfl

end Last

set_option maxHeartbeats 1000000 in
theorem run (c : Dev nD) (i : grid0.Coords) (arg2 : Memref sig .tc .vmem S1024x256 .f32) (harg2 : arg2.IsWhole) (arg3 : Memref sig .tc .vmem S16640x128 .bf16) (harg3 : arg3.IsWhole) (arg4 : Memref sig .tc .vmem S16640x256 .bf16) (harg4 : arg4.IsWhole) (arg5 : Memref sig .tc .vmem S1024x256 .bf16) (harg5 : arg5.IsWhole) (arg6 : Memref sig .tc .vmem S2x1024x1 .f32) (harg6 : arg6.IsWhole) (arg7 : Memref sig .tc .vmem S2x1024x256 .f32) (harg7 : arg7.IsWhole) (arg8 : Memref sig .tc .vmem S2x1024x1280 .f32) (harg8 : arg8.IsWhole) (arg9 : Memref sig .tc .vmem S2x1024x1280 .f32) (harg9 : arg9.IsWhole)
    (x0 : Vec F S1024x256 .f32) (x1 : Vec F S16640x128 .bf16) (x2 : Vec F S16640x256 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ ((owns (c : Thread nD τ) arg2 fullShare x0 ∗ owns (c : Thread nD τ) arg3 fullShare x1 ∗ owns (c : Thread nD τ) arg4 fullShare x2 ∗ owns (c : Thread nD τ) arg5 fullShare (outV x0 x1 x2) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp Idealize.ShloMosaic.frame (wpE (defs₀ (F := F)) Variants.none (c : Thread nD τ) none) E
          (cc0_flash_attention (F := F) i arg2 harg2 arg3 harg3 arg4 harg4 arg5 harg5 arg6 harg6 arg7 harg7 arg8 harg8 arg9 harg9) K := by
  intro E K
  simp only [cc0_flash_attention_eq_skeleton]
  unfold cc0_flash_attention_skel
  simp only [k0_part7_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  obtain rfl := harg2.eq_unread hf0
  obtain rfl := harg3.eq_unread hf1
  obtain rfl := harg4.eq_unread hf2
  sl_exec
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]
  · iexists _; isplitr; swap; · iexact H3
    ipureintro
    refine (read_out _ _ _ _).trans ?_
    refine congrArg₂ outOf ?_ ?_
    · sl_unfold_words
      refine (readCov_zero _ _ _ _ _ _).trans ?_
      refine last0 (hT := ?_) ..
      decide +kernel
    · sl_unfold_words
      refine (View.readCov_cons_toLoadRect ..).trans ?_
      refine (pay46_eq _ _ _ _).trans ?_
      refine last1 (hT := ?_) ..
      decide +kernel
  isplitl [HS0]; · iexists _, _; isplitr; swap; · iexact HS0
                   ipureintro; rfl
  isplitl [HS1]; · iexists _, _; isplitr; swap; · iexact HS1
                   ipureintro; rfl
  isplitl [HS2]; · iexists _, _; isplitr; swap; · iexact HS2
                   ipureintro; rfl
  iexists _, _; isplitr; swap; · iexact HS3
  ipureintro; rfl

end Body

end Cert.KernelIdeal.Flash

end
-- ==== Proof.FlashValue.lean ====
/-
  The attention kernel's run read as a value: each grid point leaves the block of outputs computed from its blocks of
  queries, keys and values, and the blocks together are the result array.
-/
module

public import proofs.«01_k».proof.Proof.FlashRun
public import Idealize.ShloMosaic.Lib.Claim
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output's buffer at point `t`. -/
def out (c : Dev nD) (t : Fin cfg0.N) : Vec F S1024x256 .bf16 := outV (X0_0 m c t) (iblk m c 1 t) (iblk m c 2 t)

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => out m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply ((Flash.run c (grid0.coords t) _ _ _ _ _ _ _ _ _ _ _ _ _ _ _ _ (X0_0 m c t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-! ## The result array -/

/-- Row block `t` of the queries at key-value head `h` (its two query heads side by side), -/
def qB (Q : Vec F S16640x512 .f32) (t : ℕ) (h : ℕ) : Vec F S1024x256 .f32 := fun y => Q fun a => match a with
  | ⟨0, _⟩ => ⟨(1024 * t + (y 0).val) % 16640, Nat.mod_lt _ (by decide)⟩
  | ⟨1, _⟩ => ⟨(256 * h + (y 1).val) % 512, Nat.mod_lt _ (by decide)⟩
/-- the keys of key-value head `h`, -/
def kB (K : Vec F S16640x256 .bf16) (h : ℕ) : Vec F S16640x128 .bf16 := fun y => K fun a => match a with
  | ⟨0, _⟩ => ⟨(y 0).val, (y 0).isLt⟩
  | ⟨1, _⟩ => ⟨(128 * h + (y 1).val) % 256, Nat.mod_lt _ (by decide)⟩
/-- and its values with the ones beside them. -/
def vB (W : Vec F S16640x512 .bf16) (h : ℕ) : Vec F S16640x256 .bf16 := fun y => W fun a => match a with
  | ⟨0, _⟩ => ⟨(y 0).val, (y 0).isLt⟩
  | ⟨1, _⟩ => ⟨(256 * h + (y 1).val) % 512, Nat.mod_lt _ (by decide)⟩

/-- The result array, of the arrays the kernel reads. -/
def result (Q : Vec F S16640x512 .f32) (K : Vec F S16640x256 .bf16) (W : Vec F S16640x512 .bf16) : Vec F S16384x512 .bf16 := fun i =>
  outV (qB Q ((i 0).val / 1024) ((i 1).val / 256)) (kB K ((i 1).val / 256)) (vB W ((i 1).val / 256)) fun a => match a with
    | ⟨0, _⟩ => ⟨(i 0).val % 1024, Nat.mod_lt _ (by decide)⟩
    | ⟨1, _⟩ => ⟨(i 1).val % 256, Nat.mod_lt _ (by decide)⟩

theorem idx0 : ∀ t : Fin cfg0.N, win0_0.index t = ![(grid0.coords t 1).val, (grid0.coords t 0).val] :=
  (by decide +kernel : ∀ t : Fin grid0.N, _)
theorem idx1 : ∀ t : Fin cfg0.N, win0_1.index t = ![0, (grid0.coords t 0).val] :=
  (by decide +kernel : ∀ t : Fin grid0.N, _)
theorem idx2 : ∀ t : Fin cfg0.N, win0_2.index t = ![0, (grid0.coords t 0).val] :=
  (by decide +kernel : ∀ t : Fin grid0.N, _)
theorem idx3 : ∀ t : Fin cfg0.N, win0_3.index t = ![(grid0.coords t 1).val, (grid0.coords t 0).val] :=
  (by decide +kernel : ∀ t : Fin grid0.N, _)

theorem co0 (t : Fin cfg0.N) : (grid0.coords t 0).val < 2 := (grid0.coords t 0).isLt
theorem co1 (t : Fin cfg0.N) : (grid0.coords t 1).val < 16 := (grid0.coords t 1).isLt

theorem X0_eq (c : Dev nD) (t : Fin cfg0.N) : X0_0 m c t = qB (V m c main_arg0) (grid0.coords t 1).val (grid0.coords t 0).val := by
  funext y
  have h0 := co0 t
  have h1 := co1 t
  unfold X0_0 Pipeline.Window.fill
  rw [dif_pos (moved0_0 t y)]
  blk_simp [iblk]
  refine congrArg (V m c main_arg0) ?_
  have e := idx0 t
  blk_ext [e]

theorem iblk1_eq (c : Dev nD) (t : Fin cfg0.N) : iblk m c 1 t = kB (V m c main_v0) (grid0.coords t 0).val := by
  funext y
  have h0 := co0 t
  blk_simp [iblk]
  refine congrArg (V m c main_v0) ?_
  have e := idx1 t
  blk_ext [e]

theorem iblk2_eq (c : Dev nD) (t : Fin cfg0.N) : iblk m c 2 t = vB (V m c main_v5) (grid0.coords t 0).val := by
  funext y
  have h0 := co0 t
  blk_simp [iblk]
  refine congrArg (V m c main_v5) ?_
  have e := idx2 t
  blk_ext [e]

theorem final_o (c : Dev nD) : (dats m 0 c).arrAt 3 cfg0.N = result (V m c main_arg0) (V m c main_v0) (V m c main_v5) := by
  refine (dats m 0 c).arrAt_eq_of_covers 3 _ (by decide +kernel) fun t hf y => ?_
  blk_simp
  rw [after0_3]
  unfold out
  rw [X0_eq, iblk1_eq, iblk2_eq]
  unfold result
  have e := idx3 t
  have hy0 : (y 0).val < 1024 := (y 0).isLt
  have hy1 : (y 1).val < 256 := (y 1).isLt
  have h0 : ((win0_3.blk t).view.emb y 0).val = 1024 * (grid0.coords t 1).val + (y 0).val := by blk_simp [e]; omega
  have h1 : ((win0_3.blk t).view.emb y 1).val = 256 * (grid0.coords t 0).val + (y 1).val := by blk_simp [e]; omega
  rw [show ((win0_3.blk t).view.emb y 0).val / 1024 = (grid0.coords t 1).val by omega,
    show ((win0_3.blk t).view.emb y 1).val / 256 = (grid0.coords t 0).val by omega]
  refine congrArg (outV _ _ _) (funext fun a => Fin.ext ?_)
  match a with
  | ⟨0, _⟩ => show (y 0).val = ((win0_3.blk t).view.emb y 0).val % 1024; omega
  | ⟨1, _⟩ => show (y 1).val = ((win0_3.blk t).view.emb y 1).val % 256; omega

/-! ## What the kernel reads, from the arguments -/

/-- The values of each head with 128 columns of ones beside them. -/
def vS (x : Vec F S16640x256 .f32) : Vec F S16640x512 .bf16 :=
  shapeCast S16640x512 (concatenate S16640x2x256 2
    [⟨S16640x2x128, shapeCast S16640x2x128 (truncf .bf16 x bitsLt_bf16_f32) shapeCasts_S16640x256_S16640x2x128⟩,
     ⟨S16640x2x128, broadcastInDim S16640x2x128 ![] bcast_S_S16640x2x128 (constant S_ .bf16 0x3F80#16)⟩]
    concatenates_S16640x2x128_S16640x2x128_S16640x2x256_d2) shapeCasts_S16640x2x256_S16640x512

theorem V_main_v0 (c : Dev nD) : V m c main_v0 = truncf .bf16 (m ((c : Thread nD τ).loc main_arg1)) bitsLt_bf16_f32 := by
  unfold V hostOps0; after_results
theorem V_main_v5 (c : Dev nD) : V m c main_v5 = vS (m ((c : Thread nD τ).loc main_arg2)) := by
  unfold V hostOps0; after_results; rfl

/-- The run: the result array of the argument arrays, which end unchanged. -/
theorem value : θ_run defs (onTc (τ := τ) (main (F := F))) ⟨m, fun _ => 0, ρ⟩ fun r => ∀ c : Dev nD,
      r.2.mem ((c : Thread nD τ).loc main_v6) = result (m ((c : Thread nD τ).loc main_arg0))
          (truncf .bf16 (m ((c : Thread nD τ).loc main_arg1)) bitsLt_bf16_f32) (vS (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans ((final_o m c).trans (by rw [V_main_arg0, V_main_v0, V_main_v5])), h.2 c⟩)
    (θ_run_and (run_main m ρ) (frame_of m ρ (dats m) (A_eq m) (run_main m ρ)))

end Cert.KernelIdeal.Flash

end
-- ==== Proof.FlashPoint.lean ====
/-
  The attention kernel's arithmetic read at one index, over the extended reals.
-/
module

public import proofs.«01_k».proof.Proof.FlashRun
public import Idealize.ShloMosaic.Lib.Pointwise

@[expose] public section

set_option maxRecDepth 16384

noncomputable section

namespace Cert.KernelIdeal.Flash

open Cert.KernelIdeal Cert.KernelIdeal.Gen
open Idealize.ShloMosaic

theorem ofBits_neg_inf : Ideal.ofBits .f32 0xFF800000#32 = ⊥ := by simp [Ideal.ofBits, Ideal.ieee]

theorem pay31_apply (kb : Vec Ideal S1280x128 .bf16) (q : Vec Ideal S1024x128 .f32) (r : Fin 1024) (j : Fin 1280) :
    k0_pay31 (F := Ideal) kb q (ix3 0 r j)
      = ∑ d : Fin 128, (q (ix2 r d) * Named.named (F := Ideal) (φ := .f32) κ "qk_scale" 0x3E0293EE#32) * kb (ix2 j d) := by
  pointwise [k0_pay31, k0_pay30]

theorem pay42_apply (s : Vec Ideal S1x1024x1280 .f32) (m : Vec Ideal S1x1024x1 .f32) (r : Fin 1024) :
    k0_pay42 (F := Ideal) s m (ix3 0 r 0)
      = max (m (ix3 0 r 0)) (Finset.univ.fold max ⊥ fun k : Fin 1280 => s (ix3 0 r k)) := by
  pointwise [k0_pay42, k0_pay40, k0_pay39, k0_pay38]
  rw [ofBits_neg_inf]

theorem pay41_apply (v : Vec Ideal S1280x256 .bf16) (s : Vec Ideal S1x1024x1280 .f32) (m : Vec Ideal S1x1024x1 .f32)
    (a : Vec Ideal S1x1024x256 .f32) (r : Fin 1024) (e : Fin 256) :
    k0_pay41 (F := Ideal) v s m a (ix3 0 r e)
      = Ideal.exp2 (m (ix3 0 r 0) - k0_pay42 (F := Ideal) s m (ix3 0 r 0)) * a (ix3 0 r e)
        + ∑ k : Fin 1280, Ideal.exp2 (s (ix3 0 r k) - k0_pay42 (F := Ideal) s m (ix3 0 r 0)) * v (ix2 k e) := by
  pointwise [k0_pay41, k0_pay42, k0_pay40, k0_pay39, k0_pay38, k0_pay37]
  rfl

theorem pay48_apply (t : Vec Ideal S1x1024x256 .f32) (r : Fin 1024) (e : Fin 128) :
    k0_pay48 (F := Ideal) t (ix2 r e) = Ideal.div (t (ix3 0 r (Fin.castAdd 128 e))) (t (ix3 0 r (Fin.natAdd 128 e))) := by
  pointwise [k0_pay48]
  rfl

theorem pay49_apply (t : Vec Ideal S1x1024x256 .f32) (r : Fin 1024) (e : Fin 128) :
    k0_pay49 (F := Ideal) t (ix2 r e) = Ideal.div (t (ix3 0 r (Fin.castAdd 128 e))) (t (ix3 0 r (Fin.natAdd 128 e))) := by
  pointwise [k0_pay49]
  rfl

end Cert.KernelIdeal.Flash

end
-- ==== Proof.FlashMath.lean ====
/-
  Attention by blocks, as mathematics: a weighted sum that is kept relative to a running maximum and rescaled whenever
  the maximum grows is the weighted sum relative to the last maximum, and two such sums divided do not depend on it.
-/
module

public import Idealize.ShloMosaic.PureOps.Ideal.Laws
public import Idealize.ShloMosaic.Lib.IdealHost
public import Mathlib.Analysis.SpecialFunctions.Pow.Real

@[expose] public section

noncomputable section

namespace Cert.Math

open Idealize.ShloMosaic
open scoped BigOperators

/-- The greatest of a real and of finitely many reals is a real. -/
theorem fold_max_real {ι : Type} (s : Finset ι) (f : ι → ℝ) (m : ℝ) :
    ∃ x : ℝ, max (m : EReal) (s.fold max ⊥ fun k => (f k : EReal)) = (x : EReal) := by
  classical
  induction s using Finset.induction_on with
  | empty => exact ⟨m, by simp⟩
  | insert a s ha ih =>
    obtain ⟨x, hx⟩ := ih
    refine ⟨max (f a) x, ?_⟩
    rw [Finset.fold_insert ha, max_left_comm, hx, EReal.coe_strictMono.monotone.map_max]

/-- So is the greatest of a nonempty family of reals. -/
theorem fold_max_real' {ι : Type} (s : Finset ι) (f : ι → ℝ) (a : ι) (ha : a ∈ s) :
    ∃ x : ℝ, s.fold max ⊥ (fun k => (f k : EReal)) = (x : EReal) := by
  classical
  obtain ⟨x, hx⟩ := fold_max_real (s.erase a) f (f a)
  refine ⟨x, ?_⟩
  rw [← Finset.insert_erase ha, Finset.fold_insert (Finset.notMem_erase a s)]
  exact hx

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative goes into a sum of extended reals. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- One block more: the sum so far, rescaled from one maximum to the next, and the block's own sum. -/
theorem step (s : ℕ → ℝ) (w : ℕ → EReal) (b n : ℕ) (M M' : ℝ) :
    Ideal.exp2 ((M : EReal) - (M' : EReal)) * (∑ i ∈ Finset.range (b * n), ((Real.rpow 2 (s i - M) : ℝ) : EReal) * w i)
        + ∑ k : Fin b, Ideal.exp2 ((s (b * n + k.val) : EReal) - (M' : EReal)) * w (b * n + k.val)
      = ∑ i ∈ Finset.range (b * (n + 1)), ((Real.rpow 2 (s i - M') : ℝ) : EReal) * w i := by
  rw [← EReal.coe_sub, Ideal.exp2_coe, mul_sum _ (Real.rpow 2 (M - M')) (Real.rpow_nonneg (by norm_num) _), Nat.mul_succ, Finset.sum_range_add,
    ← Fin.sum_univ_eq_sum_range (fun k => ((Real.rpow 2 (s (b * n + k) - M') : ℝ) : EReal) * w (b * n + k)) b]
  congr 1
  · refine Finset.sum_congr rfl fun i _ => ?_
    rw [← mul_assoc, ← EReal.coe_mul]
    congr 2
    show (2 : ℝ) ^ (M - M') * (2 : ℝ) ^ (s i - M) = (2 : ℝ) ^ (s i - M')
    rw [← Real.rpow_add (by norm_num)]
    congr 1
    ring

/-- The weight of position `i` among `N` scores. -/
def soft (t : ℕ → ℝ) (N i : ℕ) : ℝ := Real.exp (t i) / ∑ j ∈ Finset.range N, Real.exp (t j)

theorem sum_exp_pos (t : ℕ → ℝ) (N : ℕ) (hN : 0 < N) : 0 < ∑ j ∈ Finset.range N, Real.exp (t j) :=
  Finset.sum_pos (fun _ _ => Real.exp_pos _) ⟨0, Finset.mem_range.mpr hN⟩

theorem rpow_two (x t : ℝ) (M : ℝ) (h : t = x * Real.log 2) : Real.rpow 2 (x - M) = Real.exp (t - M * Real.log 2) := by
  show (2 : ℝ) ^ (x - M) = _
  rw [Real.rpow_def_of_pos (by norm_num), h]
  congr 1
  ring

/-- The two sums divided: the mean by the weights, free of the maximum. -/
theorem soft_div (s t : ℕ → ℝ) (w u : ℕ → EReal) (N : ℕ) (hN : 0 < N) (M : ℝ) (h : ∀ i, t i = s i * Real.log 2) (hu : ∀ i, u i = 1) :
    Ideal.div (∑ i ∈ Finset.range N, ((Real.rpow 2 (s i - M) : ℝ) : EReal) * w i)
        (∑ i ∈ Finset.range N, ((Real.rpow 2 (s i - M) : ℝ) : EReal) * u i)
      = ∑ i ∈ Finset.range N, (soft t N i : EReal) * w i := by
  have hp := sum_exp_pos t N hN
  simp only [hu, mul_one, rpow_two _ _ M (h _)]
  rw [← coe_sum]
  have hD : ∑ i ∈ Finset.range N, Real.exp (t i - M * Real.log 2) = (∑ i ∈ Finset.range N, Real.exp (t i)) * Real.exp (-(M * Real.log 2)) := by
    rw [Finset.sum_mul]
    exact Finset.sum_congr rfl fun i _ => by rw [← Real.exp_add, sub_eq_add_neg]
  have hE := Real.exp_pos (-(M * Real.log 2))
  have h0 : ∑ i ∈ Finset.range N, Real.exp (t i - M * Real.log 2) ≠ 0 := by rw [hD]; positivity
  rw [Ideal.div_coe h0, mul_comm, mul_sum _ _ (by rw [hD]; positivity)]
  refine Finset.sum_congr rfl fun i _ => ?_
  rw [← mul_assoc, ← EReal.coe_mul]
  congr 2
  rw [hD, soft, sub_eq_add_neg, Real.exp_add]
  field_simp

/-- The weight as the reference computes it. -/
theorem soft_ref (t : ℕ → ℝ) (N : ℕ) (hN : 0 < N) (μ : ℝ) (i : ℕ) :
    Ideal.div (Ideal.exp ((t i : EReal) - (μ : EReal))) (∑ j : Fin N, Ideal.exp ((t j.val : EReal) - (μ : EReal))) = (soft t N i : EReal) := by
  have hp := sum_exp_pos t N hN
  simp only [← EReal.coe_sub, Ideal.exp_coe]
  rw [← coe_sum, Fin.sum_univ_eq_sum_range (fun j => Real.exp (t j - μ)) N]
  have hD : ∑ i ∈ Finset.range N, Real.exp (t i - μ) = (∑ i ∈ Finset.range N, Real.exp (t i)) * Real.exp (-μ) := by
    rw [Finset.sum_mul]
    exact Finset.sum_congr rfl fun i _ => by rw [← Real.exp_add, sub_eq_add_neg]
  have hE := Real.exp_pos (-μ)
  have h0 : ∑ i ∈ Finset.range N, Real.exp (t i - μ) ≠ 0 := by rw [hD]; positivity
  rw [Ideal.div_coe h0, ← EReal.coe_mul]
  congr 1
  rw [hD, soft, sub_eq_add_neg, Real.exp_add]
  field_simp

end Cert.Math

end
-- ==== Proof.FlashFold.lean ====
/-
  The attention kernel's loop read as mathematics, over the extended reals: after `n` blocks of keys a row's sums are
  the sums over the first `1280 n` positions of the values weighted by powers of two relative to the row's maximum.
-/
module

public import proofs.«01_k».proof.Proof.FlashPoint
public import proofs.«01_k».proof.Proof.FlashMath

@[expose] public section

set_option maxRecDepth 16384

noncomputable section

namespace Cert.KernelIdeal.Flash

open Cert.KernelIdeal Cert.KernelIdeal.Gen
open Idealize.ShloMosaic
open scoped BigOperators

/-- The scale of the scores, in units of the logarithm of two. -/
def kap : ℝ := (Real.sqrt 128)⁻¹ * (Real.log 2)⁻¹

theorem named_eq : Named.named (F := Ideal) (φ := .f32) κ "qk_scale" 0x3E0293EE#32 = (kap : EReal) :=
  IdealRules.named_const.ideal_named_scalar _ _ _ _ rfl

/-- Position `i` among the 16640 rows. -/
def pos (i : ℕ) : Fin 16640 := ⟨i % 16640, Nat.mod_lt _ (by decide)⟩

/-- A query's score against row `i`, in units of the logarithm of two. -/
def sc (qr : Fin 128 → ℝ) (kr : Fin 16640 → Fin 128 → ℝ) (i : ℕ) : ℝ := ∑ d, qr d * kap * kr (pos i) d

section Fold

variable (q : Vec Ideal S1024x128 .f32) (x1 : Vec Ideal S16640x128 .bf16) (x2 : Vec Ideal S16640x256 .bf16)
variable (r : Fin 1024) (qr : Fin 128 → ℝ) (kr : Fin 16640 → Fin 128 → ℝ)

/-- Column `e` of the values. -/
def wcol (e : Fin 256) (i : ℕ) : EReal := x2 (ix2 (pos i) e)

theorem kblk_apply (n : ℕ) (j : Fin 1280) (d : Fin 128) : kblk x1 n (ix2 j d) = x1 (ix2 (pos (1280 * n + j.val)) d) := by
  unfold kblk
  refine congrArg x1 (funext fun a => ?_)
  match a with
  | ⟨0, _⟩ => rfl
  | ⟨1, _⟩ => rfl

theorem vblk_apply (n : ℕ) (j : Fin 1280) (e : Fin 256) : vblk x2 n (ix2 j e) = wcol x2 e (1280 * n + j.val) := by
  unfold vblk wcol
  refine congrArg x2 (funext fun a => ?_)
  match a with
  | ⟨0, _⟩ => rfl
  | ⟨1, _⟩ => rfl

theorem scores (hq : ∀ d, q (ix2 r d) = (qr d : EReal)) (hk : ∀ i d, x1 (ix2 i d) = (kr i d : EReal)) (n : ℕ) (j : Fin 1280) :
    k0_pay31 (F := Ideal) (kblk x1 n) q (ix3 0 r j) = (sc qr kr (1280 * n + j.val) : EReal) := by
  rw [pay31_apply, named_eq, sc, Math.coe_sum]
  refine Finset.sum_congr rfl fun d _ => ?_
  rw [kblk_apply, hq, hk, EReal.coe_mul, EReal.coe_mul]

theorem hd_scores (n : ℕ) : (hd q x1 x2 (st0 q x1) n).2.2 = k0_pay31 (kblk x1 n) q := by
  cases n <;> rfl

theorem start : Ideal.ofBits .f32 0xF149F2CA#32 = ((-1000000015047466219876688855040 : ℝ) : EReal) := by
  simp [Ideal.ofBits, Ideal.ieee, -EReal.coe_mul]; norm_num

theorem fold_inv (hq : ∀ d, q (ix2 r d) = (qr d : EReal)) (hk : ∀ i d, x1 (ix2 i d) = (kr i d : EReal)) (n : ℕ) :
    ∃ M : ℝ, (hd q x1 x2 (st0 q x1) n).1 (ix3 0 r 0) = (M : EReal)
      ∧ ∀ e : Fin 256, (hd q x1 x2 (st0 q x1) n).2.1 (ix3 0 r e)
        = ∑ i ∈ Finset.range (1280 * n), ((Real.rpow 2 (sc qr kr i - M) : ℝ) : EReal) * wcol x2 e i := by
  induction n with
  | zero =>
    refine ⟨_, start, fun e => ?_⟩
    rw [Nat.mul_zero, Finset.range_zero, Finset.sum_empty]
    exact Ideal.ofBits_zero_f32
  | succ n ih =>
    obtain ⟨M, hM, hA⟩ := ih
    have hs := hd_scores q x1 x2 n
    obtain ⟨M', hM'⟩ := Math.fold_max_real Finset.univ (fun k : Fin 1280 => sc qr kr (1280 * n + k.val)) M
    have hm : k0_pay42 (F := Ideal) (hd q x1 x2 (st0 q x1) n).2.2 (hd q x1 x2 (st0 q x1) n).1 (ix3 0 r 0) = (M' : EReal) := by
      rw [pay42_apply, hM, hs, ← hM']
      simp only [scores q x1 r qr kr hq hk]
    refine ⟨M', hm, fun e => ?_⟩
    show k0_pay41 (F := Ideal) (vblk x2 n) (hd q x1 x2 (st0 q x1) n).2.2 (hd q x1 x2 (st0 q x1) n).1 (hd q x1 x2 (st0 q x1) n).2.1 (ix3 0 r e) = _
    rw [pay41_apply, hm, hM, hA, hs]
    simp only [scores q x1 r qr kr hq hk, vblk_apply]
    exact Math.step (sc qr kr) (wcol x2 e) 1280 n M M'

theorem sums_apply (hq : ∀ d, q (ix2 r d) = (qr d : EReal)) (hk : ∀ i d, x1 (ix2 i d) = (kr i d : EReal)) :
    ∃ M : ℝ, ∀ e : Fin 256, sums q x1 x2 (ix3 0 r e)
        = ∑ i ∈ Finset.range 16640, ((Real.rpow 2 (sc qr kr i - M) : ℝ) : EReal) * wcol x2 e i :=
  let ⟨M, _, h⟩ := fold_inv q x1 x2 r qr kr hq hk 13
  ⟨M, h⟩

end Fold

/-- A query's score against row `i`. -/
def tsc (qr : Fin 128 → ℝ) (kr : Fin 16640 → Fin 128 → ℝ) (i : ℕ) : ℝ := (∑ d, qr d * kr (pos i) d) / Real.sqrt 128

theorem tsc_eq (qr : Fin 128 → ℝ) (kr : Fin 16640 → Fin 128 → ℝ) (i : ℕ) : tsc qr kr i = sc qr kr i * Real.log 2 := by
  have h : Real.log 2 ≠ 0 := (Real.log_pos (by norm_num)).ne'
  rw [tsc, sc, div_eq_mul_inv, Finset.sum_mul, Finset.sum_mul]
  refine Finset.sum_congr rfl fun d _ => ?_
  rw [kap]
  field_simp

/-- One head's output at row `r` and column `e`: the mean of the values by the weights of the row's scores. -/
theorem head_apply (q : Vec Ideal S1024x128 .f32) (x1 : Vec Ideal S16640x128 .bf16) (x2 : Vec Ideal S16640x256 .bf16)
    (r : Fin 1024) (qr : Fin 128 → ℝ) (kr : Fin 16640 → Fin 128 → ℝ)
    (hq : ∀ d, q (ix2 r d) = (qr d : EReal)) (hk : ∀ i d, x1 (ix2 i d) = (kr i d : EReal))
    (h1 : ∀ (i : Fin 16640) (e : Fin 128), x2 (ix2 i (Fin.natAdd 128 e)) = 1) (e : Fin 128) :
    Ideal.div (sums q x1 x2 (ix3 0 r (Fin.castAdd 128 e))) (sums q x1 x2 (ix3 0 r (Fin.natAdd 128 e)))
      = ∑ i ∈ Finset.range 16640, (Math.soft (tsc qr kr) 16640 i : EReal) * x2 (ix2 (pos i) (Fin.castAdd 128 e)) := by
  obtain ⟨M, h⟩ := sums_apply q x1 x2 r qr kr hq hk
  rw [h, h]
  exact Math.soft_div (sc qr kr) (tsc qr kr) (wcol x2 _) (wcol x2 _) 16640 (by decide) M (tsc_eq qr kr) fun i => h1 (pos i) e

end Cert.KernelIdeal.Flash

end
-- ==== Proof.FlashSpec.lean ====
/-
  The attention kernel's result array as mathematics: each element is the mean of a column of the values by the weights
  of its query's scores.
-/
module

public import proofs.«01_k».proof.Proof.FlashFold
public import proofs.«01_k».proof.Proof.FlashValue

@[expose] public section

set_option maxRecDepth 16384

noncomputable section

namespace Cert.KernelIdeal.Flash

open Cert.KernelIdeal Cert.KernelIdeal.Gen
open Idealize.ShloMosaic
open scoped BigOperators

/-- Column `d` of query head `c / 128` in the row of queries. -/
def qcol (c : Fin 512) (d : Fin 128) : Fin 512 := ⟨c.val / 128 * 128 + d.val, by have := c.isLt; have := d.isLt; omega⟩
/-- Column `d` of the key-value head of query head `c / 128`. -/
def kcol (c : Fin 512) (d : Fin 128) : Fin 256 := ⟨c.val / 256 * 128 + d.val, by have := c.isLt; have := d.isLt; omega⟩
/-- The value column of output column `c`. -/
def vcol (c : Fin 512) : Fin 256 := ⟨c.val / 256 * 128 + c.val % 128, by have := c.isLt; omega⟩
/-- A query's row among all rows. -/
def qrow (a : Fin 16384) : Fin 16640 := ⟨a.val, Nat.lt_trans a.isLt (by decide)⟩

/-- Attention: row `a` and column `c` of the output, from real queries and keys and any values. -/
def attn (Q : S16640x512.Idx → ℝ) (K : S16640x256.Idx → ℝ) (V : Vec Ideal S16640x256 .f32) (a : Fin 16384) (c : Fin 512) : EReal :=
  ∑ i ∈ Finset.range 16640,
    (Math.soft (tsc (fun d => Q (ix2 (qrow a) (qcol c d))) fun j d => K (ix2 j (kcol c d))) 16640 i : EReal) * V (ix2 (pos i) (vcol c))

theorem qh0_apply (x0 : Vec Ideal S1024x256 .f32) (r : Fin 1024) (d : Fin 128) : qh0 x0 (ix2 r d) = x0 (ix2 r (Fin.castAdd 128 d)) := by
  unfold qh0
  refine congrArg x0 (funext fun a => ?_)
  match a with
  | ⟨0, _⟩ => rfl
  | ⟨1, _⟩ => rfl

theorem qh1_apply (x0 : Vec Ideal S1024x256 .f32) (r : Fin 1024) (d : Fin 128) : qh1 x0 (ix2 r d) = x0 (ix2 r (Fin.natAdd 128 d)) := by
  unfold qh1
  refine congrArg x0 (funext fun a => ?_)
  match a with
  | ⟨0, _⟩ => rfl
  | ⟨1, _⟩ => rfl

theorem qB_apply (Q : Vec Ideal S16640x512 .f32) (t h : ℕ) (r : Fin 1024) (e : Fin 256) (a : Fin 16640) (c : Fin 512)
    (ha : a.val = 1024 * t + r.val) (hc : c.val = 256 * h + e.val) : qB Q t h (ix2 r e) = Q (ix2 a c) := by
  unfold qB
  refine congrArg Q (funext fun b => Fin.ext ?_)
  have := a.isLt
  have := c.isLt
  match b with
  | ⟨0, _⟩ => show (1024 * t + r.val) % 16640 = a.val; omega
  | ⟨1, _⟩ => show (256 * h + e.val) % 512 = c.val; omega

theorem kB_apply (K : Vec Ideal S16640x256 .bf16) (h : ℕ) (i : Fin 16640) (d : Fin 128) (c : Fin 256)
    (hc : c.val = 128 * h + d.val) : kB K h (ix2 i d) = K (ix2 i c) := by
  unfold kB
  refine congrArg K (funext fun b => Fin.ext ?_)
  have := c.isLt
  match b with
  | ⟨0, _⟩ => rfl
  | ⟨1, _⟩ => show (128 * h + d.val) % 256 = c.val; omega

theorem vB_apply (W : Vec Ideal S16640x512 .bf16) (h : ℕ) (i : Fin 16640) (e : Fin 256) (c : Fin 512)
    (hc : c.val = 256 * h + e.val) : vB W h (ix2 i e) = W (ix2 i c) := by
  unfold vB
  refine congrArg W (funext fun b => Fin.ext ?_)
  have := c.isLt
  match b with
  | ⟨0, _⟩ => rfl
  | ⟨1, _⟩ => show (256 * h + e.val) % 512 = c.val; omega

/-- The values with ones beside them, at one index. -/
theorem vS_apply (x : Vec Ideal S16640x256 .f32) (i : Fin 16640) (c : Fin 512) :
    vS (F := Ideal) x (ix2 i c) = if h : c.val % 256 < 128 then x (ix2 i (vcol c)) else 1 := by
  pointwise [vS]
  split
  · next h =>
    refine congrArg x (congrArg (ix2 i) (Fin.ext ?_))
    show _ = c.val / 256 * 128 + c.val % 128
    simp only []
    omega
  · rfl

theorem outOf_low (t0 t1 : Vec Ideal S1x1024x256 .f32) (r : Fin 1024) (d : Fin 128) (c : Fin 256) (hc : c.val = d.val) :
    outOf t0 t1 (ix2 r c) = k0_pay48 (F := Ideal) t0 (ix2 r d) := by
  unfold outOf
  have h : c.val < 128 := by have := d.isLt; omega
  refine (dif_pos h).trans (congrArg _ (funext fun a => Fin.ext ?_))
  match a with
  | ⟨0, _⟩ => rfl
  | ⟨1, _⟩ => exact hc

theorem outOf_high (t0 t1 : Vec Ideal S1x1024x256 .f32) (r : Fin 1024) (d : Fin 128) (c : Fin 256) (hc : c.val = 128 + d.val) :
    outOf t0 t1 (ix2 r c) = k0_pay49 (F := Ideal) t1 (ix2 r d) := by
  unfold outOf
  have h : ¬c.val < 128 := by omega
  refine (dif_neg h).trans (congrArg _ (funext fun a => Fin.ext ?_))
  match a with
  | ⟨0, _⟩ => rfl
  | ⟨1, _⟩ => show c.val - 128 = d.val; omega

theorem result_apply (Q : Vec Ideal S16640x512 .f32) (K : FVec Ideal S16640x256 .f32) (V : Vec Ideal S16640x256 .f32)
    (Qr : S16640x512.Idx → ℝ) (Kr : S16640x256.Idx → ℝ) (hQ : ∀ i, Q i = (Qr i : EReal)) (hK : ∀ i, K i = (Kr i : EReal))
    (a : Fin 16384) (c : Fin 512) :
    result (F := Ideal) Q (truncf (F := Ideal) .bf16 K bitsLt_bf16_f32) (vS V) (ix2 a c) = attn Qr Kr V a c := by
  have ha := a.isLt
  have hc := c.isLt
  have e1 : ∀ (x1 : Vec Ideal S16640x256 .bf16), x1 = truncf (F := Ideal) .bf16 K bitsLt_bf16_f32 → ∀ i d, kB x1 (c.val / 256) (ix2 i d) = ((Kr (ix2 i (kcol c d)) : ℝ) : EReal) := by
    rintro _ rfl i d
    rw [kB_apply _ _ i d (kcol c d) (by show c.val / 256 * 128 + d.val = _; omega)]
    exact hK _
  have e2 : ∀ (i : Fin 16640) (e : Fin 128), vB (vS V) (c.val / 256) (ix2 i (Fin.natAdd 128 e)) = 1 := by
    intro i e
    have he := e.isLt
    rw [vB_apply _ _ i _ ⟨256 * (c.val / 256) + (128 + e.val), by omega⟩ rfl, vS_apply, dif_neg]
    show ¬(256 * (c.val / 256) + (128 + e.val)) % 256 < 128
    omega
  have e3 : ∀ (i : Fin 16640) (e : Fin 128), e.val = c.val % 128 → vB (vS V) (c.val / 256) (ix2 i (Fin.castAdd 128 e)) = V (ix2 i (vcol c)) := by
    intro i e h
    have he := e.isLt
    rw [vB_apply _ _ i _ ⟨256 * (c.val / 256) + e.val, by omega⟩ rfl, vS_apply, dif_pos (by show (256 * (c.val / 256) + e.val) % 256 < 128; omega)]
    refine congrArg V (congrArg (ix2 i) (Fin.ext ?_))
    show (256 * (c.val / 256) + e.val) / 256 * 128 + (256 * (c.val / 256) + e.val) % 128 = c.val / 256 * 128 + c.val % 128
    omega
  let r : Fin 1024 := ⟨a.val % 1024, Nat.mod_lt _ (by decide)⟩
  let e : Fin 128 := ⟨c.val % 128, Nat.mod_lt _ (by decide)⟩
  have hr : result (F := Ideal) Q (truncf (F := Ideal) .bf16 K bitsLt_bf16_f32) (vS V) (ix2 a c)
      = outV (qB Q (a.val / 1024) (c.val / 256)) (kB (truncf (F := Ideal) .bf16 K bitsLt_bf16_f32) (c.val / 256)) (vB (vS V) (c.val / 256))
        (ix2 r ⟨c.val % 256, Nat.mod_lt _ (by decide)⟩) := by
    unfold result
    refine congrArg _ (funext fun b => ?_)
    match b with
    | ⟨0, _⟩ => rfl
    | ⟨1, _⟩ => rfl
  rw [hr]
  unfold outV attn
  by_cases h : c.val % 256 < 128
  · rw [outOf_low _ _ r e _ (by show c.val % 256 = c.val % 128; omega), pay48_apply,
      head_apply _ _ _ r (fun d => Qr (ix2 (qrow a) (qcol c d))) (fun j d => Kr (ix2 j (kcol c d))) ?_ (e1 _ rfl) e2]
    · exact Finset.sum_congr rfl fun i _ => by rw [e3 _ e rfl]
    · intro d
      have hd := d.isLt
      rw [qh0_apply, qB_apply Q _ _ r _ (qrow a) (qcol c d) (by show a.val = 1024 * (a.val / 1024) + a.val % 1024; omega)
        (by show c.val / 128 * 128 + d.val = 256 * (c.val / 256) + d.val; omega)]
      exact hQ _
  · rw [outOf_high _ _ r e _ (by show c.val % 256 = 128 + c.val % 128; omega), pay49_apply,
      head_apply _ _ _ r (fun d => Qr (ix2 (qrow a) (qcol c d))) (fun j d => Kr (ix2 j (kcol c d))) ?_ (e1 _ rfl) e2]
    · exact Finset.sum_congr rfl fun i _ => by rw [e3 _ e rfl]
    · intro d
      have hd := d.isLt
      rw [qh1_apply, qB_apply Q _ _ r _ (qrow a) (qcol c d) (by show a.val = 1024 * (a.val / 1024) + a.val % 1024; omega)
        (by show c.val / 128 * 128 + d.val = 256 * (c.val / 256) + (128 + d.val); omega)]
      exact hQ _

end Cert.KernelIdeal.Flash

end
-- ==== Proof.FlashRef.lean ====
/-
  The reference's result array, read at one index, is the same mathematics.
-/
module

public import proofs.«01_k».proof.Proof.FlashSpec
public import proofs.«01_k».proof.Proof.Gen.ReferenceIdeal.Run

@[expose] public section

set_option maxRecDepth 16384

noncomputable section

namespace Cert.ReferenceIdeal.Flash

open Cert.ReferenceIdeal Cert.ReferenceIdeal.Gen
open Idealize.ShloMosaic Idealize.ShloMosaic.TcCoe
open Cert.KernelIdeal.Flash (attn tsc pos qrow qcol kcol vcol)
open scoped BigOperators

variable {F : FTy → Type} [FloatOps F]

/-- The scores, over a key-value head, a query head of its group, a query and a key. -/
def scoresR (Q : Vec F S16640x512 .f32) (K : Vec F S16640x256 .f32) : FVec F S2x2x16384x16640 .f32 :=
  Host.divf (transpose S2x2x16384x16640 [0, 3, 2, 1] (Host.dotGeneral dot_S16640x2x128_S16384x2x2x128_S2x16640x16384x2_2_3_0_02_1_1 none (shapeCast _ K shapeCasts_S16640x256_S16640x2x128) (shapeCast _ (extractStridedSlice S16384x512 ![0, 0] Q slices_S16640x512_S16384x512_0_0) shapeCasts_S16384x512_S16384x2x2x128)) transposes_S2x16640x16384x2_S2x2x16384x16640_0_3_2_1) (broadcastInDim S2x2x16384x16640 ![] bcast_S_S2x2x16384x16640 (Host.sqrt (constant S_ .f32 0x43000000#32)))

/-- A row's maximum. -/
def maxR (s : FVec F S2x2x16384x16640 .f32) : FVec F S2x2x16384 .f32 :=
  maximumf (broadcastInDim S2x2x16384 ![] bcast_S_S2x2x16384 (constant S_ .f32 0xFF800000#32)) (Host.reduce FloatOps.maximumf s (constant S_ .f32 0xFF800000#32) reducesTo_S2x2x16384x16640_S2x2x16384_d3 h_S_)

/-- The scores less `M`, as powers of e. -/
def expR (s : FVec F S2x2x16384x16640 .f32) (M : FVec F S2x2x16384 .f32) : FVec F S2x2x16384x16640 .f32 :=
  Host.exp (subf s (broadcastInDim S2x2x16384x16640 ![0, 1, 2, 3] bcast_S2x2x16384x1_S2x2x16384x16640_0_1_2_3 (broadcastInDim S2x2x16384x1 ![0, 1, 2] bcast_S2x2x16384_S2x2x16384x1_0_1_2 M)))

/-- A row's sum. -/
def sumR (p : FVec F S2x2x16384x16640 .f32) : FVec F S2x2x16384 .f32 :=
  Host.reduceAdd p (constant S_ .f32 0x00000000#32) reducesTo_S2x2x16384x16640_S2x2x16384_d3 h_S_

/-- A row divided by `D`. -/
def divR (p : FVec F S2x2x16384x16640 .f32) (D : FVec F S2x2x16384 .f32) : FVec F S2x2x16384x16640 .f32 :=
  Host.divf p (broadcastInDim S2x2x16384x16640 ![0, 1, 2, 3] bcast_S2x2x16384x1_S2x2x16384x16640_0_1_2_3 (broadcastInDim S2x2x16384x1 ![0, 1, 2] bcast_S2x2x16384_S2x2x16384x1_0_1_2 D))

/-- The output from the weights and the values. -/
def outR (p : FVec F S2x2x16384x16640 .f32) (V : Vec F S16640x256 .f32) : FVec F S16384x512 .bf16 :=
  truncf .bf16 (shapeCast _ (transpose S16384x2x2x128 [3, 0, 2, 1] (Host.dotGeneral dot_S16640x2x128_S2x2x16384x16640_S2x128x2x16384_0_3_2_12_1_0 none (shapeCast _ V shapeCasts_S16640x256_S16640x2x128) p) transposes_S2x128x2x16384_S16384x2x2x128_3_0_2_1) shapeCasts_S16384x2x2x128_S16384x512) bitsLt_bf16_f32

/-- The reference's result array. -/
def ref (Q : Vec F S16640x512 .f32) (K : Vec F S16640x256 .f32) (V : Vec F S16640x256 .f32) : FVec F S16384x512 .bf16 :=
  outR (divR (expR (scoresR Q K) (maxR (scoresR Q K))) (sumR (expR (scoresR Q K) (maxR (scoresR Q K))))) V

section Rows

variable {n0 n1 n2 n3 : ℕ} {u : Shape}

/-- A row's maximum and a row's sum, at any extents. -/
theorem max_row (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) x init h hu (ix3 a b c)
      = Finset.univ.fold max (init (Shape.Idx.first hu)) fun k : Fin n3 => x (ix4 a b c k) := by
  rw [Host.reduce_eq_fold, h.fold_fiber_r4_a3]
  rfl

theorem maxf_row (i0 : FVec Ideal ⟨3, ![n0, n1, n2]⟩ .f32) (x : FVec Ideal ⟨4, ![n0, n1, n2, n3]⟩ .f32) (init : u.Idx → EReal)
    (h : (⟨4, ![n0, n1, n2, n3]⟩ : Shape).ReducesTo [3] ⟨3, ![n0, n1, n2]⟩) (hu : 0 < u.numel) (a : Fin n0) (b : Fin n1) (c : Fin n2)
    (h0 : i0 (ix3 a b c) = (⊥ : EReal)) (h1 : init (Shape.Idx.first hu) = (⊥ : EReal)) :
    maximumf i0 (Host.reduce (FloatOps.maximumf (F := Ideal) (φ := .f32)) x init h hu) (ix3 a b c)
      = max ⊥ (Finset.univ.fold max ⊥ fun k : Fin n3 => x (ix4 a b c k)) := by
  show max (i0 (ix3 a b c)) (Host.reduce (FloatOps.maximumf (F := Ideal) (φ := .f32)) x init h hu (ix3 a b c)) = _
  rw [max_row, h0, h1]

theorem sum_row (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduceAdd x init h hu (ix3 a b c) = init (Shape.Idx.first hu) + ∑ k : Fin n3, x (ix4 a b c k) := by
  show Ideal.hostReduceAdd h x (init (Shape.Idx.first hu)) (ix3 a b c) = _
  rw [Ideal.hostReduceAdd_r4_a3]
  rfl

theorem sum_row0 (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2)
    (h0 : init (Shape.Idx.first hu) = (0 : EReal)) :
    Host.reduceAdd x init h hu (ix3 a b c) = ∑ k : Fin n3, x (ix4 a b c k) := by
  rw [sum_row, h0, zero_add]

end Rows

theorem scoresR_apply (Q : Vec Ideal S16640x512 .f32) (K : Vec Ideal S16640x256 .f32) (h g : Fin 2) (a : Fin 16384) (j : Fin 16640) :
    scoresR (F := Ideal) Q K (ix4 h g a j)
      = Ideal.div (∑ d : Fin 128, K (ix2 j ⟨h.val * 128 + d.val, by have := h.isLt; have := d.isLt; omega⟩)
            * Q (ix2 (qrow a) ⟨h.val * 256 + g.val * 128 + d.val, by have := h.isLt; have := g.isLt; have := d.isLt; omega⟩))
          (Ideal.sqrt (Ideal.ofBits .f32 0x43000000#32)) := by
  pointwise [scoresR]
  rfl

theorem maxR_apply (s : FVec Ideal S2x2x16384x16640 .f32) (h g : Fin 2) (a : Fin 16384) :
    maxR (F := Ideal) s (ix3 h g a) = max ⊥ (Finset.univ.fold max ⊥ fun j : Fin 16640 => s (ix4 h g a j)) := by
  unfold maxR
  exact maxf_row (n0 := 2) (n1 := 2) (n2 := 16384) (n3 := 16640) _ s _ _ _ h g a Cert.KernelIdeal.Flash.ofBits_neg_inf Cert.KernelIdeal.Flash.ofBits_neg_inf

theorem expR_apply (s : FVec Ideal S2x2x16384x16640 .f32) (M : FVec Ideal S2x2x16384 .f32) (h g : Fin 2) (a : Fin 16384) (j : Fin 16640) :
    expR (F := Ideal) s M (ix4 h g a j) = Ideal.exp (s (ix4 h g a j) - M (ix3 h g a)) := by
  pointwise [expR]

theorem sumR_apply (p : FVec Ideal S2x2x16384x16640 .f32) (h g : Fin 2) (a : Fin 16384) :
    sumR (F := Ideal) p (ix3 h g a) = ∑ j : Fin 16640, p (ix4 h g a j) := by
  unfold sumR
  exact sum_row0 (n0 := 2) (n1 := 2) (n2 := 16384) (n3 := 16640) p _ _ _ h g a Ideal.ofBits_zero_f32

theorem divR_apply (p : FVec Ideal S2x2x16384x16640 .f32) (D : FVec Ideal S2x2x16384 .f32) (h g : Fin 2) (a : Fin 16384) (j : Fin 16640) :
    divR (F := Ideal) p D (ix4 h g a j) = Ideal.div (p (ix4 h g a j)) (D (ix3 h g a)) := by
  pointwise [divR]

theorem outR_apply (p : FVec Ideal S2x2x16384x16640 .f32) (V : Vec Ideal S16640x256 .f32) (a : Fin 16384) (c : Fin 512) :
    outR (F := Ideal) p V (ix2 a c)
      = ∑ j : Fin 16640, V (ix2 j (vcol c)) * p (ix4 ⟨c.val / 256, by have := c.isLt; omega⟩ ⟨c.val / 128 % 2, by omega⟩ a j) := by
  pointwise [outR]
  rfl

end Cert.ReferenceIdeal.Flash

end
-- ==== Proof.FlashClaim.lean ====
/-
  The reference computes the same function: its result array at every index, and what the precondition says.
-/
module

public import proofs.«01_k».proof.Proof.FlashRef
public import proofs.«01_k».proof.Pre_finite_qk
public import Idealize.ShloMosaic.Lib.ReduceAll

@[expose] public section

set_option maxRecDepth 16384

noncomputable section

namespace Cert.ReferenceIdeal.Flash

open Cert.ReferenceIdeal Cert.ReferenceIdeal.Gen
open Idealize.ShloMosaic Idealize.ShloMosaic.TcCoe
open Cert.KernelIdeal.Flash (attn tsc pos qrow qcol kcol vcol)
open scoped BigOperators

theorem ofBits_128 : Ideal.ofBits .f32 0x43000000#32 = ((128 : ℝ) : EReal) := by
  simp [Ideal.ofBits, Ideal.ieee, -EReal.coe_mul]; norm_num

theorem pos_val (j : Fin 16640) : pos j.val = j := Fin.ext (Nat.mod_eq_of_lt j.isLt)

section Value

variable (Q : Vec Ideal S16640x512 .f32) (K : Vec Ideal S16640x256 .f32) (V : Vec Ideal S16640x256 .f32)
variable (Qr : S16640x512.Idx → ℝ) (Kr : S16640x256.Idx → ℝ) (hQ : ∀ i, Q i = (Qr i : EReal)) (hK : ∀ i, K i = (Kr i : EReal))

/-- The scores of output column `c` at row `a`. -/
abbrev tR (Qr : S16640x512.Idx → ℝ) (Kr : S16640x256.Idx → ℝ) (a : Fin 16384) (c : Fin 512) : ℕ → ℝ :=
  tsc (fun d => Qr (ix2 (qrow a) (qcol c d))) fun j d => Kr (ix2 j (kcol c d))

include hQ hK in
theorem scoresR_eq (a : Fin 16384) (c : Fin 512) (h g : Fin 2) (hh : h.val = c.val / 256) (hg : g.val = c.val / 128 % 2) (j : Fin 16640) :
    scoresR (F := Ideal) Q K (ix4 h g a j) = (tR Qr Kr a c j.val : EReal) := by
  have h128 : Real.sqrt 128 ≠ 0 := Real.sqrt_ne_zero'.mpr (by norm_num)
  rw [scoresR_apply, ofBits_128, Ideal.sqrt_coe, if_neg (show ¬(128 : ℝ) < 0 by norm_num), Ideal.div_coe h128]
  unfold tR tsc
  rw [div_eq_mul_one_div (∑ _, _) (Real.sqrt 128), EReal.coe_mul, Cert.Math.coe_sum, pos_val]
  refine congrArg (· * _) (Finset.sum_congr rfl fun d _ => ?_)
  rw [hQ, hK, mul_comm, ← EReal.coe_mul]
  have hc := c.isLt
  have e1 : (⟨h.val * 256 + g.val * 128 + d.val, by have := h.isLt; have := g.isLt; have := d.isLt; omega⟩ : Fin 512) = qcol c d :=
    Fin.ext (by show h.val * 256 + g.val * 128 + d.val = c.val / 128 * 128 + d.val; omega)
  have e2 : (⟨h.val * 128 + d.val, by have := h.isLt; have := d.isLt; omega⟩ : Fin 256) = kcol c d :=
    Fin.ext (by show h.val * 128 + d.val = c.val / 256 * 128 + d.val; omega)
  rw [e1, e2]

include hQ hK in
theorem ref_apply (a : Fin 16384) (c : Fin 512) : ref (F := Ideal) Q K V (ix2 a c) = attn Qr Kr V a c := by
  unfold ref attn
  rw [outR_apply]
  set h : Fin 2 := ⟨c.val / 256, by have := c.isLt; omega⟩ with hh
  set g : Fin 2 := ⟨c.val / 128 % 2, by omega⟩ with hg
  have hs := scoresR_eq Q K Qr Kr hQ hK a c h g rfl rfl
  obtain ⟨μ, hμ⟩ := Cert.Math.fold_max_real' Finset.univ (fun j : Fin 16640 => tR Qr Kr a c j.val) 0 (Finset.mem_univ _)
  have hM : maxR (F := Ideal) (scoresR Q K) (ix3 h g a) = (μ : EReal) := by
    rw [maxR_apply]
    simp only [hs]
    rw [hμ]
    exact max_eq_right bot_le
  have hp : ∀ j : Fin 16640, divR (expR (scoresR Q K) (maxR (scoresR Q K))) (sumR (expR (scoresR Q K) (maxR (scoresR Q K)))) (ix4 h g a j)
      = (Cert.Math.soft (tR Qr Kr a c) 16640 j.val : EReal) := by
    intro j
    rw [divR_apply, sumR_apply]
    simp only [expR_apply, hM, hs]
    exact Cert.Math.soft_ref (tR Qr Kr a c) 16640 (by decide) μ j.val
  simp only [hp]
  rw [← Fin.sum_univ_eq_sum_range (fun i => (Cert.Math.soft (tR Qr Kr a c) 16640 i : EReal) * V (ix2 (pos i) (vcol c))) 16640]
  exact Finset.sum_congr rfl fun j _ => by rw [pos_val, mul_comm]

end Value

section Finite

variable [Cert.Pre_finite_qk.Facts]

theorem real_of_abs (x : EReal) (h : max x (-x) < ⊤) : x = ((x.toReal : ℝ) : EReal) := by
  obtain ⟨h1, h2⟩ := max_lt_iff.mp h
  refine (EReal.coe_toReal h1.ne fun hb => ?_).symm
  rw [hb, EReal.neg_bot] at h2
  exact lt_irrefl _ h2

theorem real_of_cmp (x b : EReal) (hb : b = ⊤) (h : BitVec.ofBool (decide (max x (-x) < b)) = 1#1) : x = ((x.toReal : ℝ) : EReal) := by
  refine real_of_abs x ?_
  rw [← hb]
  by_contra hn
  rw [decide_eq_false hn] at h
  exact absurd h (by decide)

theorem ofBits_inf : Ideal.ofBits .f32 0x7F800000#32 = ⊤ := by
  simp [Ideal.ofBits, Ideal.ieee]

/-- The precondition: every query and every key is a real. -/
theorem finite_of_pre (Q : FVec Ideal S16640x512 .f32) (K V : FVec Ideal S16640x256 .f32)
    (h : Cert.Pre_finite_qk.fn (F := Ideal) Q K V = fun _ => 1#1) :
    (∀ i, Q i = (((Q i : EReal).toReal : ℝ) : EReal)) ∧ ∀ i, K i = (((K i : EReal).toReal : ℝ) : EReal) := by
  have h0 := congrFun h (fun k => k.elim0)
  dsimp only [Cert.Pre_finite_qk.fn] at h0
  obtain ⟨hq, hk⟩ := IntOp.andi_eq_one.1 h0
  haveI : Subsingleton Cert.Pre_finite_qk.S_.Idx := ⟨fun a b => funext fun k => k.elim0⟩
  refine ⟨fun i => ?_, fun i => ?_⟩
  · exact real_of_cmp _ _ ofBits_inf (Host.reduce_andi_all _ _ _ _ _ hq i)
  · exact real_of_cmp _ _ ofBits_inf (Host.reduce_andi_all _ _ _ _ _ hk i)

end Finite

end Cert.ReferenceIdeal.Flash

end
-- ==== Proof.Dense.lean ====
/-
  What the dense layers' kernels and references have in common: rows by weights, the residual sum with a gate for the
  latent rows and one for the context rows, and the comparison that tells these rows apart.
-/
module

public import Idealize.ShloMosaic.Lib.Pointwise
public import Idealize.ShloMosaic.Lib.WordCmp

@[expose] public section

noncomputable section

namespace Cert.Dense

open Idealize.ShloMosaic
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- An index of two axes from its coordinates. -/
theorem ix2_of {a b : ℕ} (y : (⟨2, ![a, b]⟩ : Shape).Idx) (i : Fin a) (j : Fin b) (h0 : (y 0).val = i.val) (h1 : (y 1).val = j.val) :
    y = ix2 i j := by
  funext q
  refine Fin.ext ?_
  match q with
  | ⟨0, _⟩ => exact h0
  | ⟨1, _⟩ => exact h1

variable {l R k n : ℕ}

/-- Row `i` of the activations by column `j` of the first layer's weights. -/
def prod (A : (⟨2, ![R, k]⟩ : Shape).Idx → EReal) (W : (⟨3, ![l + 1, k, n]⟩ : Shape).Idx → EReal) (i : Fin R) (j : Fin n) : EReal :=
  ∑ q : Fin k, A (ix2 i q) * W (ix3 0 q j)

/-- The residual stream plus the gated product: one gate for the latent rows, one for the context rows. -/
def resid (A : (⟨2, ![R, k]⟩ : Shape).Idx → EReal) (W : (⟨3, ![l + 1, k, n]⟩ : Shape).Idx → EReal)
    (H : (⟨2, ![R, n]⟩ : Shape).Idx → EReal) (G : (⟨2, ![2, n]⟩ : Shape).Idx → EReal) : (⟨2, ![R, n]⟩ : Shape).Idx → EReal :=
  fun y => H y + (if (y 0).val < 16384 then G (ix2 0 (y 1)) else G (ix2 1 (y 1))) * prod A W (y 0) (y 1)

/-- Row `r` of the block of `t` rows at `i`: the comparison with 16384. -/
theorem select_row {α : Type} (i t r : ℕ) (h : i * t + r < 2 ^ 31) (a b : α) :
    Scalar.select (IntOp.cmpi .slt (IntOp.addi (Scalar.muli (BitVec.ofNat 32 i) (BitVec.ofNat 32 t)) (BitVec.ofNat 32 r)) 16384#32) a b
      = if i * t + r < 16384 then a else b := by
  have e : IntOp.addi (Scalar.muli (BitVec.ofNat 32 i) (BitVec.ofNat 32 t)) (BitVec.ofNat 32 r) = BitVec.ofNat 32 (i * t + r) := by
    show BitVec.ofNat 32 i * BitVec.ofNat 32 t + BitVec.ofNat 32 r = _
    simp [BitVec.ofNat_mul, BitVec.ofNat_add]
  rw [e]
  have e2 : IntOp.cmpi .slt (BitVec.ofNat 32 (i * t + r)) 16384#32 = BitVec.ofBool (decide (i * t + r < 16384)) := by
    show BitVec.ofBool (BitVec.slt _ _) = _
    congr 1
    rw [BitVec.slt_eq_decide]
    congr 1
    rw [BitVec.toInt_eq_toNat_of_lt (by simp; omega)]
    simp
    omega
  rw [e2]
  unfold Scalar.select
  by_cases c : i * t + r < 16384 <;> simp [c]

/-- A column of the input weights. -/
def col (j : ℕ) : Fin 13856 := ⟨j % 13856, Nat.mod_lt _ (by norm_num)⟩

/-- The columns from `lo` on of the rows by the first layer's input weights. -/
def proj (lo : ℕ) (A : (⟨2, ![R, k]⟩ : Shape).Idx → EReal) (W : (⟨3, ![l + 1, k, 13856]⟩ : Shape).Idx → EReal) :
    (⟨2, ![R, n]⟩ : Shape).Idx → EReal :=
  fun y => prod A W (y 0) (col (lo + (y 1).val))

end Cert.Dense

end
-- ==== Proof.P1Value.lean ====
/-
  The projection to the mixers' queries, keys and values: what the kernel's result array holds.
-/
module

public import proofs.«01_k».proof.Proof.Gen.P1Ideal.Frame
public import proofs.«01_k».proof.Proof.Dense
public import Idealize.ShloMosaic.Lib.Claim
public import Idealize.ShloMosaic.Lib.Pipeline.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.P1Ideal.Val

open Cert.P1Ideal Cert.P1Ideal.Gen
open Cert.Dense Idealize.ShloMosaic Idealize.ShloMosaic.TcCoe Idealize.ShloMosaic.Tactic
open Idealize.SL.Sem

section

variable {F : FTy → Type} [FloatOps F]
variable (m : (ℓ : Loc nD τ sig) → Buf (Elt F) ℓ) (ρ : Dev nD → PrngReg)

/-! ## What the body leaves at a point -/

theorem idx0 : ∀ t : Fin cfg0.N, win0_0.index t = ![t.val % 26, 0] := (by decide +kernel : ∀ t : Fin grid0.N, _)
theorem idx1 : ∀ t : Fin cfg0.N, win0_1.index t = ![0, 7 * (t.val / 26) + 0, 0] := (by decide +kernel : ∀ t : Fin grid0.N, _)
theorem idx2 : ∀ t : Fin cfg0.N, win0_2.index t = ![0, 7 * (t.val / 26) + 1, 0] := (by decide +kernel : ∀ t : Fin grid0.N, _)
theorem idx3 : ∀ t : Fin cfg0.N, win0_3.index t = ![0, 7 * (t.val / 26) + 2, 0] := (by decide +kernel : ∀ t : Fin grid0.N, _)
theorem idx4 : ∀ t : Fin cfg0.N, win0_4.index t = ![0, 7 * (t.val / 26) + 3, 0] := (by decide +kernel : ∀ t : Fin grid0.N, _)
theorem idx5 : ∀ t : Fin cfg0.N, win0_5.index t = ![0, 7 * (t.val / 26) + 4, 0] := (by decide +kernel : ∀ t : Fin grid0.N, _)
theorem idx6 : ∀ t : Fin cfg0.N, win0_6.index t = ![0, 7 * (t.val / 26) + 5, 0] := (by decide +kernel : ∀ t : Fin grid0.N, _)
theorem idx7 : ∀ t : Fin cfg0.N, win0_7.index t = ![0, 7 * (t.val / 26) + 6, 0] := (by decide +kernel : ∀ t : Fin grid0.N, _)
theorem idx8 : ∀ t : Fin cfg0.N, win0_8.index t = ![t.val % 26, t.val / 26] := (by decide +kernel : ∀ t : Fin grid0.N, _)
theorem lt_N (t : Fin cfg0.N) : t.val < 52 := lt_of_lt_of_eq t.isLt (show cfg0.N = 52 from N_0)

/-- Rows `256 b` to `256 b + 255` of the transposed weights, -/
def rowsB (A : Vec F S2x13856x2048 .f32) (b : ℕ) : Vec F S1x256x2048 .f32 := fun y => A (ix3 0 (col (256 * b + (y 1).val)) (y 2))

/-- and seven such blocks, cast: the weights of column block `b`. -/
def wS (A : Vec F S2x13856x2048 .f32) (b : ℕ) : Vec F S1792x2048 .bf16 :=
  k0_pay1 (rowsB A (7 * b + 0)) (rowsB A (7 * b + 1)) (rowsB A (7 * b + 2)) (rowsB A (7 * b + 3)) (rowsB A (7 * b + 4)) (rowsB A (7 * b + 5)) (rowsB A (7 * b + 6))

theorem X1_eq (c : Dev nD) (t : Fin cfg0.N) : X0_1 m c t = rowsB (V m c main_v0) (7 * (t.val / 26) + 0) := by
  funext y
  have e := idx1 t
  have hN := lt_N t
  unfold X0_1 Pipeline.Window.fill rowsB col
  rw [dif_pos (moved0_1 t y)]
  blk_simp [iblk]
  refine congrArg (V m c main_v0) ?_
  blk_ext [e]

theorem X2_eq (c : Dev nD) (t : Fin cfg0.N) : X0_2 m c t = rowsB (V m c main_v0) (7 * (t.val / 26) + 1) := by
  funext y
  have e := idx2 t
  have hN := lt_N t
  unfold X0_2 Pipeline.Window.fill rowsB col
  rw [dif_pos (moved0_2 t y)]
  blk_simp [iblk]
  refine congrArg (V m c main_v0) ?_
  blk_ext [e]

theorem X3_eq (c : Dev nD) (t : Fin cfg0.N) : X0_3 m c t = rowsB (V m c main_v0) (7 * (t.val / 26) + 2) := by
  funext y
  have e := idx3 t
  have hN := lt_N t
  unfold X0_3 Pipeline.Window.fill rowsB col
  rw [dif_pos (moved0_3 t y)]
  blk_simp [iblk]
  refine congrArg (V m c main_v0) ?_
  blk_ext [e]

theorem X4_eq (c : Dev nD) (t : Fin cfg0.N) : X0_4 m c t = rowsB (V m c main_v0) (7 * (t.val / 26) + 3) := by
  funext y
  have e := idx4 t
  have hN := lt_N t
  unfold X0_4 Pipeline.Window.fill rowsB col
  rw [dif_pos (moved0_4 t y)]
  blk_simp [iblk]
  refine congrArg (V m c main_v0) ?_
  blk_ext [e]

theorem X5_eq (c : Dev nD) (t : Fin cfg0.N) : X0_5 m c t = rowsB (V m c main_v0) (7 * (t.val / 26) + 4) := by
  funext y
  have e := idx5 t
  have hN := lt_N t
  unfold X0_5 Pipeline.Window.fill rowsB col
  rw [dif_pos (moved0_5 t y)]
  blk_simp [iblk]
  refine congrArg (V m c main_v0) ?_
  blk_ext [e]

theorem X6_eq (c : Dev nD) (t : Fin cfg0.N) : X0_6 m c t = rowsB (V m c main_v0) (7 * (t.val / 26) + 5) := by
  funext y
  have e := idx6 t
  have hN := lt_N t
  unfold X0_6 Pipeline.Window.fill rowsB col
  rw [dif_pos (moved0_6 t y)]
  blk_simp [iblk]
  refine congrArg (V m c main_v0) ?_
  blk_ext [e]

theorem X7_eq (c : Dev nD) (t : Fin cfg0.N) : X0_7 m c t = rowsB (V m c main_v0) (7 * (t.val / 26) + 6) := by
  funext y
  have e := idx7 t
  have hN := lt_N t
  unfold X0_7 Pipeline.Window.fill rowsB col
  rw [dif_pos (moved0_7 t y)]
  blk_simp [iblk]
  refine congrArg (V m c main_v0) ?_
  blk_ext [e]

/-- The first point of a column block casts the weights into the scratch, -/
theorem scr_A (c : Dev nD) (t : Fin cfg0.N) (h0 : t.val % 26 = 0) : (outsAt0 m c t.val t.isLt).2 = wS (V m c main_v0) (t.val / 26) := by
  rw [outsAt0_A m c t h0]
  unfold sout0_A_0
  dsimp only
  rw [View.read_writes_eq_canon _ _ _ (scover0_A_0 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
  simp only [View.canon_unit_zero (S := S1792x2048) hz2, View.ld_unit_zero (S := S1x256x2048) hz3, X1_eq, X2_eq, X3_eq, X4_eq, X5_eq, X6_eq, X7_eq]
  rfl

/-- and it keeps them along the row of points. -/
theorem scr_eq (c : Dev nD) : ∀ (n : ℕ) (h : n < cfg0.N), (outsAt0 m c n h).2 = wS (V m c main_v0) (n / 26)
  | 0, h => scr_A m c ⟨0, h⟩ rfl
  | n + 1, h => by
    by_cases h0 : (n + 1) % 26 = 0
    · exact scr_A m c ⟨n + 1, h⟩ h0
    · rw [outsAt0_B m c ⟨n + 1, h⟩ h0]
      refine (scr_eq c n (Nat.lt_of_succ_lt h)).trans (congrArg _ ?_)
      omega

theorem out_eq (c : Dev nD) (t : Fin cfg0.N) :
    (outsAt0 m c t.val t.isLt).1 = k0_pay2 (iblk m c 0 t) (wS (V m c main_v0) (t.val / 26)) := by
  by_cases h0 : t.val % 26 = 0
  · rw [outsAt0_A m c t h0]
    unfold out0_A_8
    dsimp only
    rw [View.read_writes_eq_canon _ _ _ (cover0_A_8 c _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
    simp only [View.canon_unit_zero (S := S640x1792) hz2, View.ld_unit_zero (S := S1x256x2048) hz3, View.ld_unit_zero (S := S640x2048) hz2,
      View.readCov_unit_zero (S := S1792x2048) _ hz2, X1_eq, X2_eq, X3_eq, X4_eq, X5_eq, X6_eq, X7_eq]
    rfl
  · rw [outsAt0_B m c t h0]
    unfold out0_B_8
    dsimp only
    rw [View.read_writes_eq_canon _ _ _ (cover0_B_8 c _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread]
    simp only [View.canon_unit_zero (S := S640x1792) hz2, View.ld_unit_zero (S := S640x2048) hz2, View.ld_unit_zero (S := S1792x2048) hz2,
      scr_eq m c (t.val - 1) _]
    rw [show (t.val - 1) / 26 = t.val / 26 by omega]

end

section

variable (m : (ℓ : Loc nD τ sig) → Buf (Elt Ideal) ℓ) (ρ : Dev nD → PrngReg)

/-! ## Over the extended reals -/

theorem wS_apply (A : Vec Ideal S2x13856x2048 .f32) (b : ℕ) (r : Fin 1792) (k : Fin 2048) : wS A b (ix2 r k) = A (ix3 0 (col (1792 * b + r.val)) k) := by
  have key : ∀ (b' : ℕ) (r' : Fin 256), 256 * b' + r'.val = 1792 * b + r.val →
      rowsB A b' (ix3 0 r' k) = A (ix3 0 (col (1792 * b + r.val)) k) := fun b' r' h => by rw [← h]; rfl
  unfold wS k0_pay1
  pointwise
  split_ifs <;> exact key _ _ (by dsimp only; omega)

theorem pay2_apply (v3 : Vec Ideal S640x2048 .bf16) (v4 : Vec Ideal S1792x2048 .bf16) (r : Fin 640) (c : Fin 1792) :
    k0_pay2 v3 v4 (ix2 r c) = ∑ k : Fin 2048, v3 (ix2 r k) * v4 (ix2 c k) := by
  unfold k0_pay2
  pointwise

theorem iblk0_apply (c : Dev nD) (t : Fin cfg0.N) (r : Fin 640) (k : Fin 2048) : iblk m c 0 t (ix2 r k)
    = V m c main_arg0 (ix2 ⟨(t.val % 26) * 640 + r.val, by omega⟩ k) := by
  have e := idx0 t
  blk_simp [iblk]
  refine congrArg (V m c main_arg0) ?_
  blk_ext [e]

theorem V_main_v0_apply (c : Dev nD) (j : Fin 13856) (k : Fin 2048) :
    V m c main_v0 (ix3 0 j k) = m ((c : Thread nD τ).loc main_arg1) (ix3 0 k j) := by
  have h : V m c main_v0 = transpose S2x13856x2048 [0, 2, 1] (m ((c : Thread nD τ).loc main_arg1)) transposes_S2x2048x13856_S2x13856x2048_0_2_1 := by
    unfold V hostOps0; after_results
  rw [h]
  pointwise

theorem point_eq (c : Dev nD) (t : Fin cfg0.N) (r : Fin 640) (j : Fin 1792) :
    k0_pay2 (iblk m c 0 t) (wS (V m c main_v0) (t.val / 26)) (ix2 r j)
      = proj 0 (V m c main_arg0) (m ((c : Thread nD τ).loc main_arg1))
          (ix2 ⟨(t.val % 26) * 640 + r.val, by omega⟩ (⟨(t.val / 26) * 1792 + j.val, by have := lt_N t; omega⟩ : Fin 3584)) := by
  rw [pay2_apply]
  simp only [iblk0_apply m c t r, wS_apply]
  unfold proj prod
  rw [show 1792 * (t.val / 26) + j.val = 0 + ((t.val / 26) * 1792 + j.val) by omega]
  exact Finset.sum_congr rfl fun k _ => congrArg _ (V_main_v0_apply m c _ k)

/-- The result array after the run. -/
theorem final_o (c : Dev nD) : (dats m 0 c).arrAt 8 cfg0.N = proj 0 (V m c main_arg0) (m ((c : Thread nD τ).loc main_arg1)) := by
  refine (dats m 0 c).arrAt_eq_of_covers 8 _ (by decide +kernel) fun t hf y => ?_
  blk_simp
  rw [after0_8, out_eq]
  have e := idx8 t
  have hN := lt_N t
  have hy0 : (y 0).val < 640 := (y 0).isLt
  have hy1 : (y 1).val < 1792 := (y 1).isLt
  have e0 : ((win0_8.blk t).view.emb y 0).val = (t.val % 26) * 640 + (y 0).val := by blk_simp [e]
  have e1 : ((win0_8.blk t).view.emb y 1).val = (t.val / 26) * 1792 + (y 1).val := by blk_simp [e]
  have ey : (win0_8.blk t).view.emb y = ix2 ⟨(t.val % 26) * 640 + (y 0).val, by omega⟩ ⟨(t.val / 26) * 1792 + (y 1).val, by omega⟩ :=
    ix2_of _ _ _ e0 e1
  exact (congrArg _ (ix2_of y ⟨(y 0).val, hy0⟩ ⟨(y 1).val, hy1⟩ rfl rfl)).trans ((point_eq m c t _ _).trans (congrArg _ ey.symm))

/-- The run: the result array of the argument arrays, which end unchanged. -/
theorem value : θ_run defs (onTc (τ := τ) (main (F := Ideal))) ⟨m, fun _ => 0, ρ⟩ fun r => ∀ c : Dev nD,
      r.2.mem ((c : Thread nD τ).loc main_v1) = proj 0 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 8).trans ((final_o m c).trans (by rw [V_main_arg0])), h.2 c⟩)
    (θ_run_and (run_main m ρ) (frame_of m ρ (dats m) (A_eq m) (run_main m ρ)))

end

end Cert.P1Ideal.Val

end
-- ==== Proof.P1Ref.lean ====
/-
  The reference of the projection to the mixers' queries, keys and values: its result array at every index.
-/
module

public import proofs.«01_k».proof.Proof.Gen.P1RefIdeal.Run
public import proofs.«01_k».proof.Proof.Dense

@[expose] public section

set_option maxRecDepth 16384

noncomputable section

namespace Cert.P1RefIdeal.Val

open Cert.P1RefIdeal Cert.P1RefIdeal.Gen
open Cert.Dense Idealize.ShloMosaic Idealize.ShloMosaic.TcCoe Idealize.SL.Sem

/-- The product, over all rows and columns. -/
theorem dot_apply (A : Vec Ideal S16640x2048 .bf16) (W : Vec Ideal S2x2048x13856 .f32) (i : Fin 16640) (j : Fin 13856) :
    Host.dotGeneral (F := Ideal) (φ₁ := .f32) (φ₂ := .f32) dot_S16640x2048_S2048x13856_S16640x13856_1_0_0_1_n_n none (extf .f32 A bitsLt_bf16_f32)
      (shapeCast _ (extractStridedSlice S1x2048x13856 ![0, 0, 0] W slices_S2x2048x13856_S1x2048x13856_0_0_0) shapeCasts_S1x2048x13856_S2048x13856) (ix2 i j)
      = prod A W i j := by
  pointwise
  rfl

/-- Its columns. -/
theorem ref_eq (Y : Vec Ideal S16640x13856 .f32) (A : Vec Ideal S16640x2048 .bf16) (W : Vec Ideal S2x2048x13856 .f32) (hY : ∀ i j, Y (ix2 i j) = prod A W i j) :
    extractStridedSlice S16640x3584 ![0, 0] Y slices_S16640x13856_S16640x3584_0_0 = proj 0 A W := by
  funext y
  rw [ix2_of y (y 0) (y 1) rfl rfl]
  generalize y 0 = i
  generalize y 1 = j
  have hj : j.val < 3584 := j.isLt
  pointwise
  refine Eq.trans (congrArg Y ?_) (hY i (col (0 + j.val)))
  refine ix2_of _ _ _ ?_ ?_
  · rfl
  · show _ = (0 + j.val) % 13856
    dsimp
    omega

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = proj 0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq _ _ _ (dot_apply _ _)), (h c).2⟩) (Cert.P1RefIdeal.Value.run m ρ)

end Cert.P1RefIdeal.Val

end
-- ==== Proof.PBValue.lean ====
/-
  The projection to the recurrence's output gate and the long convolution's inputs: what the kernel's result array holds.
-/
module

public import proofs.«01_k».proof.Proof.Gen.PBIdeal.Frame
public import proofs.«01_k».proof.Proof.Dense
public import Idealize.ShloMosaic.Lib.Claim
public import Idealize.ShloMosaic.Lib.Pipeline.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.PBIdeal.Val

open Cert.PBIdeal Cert.PBIdeal.Gen
open Cert.Dense Idealize.ShloMosaic Idealize.ShloMosaic.TcCoe Idealize.ShloMosaic.Tactic
open Idealize.SL.Sem

section

variable {F : FTy → Type} [FloatOps F]
variable (m : (ℓ : Loc nD τ sig) → Buf (Elt F) ℓ) (ρ : Dev nD → PrngReg)

/-! ## What the body leaves at a point -/

theorem idx0 : ∀ t : Fin cfg0.N, win0_0.index t = ![t.val % 13, 0] := (by decide +kernel : ∀ t : Fin grid0.N, _)
theorem idx1 : ∀ t : Fin cfg0.N, win0_1.index t = ![0, 14 + 4 * (t.val / 13) + 0, 0] := (by decide +kernel : ∀ t : Fin grid0.N, _)
theorem idx2 : ∀ t : Fin cfg0.N, win0_2.index t = ![0, 14 + 4 * (t.val / 13) + 1, 0] := (by decide +kernel : ∀ t : Fin grid0.N, _)
theorem idx3 : ∀ t : Fin cfg0.N, win0_3.index t = ![0, 14 + 4 * (t.val / 13) + 2, 0] := (by decide +kernel : ∀ t : Fin grid0.N, _)
theorem idx4 : ∀ t : Fin cfg0.N, win0_4.index t = ![0, 14 + 4 * (t.val / 13) + 3, 0] := (by decide +kernel : ∀ t : Fin grid0.N, _)
theorem idx5 : ∀ t : Fin cfg0.N, win0_5.index t = ![0, 36 + 8 * (t.val / 13), 0] := (by decide +kernel : ∀ t : Fin grid0.N, _)
theorem idx6 : ∀ t : Fin cfg0.N, win0_6.index t = ![t.val % 13, t.val / 13] := (by decide +kernel : ∀ t : Fin grid0.N, _)
theorem lt_N (t : Fin cfg0.N) : t.val < 26 := lt_of_lt_of_eq t.isLt (show cfg0.N = 26 from N_0)

/-- Rows `256 b` to `256 b + 255` of the transposed weights, -/
def rowsB (A : Vec F S2x13856x2048 .f32) (b : ℕ) : Vec F S1x256x2048 .f32 := fun y => A (ix3 0 (col (256 * b + (y 1).val)) (y 2))

/-- rows `128 b` to `128 b + 127`, -/
def rowsE (A : Vec F S2x13856x2048 .f32) (b : ℕ) : Vec F S1x128x2048 .f32 := fun y => A (ix3 0 (col (128 * b + (y 1).val)) (y 2))

/-- and the rows of column block `b` among four of the former and one of the latter, cast. -/
def wS (A : Vec F S2x13856x2048 .f32) (b : ℕ) : Vec F S1024x2048 .bf16 :=
  k0_pay1 (rowsB A (14 + 4 * b + 0)) (rowsB A (14 + 4 * b + 1)) (rowsB A (14 + 4 * b + 2)) (rowsB A (14 + 4 * b + 3)) (rowsE A (36 + 8 * b))

theorem X1_eq (c : Dev nD) (t : Fin cfg0.N) : X0_1 m c t = rowsB (V m c main_v0) (14 + 4 * (t.val / 13) + 0) := by
  funext y
  have e := idx1 t
  have hN := lt_N t
  unfold X0_1 Pipeline.Window.fill rowsB col
  rw [dif_pos (moved0_1 t y)]
  blk_simp [iblk]
  refine congrArg (V m c main_v0) ?_
  blk_ext [e]

theorem X2_eq (c : Dev nD) (t : Fin cfg0.N) : X0_2 m c t = rowsB (V m c main_v0) (14 + 4 * (t.val / 13) + 1) := by
  funext y
  have e := idx2 t
  have hN := lt_N t
  unfold X0_2 Pipeline.Window.fill rowsB col
  rw [dif_pos (moved0_2 t y)]
  blk_simp [iblk]
  refine congrArg (V m c main_v0) ?_
  blk_ext [e]

theorem X3_eq (c : Dev nD) (t : Fin cfg0.N) : X0_3 m c t = rowsB (V m c main_v0) (14 + 4 * (t.val / 13) + 2) := by
  funext y
  have e := idx3 t
  have hN := lt_N t
  unfold X0_3 Pipeline.Window.fill rowsB col
  rw [dif_pos (moved0_3 t y)]
  blk_simp [iblk]
  refine congrArg (V m c main_v0) ?_
  blk_ext [e]

theorem X4_eq (c : Dev nD) (t : Fin cfg0.N) : X0_4 m c t = rowsB (V m c main_v0) (14 + 4 * (t.val / 13) + 3) := by
  funext y
  have e := idx4 t
  have hN := lt_N t
  unfold X0_4 Pipeline.Window.fill rowsB col
  rw [dif_pos (moved0_4 t y)]
  blk_simp [iblk]
  refine congrArg (V m c main_v0) ?_
  blk_ext [e]

theorem X5_eq (c : Dev nD) (t : Fin cfg0.N) : X0_5 m c t = rowsE (V m c main_v0) (36 + 8 * (t.val / 13)) := by
  funext y
  have e := idx5 t
  have hN := lt_N t
  unfold X0_5 Pipeline.Window.fill rowsE col
  rw [dif_pos (moved0_5 t y)]
  blk_simp [iblk]
  refine congrArg (V m c main_v0) ?_
  blk_ext [e]

/-- The first point of a column block casts the weights into the scratch, -/
theorem scr_A (c : Dev nD) (t : Fin cfg0.N) (h0 : t.val % 13 = 0) : (outsAt0 m c t.val t.isLt).2 = wS (V m c main_v0) (t.val / 13) := by
  rw [outsAt0_A m c t h0]
  unfold sout0_A_0
  dsimp only
  rw [View.read_writes_eq_canon _ _ _ (scover0_A_0 c _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (Memref.isWhole_whole _).read_unread]
  simp only [View.canon_unit_zero (S := S1024x2048) hz2, View.ld_unit_zero (S := S1x256x2048) hz3, View.ld_unit_zero (S := S1x128x2048) hz3, X1_eq, X2_eq, X3_eq, X4_eq, X5_eq]
  rfl

/-- and it keeps them along the row of points. -/
theorem scr_eq (c : Dev nD) : ∀ (n : ℕ) (h : n < cfg0.N), (outsAt0 m c n h).2 = wS (V m c main_v0) (n / 13)
  | 0, h => scr_A m c ⟨0, h⟩ rfl
  | n + 1, h => by
    by_cases h0 : (n + 1) % 13 = 0
    · exact scr_A m c ⟨n + 1, h⟩ h0
    · rw [outsAt0_B m c ⟨n + 1, h⟩ h0]
      refine (scr_eq c n (Nat.lt_of_succ_lt h)).trans (congrArg _ ?_)
      omega

theorem out_eq (c : Dev nD) (t : Fin cfg0.N) :
    (outsAt0 m c t.val t.isLt).1 = k0_pay2 (iblk m c 0 t) (wS (V m c main_v0) (t.val / 13)) := by
  by_cases h0 : t.val % 13 = 0
  · rw [outsAt0_A m c t h0]
    unfold out0_A_6
    dsimp only
    rw [View.read_writes_eq_canon _ _ _ (cover0_A_6 c _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (Memref.isWhole_whole _).read_unread]
    simp only [View.canon_unit_zero (S := S1280x1024) hz2, View.ld_unit_zero (S := S1x256x2048) hz3, View.ld_unit_zero (S := S1x128x2048) hz3, View.ld_unit_zero (S := S1280x2048) hz2,
      View.readCov_unit_zero (S := S1024x2048) _ hz2, X1_eq, X2_eq, X3_eq, X4_eq, X5_eq]
    rfl
  · rw [outsAt0_B m c t h0]
    unfold out0_B_6
    dsimp only
    rw [View.read_writes_eq_canon _ _ _ (cover0_B_6 c _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (Memref.isWhole_whole _).read_unread]
    simp only [View.canon_unit_zero (S := S1280x1024) hz2, View.ld_unit_zero (S := S1280x2048) hz2, View.ld_unit_zero (S := S1024x2048) hz2,
      scr_eq m c (t.val - 1) _]
    rw [show (t.val - 1) / 13 = t.val / 13 by omega]

end

section

variable (m : (ℓ : Loc nD τ sig) → Buf (Elt Ideal) ℓ) (ρ : Dev nD → PrngReg)

/-! ## Over the extended reals -/

theorem wS_apply (A : Vec Ideal S2x13856x2048 .f32) (b : ℕ) (r : Fin 1024) (k : Fin 2048) :
    wS A b (ix2 r k) = A (ix3 0 (col (3616 + (1024 * b + r.val))) k) := by
  have key : ∀ (b' : ℕ) (r' : Fin 256), 256 * b' + r'.val = 3616 + (1024 * b + r.val) →
      rowsB A b' (ix3 0 r' k) = A (ix3 0 (col (3616 + (1024 * b + r.val))) k) := fun b' r' h => by rw [← h]; rfl
  have keyE : ∀ (b' : ℕ) (r' : Fin 128), 128 * b' + r'.val = 3616 + (1024 * b + r.val) →
      rowsE A b' (ix3 0 r' k) = A (ix3 0 (col (3616 + (1024 * b + r.val))) k) := fun b' r' h => by rw [← h]; rfl
  unfold wS k0_pay1
  pointwise
  split_ifs <;> first | exact key _ _ (by dsimp only; omega) | exact keyE _ _ (by dsimp only; omega)

theorem pay2_apply (v3 : Vec Ideal S1280x2048 .bf16) (v4 : Vec Ideal S1024x2048 .bf16) (r : Fin 1280) (c : Fin 1024) :
    k0_pay2 v3 v4 (ix2 r c) = ∑ k : Fin 2048, v3 (ix2 r k) * v4 (ix2 c k) := by
  unfold k0_pay2
  pointwise

theorem iblk0_apply (c : Dev nD) (t : Fin cfg0.N) (r : Fin 1280) (k : Fin 2048) : iblk m c 0 t (ix2 r k)
    = V m c main_arg0 (ix2 ⟨(t.val % 13) * 1280 + r.val, by omega⟩ k) := by
  have e := idx0 t
  blk_simp [iblk]
  refine congrArg (V m c main_arg0) ?_
  blk_ext [e]

theorem V_main_v0_apply (c : Dev nD) (j : Fin 13856) (k : Fin 2048) :
    V m c main_v0 (ix3 0 j k) = m ((c : Thread nD τ).loc main_arg1) (ix3 0 k j) := by
  have h : V m c main_v0 = transpose S2x13856x2048 [0, 2, 1] (m ((c : Thread nD τ).loc main_arg1)) transposes_S2x2048x13856_S2x13856x2048_0_2_1 := by
    unfold V hostOps0; after_results
  rw [h]
  pointwise

theorem point_eq (c : Dev nD) (t : Fin cfg0.N) (r : Fin 1280) (j : Fin 1024) :
    k0_pay2 (iblk m c 0 t) (wS (V m c main_v0) (t.val / 13)) (ix2 r j)
      = proj 3616 (V m c main_arg0) (m ((c : Thread nD τ).loc main_arg1))
          (ix2 ⟨(t.val % 13) * 1280 + r.val, by omega⟩ (⟨(t.val / 13) * 1024 + j.val, by have := lt_N t; omega⟩ : Fin 2048)) := by
  rw [pay2_apply]
  simp only [iblk0_apply m c t r, wS_apply]
  unfold proj prod
  rw [show 1024 * (t.val / 13) + j.val = (t.val / 13) * 1024 + j.val by omega]
  exact Finset.sum_congr rfl fun k _ => congrArg _ (V_main_v0_apply m c _ k)

/-- The result array after the run. -/
theorem final_o (c : Dev nD) : (dats m 0 c).arrAt 6 cfg0.N = proj 3616 (V m c main_arg0) (m ((c : Thread nD τ).loc main_arg1)) := by
  refine (dats m 0 c).arrAt_eq_of_covers 6 _ (by decide +kernel) fun t hf y => ?_
  blk_simp
  rw [after0_6, out_eq]
  have e := idx6 t
  have hN := lt_N t
  have hy0 : (y 0).val < 1280 := (y 0).isLt
  have hy1 : (y 1).val < 1024 := (y 1).isLt
  have e0 : ((win0_6.blk t).view.emb y 0).val = (t.val % 13) * 1280 + (y 0).val := by blk_simp [e]
  have e1 : ((win0_6.blk t).view.emb y 1).val = (t.val / 13) * 1024 + (y 1).val := by blk_simp [e]
  have ey : (win0_6.blk t).view.emb y = ix2 ⟨(t.val % 13) * 1280 + (y 0).val, by omega⟩ ⟨(t.val / 13) * 1024 + (y 1).val, by omega⟩ :=
    ix2_of _ _ _ e0 e1
  exact (congrArg _ (ix2_of y ⟨(y 0).val, hy0⟩ ⟨(y 1).val, hy1⟩ rfl rfl)).trans ((point_eq m c t _ _).trans (congrArg _ ey.symm))

/-- The run: the result array of the argument arrays, which end unchanged. -/
theorem value : θ_run defs (onTc (τ := τ) (main (F := Ideal))) ⟨m, fun _ => 0, ρ⟩ fun r => ∀ c : Dev nD,
      r.2.mem ((c : Thread nD τ).loc main_v1) = proj 3616 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 6).trans ((final_o m c).trans (by rw [V_main_arg0])), h.2 c⟩)
    (θ_run_and (run_main m ρ) (frame_of m ρ (dats m) (A_eq m) (run_main m ρ)))

end

end Cert.PBIdeal.Val

end
-- ==== Proof.PBRef.lean ====
/-
  The reference of the projection to the recurrence's output gate and the long convolution's inputs: its result array at every index.
-/
module

public import proofs.«01_k».proof.Proof.Gen.PBRefIdeal.Run
public import proofs.«01_k».proof.Proof.Dense

@[expose] public section

set_option maxRecDepth 16384

noncomputable section

namespace Cert.PBRefIdeal.Val

open Cert.PBRefIdeal Cert.PBRefIdeal.Gen
open Cert.Dense Idealize.ShloMosaic Idealize.ShloMosaic.TcCoe Idealize.SL.Sem

/-- The product, over all rows and columns. -/
theorem dot_apply (A : Vec Ideal S16640x2048 .bf16) (W : Vec Ideal S2x2048x13856 .f32) (i : Fin 16640) (j : Fin 13856) :
    Host.dotGeneral (F := Ideal) (φ₁ := .f32) (φ₂ := .f32) dot_S16640x2048_S2048x13856_S16640x13856_1_0_0_1_n_n none (extf .f32 A bitsLt_bf16_f32)
      (shapeCast _ (extractStridedSlice S1x2048x13856 ![0, 0, 0] W slices_S2x2048x13856_S1x2048x13856_0_0_0) shapeCasts_S1x2048x13856_S2048x13856) (ix2 i j)
      = prod A W i j := by
  pointwise
  rfl

/-- Its columns. -/
theorem ref_eq (Y : Vec Ideal S16640x13856 .f32) (A : Vec Ideal S16640x2048 .bf16) (W : Vec Ideal S2x2048x13856 .f32) (hY : ∀ i j, Y (ix2 i j) = prod A W i j) :
    extractStridedSlice S16640x2048 ![0, 3616] Y slices_S16640x13856_S16640x2048_0_3616 = proj 3616 A W := by
  funext y
  rw [ix2_of y (y 0) (y 1) rfl rfl]
  generalize y 0 = i
  generalize y 1 = j
  have hj : j.val < 2048 := j.isLt
  pointwise
  refine Eq.trans (congrArg Y ?_) (hY i (col (3616 + j.val)))
  refine ix2_of _ _ _ ?_ ?_
  · rfl
  · show _ = (3616 + j.val) % 13856
    dsimp
    omega

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = proj 3616 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq _ _ _ (dot_apply _ _)), (h c).2⟩) (Cert.PBRefIdeal.Value.run m ρ)

end Cert.PBRefIdeal.Val

end
-- ==== Proof.WOutValue.lean ====
/-
  The mixers' output product: what the kernel's result array holds.
-/
module

public import proofs.«01_k».proof.Proof.Gen.WOutIdeal.Frame
public import proofs.«01_k».proof.Proof.Dense
public import Idealize.ShloMosaic.Lib.Claim
public import Idealize.ShloMosaic.Lib.Pipeline.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.WOutIdeal.Val

open Cert.WOutIdeal Cert.WOutIdeal.Gen
open Cert.Dense Idealize.ShloMosaic Idealize.ShloMosaic.TcCoe Idealize.ShloMosaic.Tactic
open Idealize.SL.Sem

section

variable {F : FTy → Type} [FloatOps F]
variable (m : (ℓ : Loc nD τ sig) → Buf (Elt F) ℓ) (ρ : Dev nD → PrngReg)

/-! ## What the body leaves at a point -/

theorem idx0 : ∀ t : Fin cfg0.N, win0_0.index t = ![t.val % 13, 0] := (by decide +kernel : ∀ t : Fin grid0.N, _)
theorem idx1 : ∀ t : Fin cfg0.N, win0_1.index t = ![0, 0, t.val / 13] := (by decide +kernel : ∀ t : Fin grid0.N, _)
theorem idx2 : ∀ t : Fin cfg0.N, win0_2.index t = ![t.val % 13, t.val / 13] := (by decide +kernel : ∀ t : Fin grid0.N, _)
theorem idx3 : ∀ t : Fin cfg0.N, win0_3.index t = ![0, 0, t.val / 13] := (by decide +kernel : ∀ t : Fin grid0.N, _)
theorem idx4 : ∀ t : Fin cfg0.N, win0_4.index t = ![t.val % 13, t.val / 13] := (by decide +kernel : ∀ t : Fin grid0.N, _)
theorem co1 : ∀ t : Fin cfg0.N, (grid0.coords t 1).val = t.val % 13 := (by decide +kernel : ∀ t : Fin grid0.N, _)
theorem lt_N (t : Fin cfg0.N) : t.val < 26 := lt_of_lt_of_eq t.isLt (show cfg0.N = 26 from N_0)

/-- The first point of a column block casts the weights into the scratch, -/
theorem scr_A (c : Dev nD) (t : Fin cfg0.N) (h0 : t.val % 13 = 0) : (outsAt0 m c t.val t.isLt).2 = k0_pay1 (iblk m c 1 t) := by
  rw [outsAt0_A m c t h0]
  unfold sout0_A_0
  dsimp only
  rw [View.read_writes_eq_canon _ _ _ (scover0_A_0 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz2, View.ld_unit_zero (S := S1x2048x1024) hz3]

/-- the weights' block is the same along a row of points, -/
theorem iblk1_pred (c : Dev nD) (t t' : Fin cfg0.N) (h : t'.val / 13 = t.val / 13) : iblk m c 1 t = iblk m c 1 t' := by
  funext y
  blk_simp [iblk]
  refine congrArg (V m c main_arg1) ?_
  have e := idx1 t
  have e' := idx1 t'
  rw [h, ← e] at e'
  funext a
  refine Fin.ext ?_
  blk_simp [e']

/-- so the scratch holds the cast weights of the point's column block. -/
theorem scr_eq (c : Dev nD) : ∀ (n : ℕ) (h : n < cfg0.N), (outsAt0 m c n h).2 = k0_pay1 (iblk m c 1 ⟨n, h⟩)
  | 0, h => scr_A m c ⟨0, h⟩ rfl
  | n + 1, h => by
    by_cases h0 : (n + 1) % 13 = 0
    · exact scr_A m c ⟨n + 1, h⟩ h0
    · rw [outsAt0_B m c ⟨n + 1, h⟩ h0]
      refine (scr_eq c n (Nat.lt_of_succ_lt h)).trans (congrArg _ (iblk1_pred m c _ _ ?_))
      show (n + 1) / 13 = n / 13
      omega

/-- One point's block of the result. -/
def blkV (i : grid0.Coords) (x0 : Vec F S1280x2048 .bf16) (x1 : Vec F S1x2048x1024 .f32) (x2 : Vec F S1280x1024 .f32) (x3 : Vec F S2x1x1024 .f32) : Vec F S1280x1024 .f32 :=
  k0_pay2 i (View.ld x3 (Rect.unit ![0, 0, 0] ![1, 1, 1024] inb_S2x1x1024_S1x1x1024_0_0_0))
    (View.ld x3 (Rect.unit ![1, 0, 0] ![1, 1, 1024] inb_S2x1x1024_S1x1x1024_1_0_0)) x2 x0 (k0_pay1 x1)

theorem out_eq (c : Dev nD) (t : Fin cfg0.N) :
    (outsAt0 m c t.val t.isLt).1 = blkV (grid0.coords t) (iblk m c 0 t) (iblk m c 1 t) (iblk m c 2 t) (iblk m c 3 t) := by
  have hN := lt_N t
  by_cases h0 : t.val % 13 = 0
  · rw [outsAt0_A m c t h0]
    unfold out0_A_4
    dsimp only
    rw [View.read_writes_eq_canon _ _ _ (cover0_A_4 c _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread]
    rw [View.canon_unit_zero hz2, View.ld_unit_zero (S := S1x2048x1024) hz3, View.ld_unit_zero (S := S1280x1024) hz2, View.ld_unit_zero (S := S1280x2048) hz2,
      View.readCov_unit_zero (S := S2048x1024) _ hz2]
    rfl
  · rw [outsAt0_B m c t h0]
    unfold out0_B_4
    dsimp only
    rw [View.read_writes_eq_canon _ _ _ (cover0_B_4 c _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (Memref.isWhole_whole _).read_unread]
    rw [View.canon_unit_zero hz2, View.ld_unit_zero (S := S1280x1024) hz2, View.ld_unit_zero (S := S1280x2048) hz2, View.ld_unit_zero (S := S2048x1024) hz2,
      scr_eq m c (t.val - 1) _, ← iblk1_pred m c t ⟨t.val - 1, (Nat.sub_lt (by omega) one_pos).trans t.isLt⟩ (by show (t.val - 1) / 13 = t.val / 13; omega)]
    rfl

/-! ## Over the extended reals -/

theorem pay1_apply (v : Vec Ideal S1x2048x1024 .f32) (k : Fin 2048) (c : Fin 1024) : k0_pay1 v (ix2 k c) = v (ix3 0 k c) := by
  unfold k0_pay1
  pointwise

theorem pay2_apply (i : grid0.Coords) (v9 v11 : Vec Ideal S1x1x1024 .f32) (v20 : Vec Ideal S1280x1024 .f32) (v21 : Vec Ideal S1280x2048 .bf16) (v22 : Vec Ideal S2048x1024 .bf16)
    (r : Fin 1280) (c : Fin 1024) : k0_pay2 i v9 v11 v20 v21 v22 (ix2 r c)
      = v20 (ix2 r c) + (if (i 1).val * 1280 + r.val < 16384 then v9 (ix3 0 0 c) else v11 (ix3 0 0 c)) * ∑ k : Fin 2048, v21 (ix2 r k) * v22 (ix2 k c) := by
  unfold k0_pay2
  pointwise
  rw [select_row _ 1280 _ (by have h : (i 1).val < 13 := (i 1).isLt; have := r.isLt; omega)]

theorem iblk0_apply (c : Dev nD) (t : Fin cfg0.N) (r : Fin 1280) (k : Fin 2048) : iblk m c 0 t (ix2 r k)
    = V m c main_arg0 (ix2 ⟨(t.val % 13) * 1280 + r.val, by omega⟩ k) := by
  have e := idx0 t
  blk_simp [iblk]
  refine congrArg (V m c main_arg0) ?_
  blk_ext [e]

theorem iblk1_apply (c : Dev nD) (t : Fin cfg0.N) (k : Fin 2048) (j : Fin 1024) : iblk m c 1 t (ix3 0 k j)
    = V m c main_arg1 (ix3 0 k ⟨(t.val / 13) * 1024 + j.val, by have := lt_N t; omega⟩) := by
  have e := idx1 t
  blk_simp [iblk]
  refine congrArg (V m c main_arg1) ?_
  blk_ext [e]

theorem iblk2_apply (c : Dev nD) (t : Fin cfg0.N) (r : Fin 1280) (j : Fin 1024) : iblk m c 2 t (ix2 r j)
    = V m c main_arg2 (ix2 ⟨(t.val % 13) * 1280 + r.val, by omega⟩ ⟨(t.val / 13) * 1024 + j.val, by have := lt_N t; omega⟩) := by
  have e := idx2 t
  blk_simp [iblk]
  refine congrArg (V m c main_arg2) ?_
  blk_ext [e]

theorem iblk3_apply (c : Dev nD) (t : Fin cfg0.N) (g : Fin 2) (j : Fin 1024) : iblk m c 3 t (ix3 g 0 j)
    = V m c main_v0 (ix3 g 0 ⟨(t.val / 13) * 1024 + j.val, by have := lt_N t; omega⟩) := by
  have e := idx3 t
  blk_simp [iblk]
  refine congrArg (V m c main_v0) ?_
  blk_ext [e]

theorem V_main_v0 (c : Dev nD) : V m c main_v0 = shapeCast S2x1x2048 (m ((c : Thread nD τ).loc main_arg3)) shapeCasts_S2x2048_S2x1x2048 := by
  unfold V hostOps0; after_results; rfl

end

section

variable (m : (ℓ : Loc nD τ sig) → Buf (Elt Ideal) ℓ) (ρ : Dev nD → PrngReg)

theorem V_main_v0_apply (c : Dev nD) (g : Fin 2) (j : Fin 2048) :
    V m c main_v0 (ix3 g 0 j) = m ((c : Thread nD τ).loc main_arg3) (ix2 g j) := by
  rw [V_main_v0]
  pointwise

theorem point_eq (c : Dev nD) (t : Fin cfg0.N) (r : Fin 1280) (j : Fin 1024) :
    blkV (grid0.coords t) (iblk m c 0 t) (iblk m c 1 t) (iblk m c 2 t) (iblk m c 3 t) (ix2 r j)
      = resid (V m c main_arg0) (V m c main_arg1) (V m c main_arg2) (m ((c : Thread nD τ).loc main_arg3))
          (ix2 ⟨(t.val % 13) * 1280 + r.val, by omega⟩ ⟨(t.val / 13) * 1024 + j.val, by have := lt_N t; omega⟩) := by
  unfold blkV
  rw [pay2_apply, co1]
  pointwise
  rw [iblk2_apply m c t r j, iblk3_apply m c t 0 j, iblk3_apply m c t 1 j, V_main_v0_apply, V_main_v0_apply]
  simp only [iblk0_apply m c t r, pay1_apply, iblk1_apply m c t _ j]
  rfl

/-- The result array after the run. -/
theorem final_o (c : Dev nD) : (dats m 0 c).arrAt 4 cfg0.N
    = resid (V m c main_arg0) (V m c main_arg1) (V m c main_arg2) (m ((c : Thread nD τ).loc main_arg3)) := by
  refine (dats m 0 c).arrAt_eq_of_covers 4 _ (by decide +kernel) fun t hf y => ?_
  blk_simp
  rw [after0_4, out_eq]
  have e := idx4 t
  have hN := lt_N t
  have hy0 : (y 0).val < 1280 := (y 0).isLt
  have hy1 : (y 1).val < 1024 := (y 1).isLt
  have e0 : ((win0_4.blk t).view.emb y 0).val = (t.val % 13) * 1280 + (y 0).val := by blk_simp [e]
  have e1 : ((win0_4.blk t).view.emb y 1).val = (t.val / 13) * 1024 + (y 1).val := by blk_simp [e]
  have ey : (win0_4.blk t).view.emb y = ix2 ⟨(t.val % 13) * 1280 + (y 0).val, by omega⟩ ⟨(t.val / 13) * 1024 + (y 1).val, by omega⟩ :=
    ix2_of _ _ _ e0 e1
  exact (congrArg _ (ix2_of y ⟨(y 0).val, hy0⟩ ⟨(y 1).val, hy1⟩ rfl rfl)).trans ((point_eq m c t _ _).trans (congrArg _ ey.symm))

/-- The run: the result array of the argument arrays, which end unchanged. -/
theorem value : θ_run defs (onTc (τ := τ) (main (F := Ideal))) ⟨m, fun _ => 0, ρ⟩ fun r => ∀ c : Dev nD,
      r.2.mem ((c : Thread nD τ).loc main_v1) = resid (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans ((final_o m c).trans (by rw [V_main_arg0, V_main_arg1, V_main_arg2])), h.2 c⟩)
    (θ_run_and (run_main m ρ) (frame_of m ρ (dats m) (A_eq m) (run_main m ρ)))

end

end Cert.WOutIdeal.Val

end
-- ==== Proof.WOutRef.lean ====
/-
  The reference of the mixers' output product: its result array at every index.
-/
module

public import proofs.«01_k».proof.Proof.Gen.WOutRefIdeal.Run
public import proofs.«01_k».proof.Proof.Dense

@[expose] public section

set_option maxRecDepth 16384

noncomputable section

namespace Cert.WOutRefIdeal.Val

open Cert.WOutRefIdeal Cert.WOutRefIdeal.Gen
open Cert.Dense Idealize.ShloMosaic Idealize.ShloMosaic.TcCoe Idealize.SL.Sem

/-- The product, over all rows. -/
theorem dot_apply (A : Vec Ideal S16640x2048 .bf16) (W : Vec Ideal S2x2048x2048 .f32) (i : Fin 16640) (j : Fin 2048) :
    Host.dotGeneral (F := Ideal) (φ₁ := .f32) (φ₂ := .f32) dot_S16640x2048_S2048x2048_S16640x2048_1_0_0_1_n_n none (extf .f32 A bitsLt_bf16_f32)
      (shapeCast _ (extractStridedSlice S1x2048x2048 ![0, 0, 0] W slices_S2x2048x2048_S1x2048x2048_0_0_0) shapeCasts_S1x2048x2048_S2048x2048) (ix2 i j)
      = prod A W i j := by
  pointwise
  rfl

/-- The gated product and the residual stream, the latent rows beside the context rows. -/
theorem ref_eq (H : Vec Ideal S16640x2048 .f32) (G : Vec Ideal S2x2048 .f32) (Y : Vec Ideal S16640x2048 .f32)
    (P : Fin 16640 → Fin 2048 → EReal) (hY : ∀ i j, Y (ix2 i j) = P i j) :
    concatenate S16640x2048 0 [⟨S16384x2048, (addf (F := Ideal) (φ := .f32) (extractStridedSlice S16384x2048 ![0, 0] H slices_S16640x2048_S16384x2048_0_0) (mulf (broadcastInDim S16384x2048 ![0, 1] bcast_S1x2048_S16384x2048_0_1 (broadcastInDim S1x2048 ![1] bcast_S2048_S1x2048_1 (shapeCast _ (extractStridedSlice S1x2048 ![0, 0] G slices_S2x2048_S1x2048_0_0) shapeCasts_S1x2048_S2048))) (extractStridedSlice S16384x2048 ![0, 0] Y slices_S16640x2048_S16384x2048_0_0)))⟩,
        ⟨S256x2048, (addf (F := Ideal) (φ := .f32) (extractStridedSlice S256x2048 ![16384, 0] H slices_S16640x2048_S256x2048_16384_0) (mulf (broadcastInDim S256x2048 ![0, 1] bcast_S1x2048_S256x2048_0_1 (broadcastInDim S1x2048 ![1] bcast_S2048_S1x2048_1 (shapeCast _ (extractStridedSlice S1x2048 ![1, 0] G slices_S2x2048_S1x2048_1_0) shapeCasts_S1x2048_S2048))) (extractStridedSlice S256x2048 ![16384, 0] Y slices_S16640x2048_S256x2048_16384_0)))⟩] concatenates_S16384x2048_S256x2048_S16640x2048_d0
      = fun y => H y + (if (y 0).val < 16384 then G (ix2 0 (y 1)) else G (ix2 1 (y 1))) * P (y 0) (y 1) := by
  funext y
  rw [ix2_of y (y 0) (y 1) rfl rfl]
  generalize y 0 = i
  generalize y 1 = j
  pointwise
  by_cases h : i.val < 16384
  · rw [dif_pos h, if_pos h]
    exact congrArg (fun z => H (ix2 i j) + G (ix2 0 j) * z) (hY i j)
  · rw [dif_neg h, if_neg h]
    have e : (⟨16384 + (i.val - 16384), by have : i.val < 16640 := i.isLt; omega⟩ : Fin 16640) = i := Fin.ext (by show 16384 + (i.val - 16384) = i.val; omega)
    rw [e]
    exact congrArg (fun z => H (ix2 i j) + G (ix2 1 j) * z) (hY i j)

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = resid (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_eq _ _ _ _ (dot_apply _ _)), (h c).2⟩) (Cert.WOutRefIdeal.Value.run m ρ)

end Cert.WOutRefIdeal.Val

end
-- ==== Proof.DownValue.lean ====
/-
  The feed-forward part's last product: what the kernel's result array holds.
-/
module

public import proofs.«01_k».proof.Proof.Gen.DownIdeal.Frame
public import proofs.«01_k».proof.Proof.Dense
public import Idealize.ShloMosaic.Lib.Claim
public import Idealize.ShloMosaic.Lib.Pipeline.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.DownIdeal.Val

open Cert.DownIdeal Cert.DownIdeal.Gen
open Cert.Dense Idealize.ShloMosaic Idealize.ShloMosaic.TcCoe Idealize.ShloMosaic.Tactic
open Idealize.SL.Sem

section

variable {F : FTy → Type} [FloatOps F]
variable (m : (ℓ : Loc nD τ sig) → Buf (Elt F) ℓ) (ρ : Dev nD → PrngReg)

/-! ## What the body leaves at a point -/

theorem idx0 : ∀ t : Fin cfg0.N, win0_0.index t = ![t.val % 26, 0] := (by decide +kernel : ∀ t : Fin grid0.N, _)
theorem idx1 : ∀ t : Fin cfg0.N, win0_1.index t = ![0, 0, t.val / 26] := (by decide +kernel : ∀ t : Fin grid0.N, _)
theorem idx2 : ∀ t : Fin cfg0.N, win0_2.index t = ![t.val % 26, t.val / 26] := (by decide +kernel : ∀ t : Fin grid0.N, _)
theorem idx3 : ∀ t : Fin cfg0.N, win0_3.index t = ![0, 0, t.val / 26] := (by decide +kernel : ∀ t : Fin grid0.N, _)
theorem idx4 : ∀ t : Fin cfg0.N, win0_4.index t = ![t.val % 26, t.val / 26] := (by decide +kernel : ∀ t : Fin grid0.N, _)
theorem co1 : ∀ t : Fin cfg0.N, (grid0.coords t 1).val = t.val % 26 := (by decide +kernel : ∀ t : Fin grid0.N, _)
theorem lt_N (t : Fin cfg0.N) : t.val < 104 := lt_of_lt_of_eq t.isLt (show cfg0.N = 104 from N_0)

/-- The first point of a column block casts the weights into the scratch, -/
theorem scr_A (c : Dev nD) (t : Fin cfg0.N) (h0 : t.val % 26 = 0) : (outsAt0 m c t.val t.isLt).2 = k0_pay1 (iblk m c 1 t) := by
  rw [outsAt0_A m c t h0]
  unfold sout0_A_0
  dsimp only
  rw [View.read_writes_eq_canon _ _ _ (scover0_A_0 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz2, View.ld_unit_zero (S := S1x5632x512) hz3]

/-- the weights' block is the same along a row of points, -/
theorem iblk1_pred (c : Dev nD) (t t' : Fin cfg0.N) (h : t'.val / 26 = t.val / 26) : iblk m c 1 t = iblk m c 1 t' := by
  funext y
  blk_simp [iblk]
  refine congrArg (V m c main_arg1) ?_
  have e := idx1 t
  have e' := idx1 t'
  rw [h, ← e] at e'
  funext a
  refine Fin.ext ?_
  blk_simp [e']

/-- so the scratch holds the cast weights of the point's column block. -/
theorem scr_eq (c : Dev nD) : ∀ (n : ℕ) (h : n < cfg0.N), (outsAt0 m c n h).2 = k0_pay1 (iblk m c 1 ⟨n, h⟩)
  | 0, h => scr_A m c ⟨0, h⟩ rfl
  | n + 1, h => by
    by_cases h0 : (n + 1) % 26 = 0
    · exact scr_A m c ⟨n + 1, h⟩ h0
    · rw [outsAt0_B m c ⟨n + 1, h⟩ h0]
      refine (scr_eq c n (Nat.lt_of_succ_lt h)).trans (congrArg _ (iblk1_pred m c _ _ ?_))
      show (n + 1) / 26 = n / 26
      omega

/-- One point's block of the result. -/
def blkV (i : grid0.Coords) (x0 : Vec F S640x5632 .bf16) (x1 : Vec F S1x5632x512 .f32) (x2 : Vec F S640x512 .f32) (x3 : Vec F S2x1x512 .f32) : Vec F S640x512 .f32 :=
  k0_pay2 i (View.ld x3 (Rect.unit ![0, 0, 0] ![1, 1, 512] inb_S2x1x512_S1x1x512_0_0_0))
    (View.ld x3 (Rect.unit ![1, 0, 0] ![1, 1, 512] inb_S2x1x512_S1x1x512_1_0_0)) x2 x0 (k0_pay1 x1)

theorem out_eq (c : Dev nD) (t : Fin cfg0.N) :
    (outsAt0 m c t.val t.isLt).1 = blkV (grid0.coords t) (iblk m c 0 t) (iblk m c 1 t) (iblk m c 2 t) (iblk m c 3 t) := by
  have hN := lt_N t
  by_cases h0 : t.val % 26 = 0
  · rw [outsAt0_A m c t h0]
    unfold out0_A_4
    dsimp only
    rw [View.read_writes_eq_canon _ _ _ (cover0_A_4 c _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread]
    rw [View.canon_unit_zero hz2, View.ld_unit_zero (S := S1x5632x512) hz3, View.ld_unit_zero (S := S640x512) hz2, View.ld_unit_zero (S := S640x5632) hz2,
      View.readCov_unit_zero (S := S5632x512) _ hz2]
    rfl
  · rw [outsAt0_B m c t h0]
    unfold out0_B_4
    dsimp only
    rw [View.read_writes_eq_canon _ _ _ (cover0_B_4 c _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (Memref.isWhole_whole _).read_unread]
    rw [View.canon_unit_zero hz2, View.ld_unit_zero (S := S640x512) hz2, View.ld_unit_zero (S := S640x5632) hz2, View.ld_unit_zero (S := S5632x512) hz2,
      scr_eq m c (t.val - 1) _, ← iblk1_pred m c t ⟨t.val - 1, (Nat.sub_lt (by omega) one_pos).trans t.isLt⟩ (by show (t.val - 1) / 26 = t.val / 26; omega)]
    rfl

/-! ## Over the extended reals -/

theorem pay1_apply (v : Vec Ideal S1x5632x512 .f32) (k : Fin 5632) (c : Fin 512) : k0_pay1 v (ix2 k c) = v (ix3 0 k c) := by
  unfold k0_pay1
  pointwise

theorem pay2_apply (i : grid0.Coords) (v9 v11 : Vec Ideal S1x1x512 .f32) (v20 : Vec Ideal S640x512 .f32) (v21 : Vec Ideal S640x5632 .bf16) (v22 : Vec Ideal S5632x512 .bf16)
    (r : Fin 640) (c : Fin 512) : k0_pay2 i v9 v11 v20 v21 v22 (ix2 r c)
      = v20 (ix2 r c) + (if (i 1).val * 640 + r.val < 16384 then v9 (ix3 0 0 c) else v11 (ix3 0 0 c)) * ∑ k : Fin 5632, v21 (ix2 r k) * v22 (ix2 k c) := by
  unfold k0_pay2
  pointwise
  rw [select_row _ 640 _ (by have h : (i 1).val < 26 := (i 1).isLt; have := r.isLt; omega)]

theorem iblk0_apply (c : Dev nD) (t : Fin cfg0.N) (r : Fin 640) (k : Fin 5632) : iblk m c 0 t (ix2 r k)
    = V m c main_arg0 (ix2 ⟨(t.val % 26) * 640 + r.val, by omega⟩ k) := by
  have e := idx0 t
  blk_simp [iblk]
  refine congrArg (V m c main_arg0) ?_
  blk_ext [e]

theorem iblk1_apply (c : Dev nD) (t : Fin cfg0.N) (k : Fin 5632) (j : Fin 512) : iblk m c 1 t (ix3 0 k j)
    = V m c main_arg1 (ix3 0 k ⟨(t.val / 26) * 512 + j.val, by have := lt_N t; omega⟩) := by
  have e := idx1 t
  blk_simp [iblk]
  refine congrArg (V m c main_arg1) ?_
  blk_ext [e]

theorem iblk2_apply (c : Dev nD) (t : Fin cfg0.N) (r : Fin 640) (j : Fin 512) : iblk m c 2 t (ix2 r j)
    = V m c main_arg2 (ix2 ⟨(t.val % 26) * 640 + r.val, by omega⟩ ⟨(t.val / 26) * 512 + j.val, by have := lt_N t; omega⟩) := by
  have e := idx2 t
  blk_simp [iblk]
  refine congrArg (V m c main_arg2) ?_
  blk_ext [e]

theorem iblk3_apply (c : Dev nD) (t : Fin cfg0.N) (g : Fin 2) (j : Fin 512) : iblk m c 3 t (ix3 g 0 j)
    = V m c main_v0 (ix3 g 0 ⟨(t.val / 26) * 512 + j.val, by have := lt_N t; omega⟩) := by
  have e := idx3 t
  blk_simp [iblk]
  refine congrArg (V m c main_v0) ?_
  blk_ext [e]

theorem V_main_v0 (c : Dev nD) : V m c main_v0 = shapeCast S2x1x2048 (m ((c : Thread nD τ).loc main_arg3)) shapeCasts_S2x2048_S2x1x2048 := by
  unfold V hostOps0; after_results; rfl

end

section

variable (m : (ℓ : Loc nD τ sig) → Buf (Elt Ideal) ℓ) (ρ : Dev nD → PrngReg)

theorem V_main_v0_apply (c : Dev nD) (g : Fin 2) (j : Fin 2048) :
    V m c main_v0 (ix3 g 0 j) = m ((c : Thread nD τ).loc main_arg3) (ix2 g j) := by
  rw [V_main_v0]
  pointwise

theorem point_eq (c : Dev nD) (t : Fin cfg0.N) (r : Fin 640) (j : Fin 512) :
    blkV (grid0.coords t) (iblk m c 0 t) (iblk m c 1 t) (iblk m c 2 t) (iblk m c 3 t) (ix2 r j)
      = resid (V m c main_arg0) (V m c main_arg1) (V m c main_arg2) (m ((c : Thread nD τ).loc main_arg3))
          (ix2 ⟨(t.val % 26) * 640 + r.val, by omega⟩ ⟨(t.val / 26) * 512 + j.val, by have := lt_N t; omega⟩) := by
  unfold blkV
  rw [pay2_apply, co1]
  pointwise
  rw [iblk2_apply m c t r j, iblk3_apply m c t 0 j, iblk3_apply m c t 1 j, V_main_v0_apply, V_main_v0_apply]
  simp only [iblk0_apply m c t r, pay1_apply, iblk1_apply m c t _ j]
  rfl

/-- The result array after the run. -/
theorem final_o (c : Dev nD) : (dats m 0 c).arrAt 4 cfg0.N
    = resid (V m c main_arg0) (V m c main_arg1) (V m c main_arg2) (m ((c : Thread nD τ).loc main_arg3)) := by
  refine (dats m 0 c).arrAt_eq_of_covers 4 _ (by decide +kernel) fun t hf y => ?_
  blk_simp
  rw [after0_4, out_eq]
  have e := idx4 t
  have hN := lt_N t
  have hy0 : (y 0).val < 640 := (y 0).isLt
  have hy1 : (y 1).val < 512 := (y 1).isLt
  have e0 : ((win0_4.blk t).view.emb y 0).val = (t.val % 26) * 640 + (y 0).val := by blk_simp [e]
  have e1 : ((win0_4.blk t).view.emb y 1).val = (t.val / 26) * 512 + (y 1).val := by blk_simp [e]
  have ey : (win0_4.blk t).view.emb y = ix2 ⟨(t.val % 26) * 640 + (y 0).val, by omega⟩ ⟨(t.val / 26) * 512 + (y 1).val, by omega⟩ :=
    ix2_of _ _ _ e0 e1
  exact (congrArg _ (ix2_of y ⟨(y 0).val, hy0⟩ ⟨(y 1).val, hy1⟩ rfl rfl)).trans ((point_eq m c t _ _).trans (congrArg _ ey.symm))

/-- The run: the result array of the argument arrays, which end unchanged. -/
theorem value : θ_run defs (onTc (τ := τ) (main (F := Ideal))) ⟨m, fun _ => 0, ρ⟩ fun r => ∀ c : Dev nD,
      r.2.mem ((c : Thread nD τ).loc main_v1) = resid (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans ((final_o m c).trans (by rw [V_main_arg0, V_main_arg1, V_main_arg2])), h.2 c⟩)
    (θ_run_and (run_main m ρ) (frame_of m ρ (dats m) (A_eq m) (run_main m ρ)))

end

end Cert.DownIdeal.Val

end
-- ==== Proof.DownRef.lean ====
/-
  The reference of the feed-forward part's last product: its result array at every index.
-/
module

public import proofs.«01_k».proof.Proof.Gen.DownRefIdeal.Run
public import proofs.«01_k».proof.Proof.Dense

@[expose] public section

set_option maxRecDepth 16384

noncomputable section

namespace Cert.DownRefIdeal.Val

open Cert.DownRefIdeal Cert.DownRefIdeal.Gen
open Cert.Dense Idealize.ShloMosaic Idealize.ShloMosaic.TcCoe Idealize.SL.Sem

/-- The product, over all rows. -/
theorem dot_apply (A : Vec Ideal S16640x5632 .bf16) (W : Vec Ideal S2x5632x2048 .f32) (i : Fin 16640) (j : Fin 2048) :
    Host.dotGeneral (F := Ideal) (φ₁ := .f32) (φ₂ := .f32) dot_S16640x5632_S5632x2048_S16640x2048_1_0_0_1_n_n none (extf .f32 A bitsLt_bf16_f32)
      (shapeCast _ (extractStridedSlice S1x5632x2048 ![0, 0, 0] W slices_S2x5632x2048_S1x5632x2048_0_0_0) shapeCasts_S1x5632x2048_S5632x2048) (ix2 i j)
      = prod A W i j := by
  pointwise
  rfl

/-- The gated product and the residual stream, the latent rows beside the context rows. -/
theorem ref_eq (H : Vec Ideal S16640x2048 .f32) (G : Vec Ideal S2x2048 .f32) (Y : Vec Ideal S16640x2048 .f32)
    (P : Fin 16640 → Fin 2048 → EReal) (hY : ∀ i j, Y (ix2 i j) = P i j) :
    concatenate S16640x2048 0 [⟨S16384x2048, (addf (F := Ideal) (φ := .f32) (extractStridedSlice S16384x2048 ![0, 0] H slices_S16640x2048_S16384x2048_0_0) (mulf (broadcastInDim S16384x2048 ![0, 1] bcast_S1x2048_S16384x2048_0_1 (broadcastInDim S1x2048 ![1] bcast_S2048_S1x2048_1 (shapeCast _ (extractStridedSlice S1x2048 ![0, 0] G slices_S2x2048_S1x2048_0_0) shapeCasts_S1x2048_S2048))) (extractStridedSlice S16384x2048 ![0, 0] Y slices_S16640x2048_S16384x2048_0_0)))⟩,
        ⟨S256x2048, (addf (F := Ideal) (φ := .f32) (extractStridedSlice S256x2048 ![16384, 0] H slices_S16640x2048_S256x2048_16384_0) (mulf (broadcastInDim S256x2048 ![0, 1] bcast_S1x2048_S256x2048_0_1 (broadcastInDim S1x2048 ![1] bcast_S2048_S1x2048_1 (shapeCast _ (extractStridedSlice S1x2048 ![1, 0] G slices_S2x2048_S1x2048_1_0) shapeCasts_S1x2048_S2048))) (extractStridedSlice S256x2048 ![16384, 0] Y slices_S16640x2048_S256x2048_16384_0)))⟩] concatenates_S16384x2048_S256x2048_S16640x2048_d0
      = fun y => H y + (if (y 0).val < 16384 then G (ix2 0 (y 1)) else G (ix2 1 (y 1))) * P (y 0) (y 1) := by
  funext y
  rw [ix2_of y (y 0) (y 1) rfl rfl]
  generalize y 0 = i
  generalize y 1 = j
  pointwise
  by_cases h : i.val < 16384
  · rw [dif_pos h, if_pos h]
    exact congrArg (fun z => H (ix2 i j) + G (ix2 0 j) * z) (hY i j)
  · rw [dif_neg h, if_neg h]
    have e : (⟨16384 + (i.val - 16384), by have : i.val < 16640 := i.isLt; omega⟩ : Fin 16640) = i := Fin.ext (by show 16384 + (i.val - 16384) = i.val; omega)
    rw [e]
    exact congrArg (fun z => H (ix2 i j) + G (ix2 1 j) * z) (hY i j)

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = resid (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_eq _ _ _ _ (dot_apply _ _)), (h c).2⟩) (Cert.DownRefIdeal.Value.run m ρ)

end Cert.DownRefIdeal.Val

end
-- ==== Proof.Conv.lean ====
/-
  The feed-forward part before its last product, as mathematics: a width-3 convolution along the rows, over the latent and
  over the context rows separately, and the gated silu. And the kernel's way to write the logistic function.
-/
module

public import proofs.«01_k».proof.Proof.Dense

@[expose] public section

noncomputable section

namespace Cert.Dense

open Idealize.ShloMosaic
open scoped BigOperators

/-- The convolution's three products and its bias: the row before, the row itself, the row after. -/
def tap {n : ℕ} (C : (⟨2, ![3, n]⟩ : Shape).Idx → EReal) (b : EReal) (j : Fin n) (p u d : EReal) : EReal :=
  p * C (ix2 0 j) + u * C (ix2 1 j) + d * C (ix2 2 j) + b

def silu (g : EReal) : EReal := g * Ideal.logistic g

/-- A row, -/
def row (i : ℕ) : Fin 16640 := ⟨i % 16640, Nat.mod_lt _ (by norm_num)⟩

theorem row_eq (i : Fin 16640) (n : ℕ) (h : i.val = n) : i = row n := by
  subst h
  exact Fin.ext (Nat.mod_eq_of_lt i.isLt).symm

/-- And a column of the up projection: the first 5632 are the values, the others the gates. -/
def upcol (j : ℕ) : Fin 11264 := ⟨j % 11264, Nat.mod_lt _ (by norm_num)⟩

theorem upcol_eq (j : ℕ) (h : j < 11264) : (⟨j, h⟩ : Fin 11264) = upcol j := Fin.ext (Nat.mod_eq_of_lt h).symm

variable (A : (⟨2, ![16640, 2048]⟩ : Shape).Idx → EReal) (W : (⟨3, ![2, 2048, 11264]⟩ : Shape).Idx → EReal)
  (C : (⟨2, ![3, 11264]⟩ : Shape).Idx → EReal) (B : (⟨1, ![11264]⟩ : Shape).Idx → EReal)

/-- The convolved projection: zero stands before rows 0 and 16384 and after rows 16383 and 16639. -/
def conv3 (i : Fin 16640) (j : Fin 11264) : EReal :=
  tap C (B (ix1 j)) j (if i.val = 0 ∨ i.val = 16384 then 0 else prod A W (row (i.val - 1)) j) (prod A W i j)
    (if i.val = 16383 ∨ i.val = 16639 then 0 else prod A W (row (i.val + 1)) j)

/-- The values times the silu of the gates. -/
def up : (⟨2, ![16640, 5632]⟩ : Shape).Idx → EReal :=
  fun y => silu (conv3 A W C B (y 0) (upcol (5632 + (y 1).val))) * conv3 A W C B (y 0) (upcol (y 1).val)

theorem ofBits_half : Ideal.ofBits .f32 0x3F000000#32 = ((1 / 2 : ℝ) : EReal) := by
  simp [Ideal.ofBits, Ideal.ieee, -EReal.coe_mul]; norm_num

theorem real_half_tanh (x : ℝ) : 1 / 2 + 1 / 2 * Real.tanh (1 / 2 * x) = (1 + Real.exp (-x))⁻¹ := by
  have e : Real.exp (-x) = Real.exp (-(1 / 2 * x)) / Real.exp (1 / 2 * x) := by
    rw [← Real.exp_sub]; congr 1; ring
  have hp := Real.exp_pos (1 / 2 * x)
  have hn := Real.exp_pos (-(1 / 2 * x))
  rw [Real.tanh_eq_sinh_div_cosh, Real.sinh_eq, Real.cosh_eq, e]
  field_simp
  ring

/-- The logistic function by the hyperbolic tangent of half the argument, at every extended real. -/
theorem half_tanh (x : EReal) :
    Ideal.ofBits .f32 0x3F000000#32 + Ideal.ofBits .f32 0x3F000000#32 * Ideal.tanh (Ideal.ofBits .f32 0x3F000000#32 * x) = Ideal.logistic x := by
  rw [ofBits_half]
  induction x using EReal.rec with
  | bot =>
    rw [EReal.coe_mul_bot_of_pos (by norm_num), Ideal.tanh_bot, Ideal.logistic_bot, ← EReal.coe_one, ← EReal.coe_neg, ← EReal.coe_mul, ← EReal.coe_add, ← EReal.coe_zero]
    norm_num
  | coe r =>
    rw [← EReal.coe_mul, Ideal.tanh_coe, Ideal.logistic_coe, ← EReal.coe_mul, ← EReal.coe_add, real_half_tanh]
  | top =>
    rw [EReal.coe_mul_top_of_pos (by norm_num), Ideal.tanh_top, Ideal.logistic_top, ← EReal.coe_one, ← EReal.coe_mul, ← EReal.coe_add]
    norm_num

end Cert.Dense

end
-- ==== Proof.UpValue.lean ====
/-
  The feed-forward part before its last product: what the kernel's result array holds.
-/
module

public import proofs.«01_k».proof.Proof.Gen.UpIdeal.Frame
public import proofs.«01_k».proof.Proof.Conv
public import Idealize.ShloMosaic.Lib.Claim
public import Idealize.ShloMosaic.Lib.Pipeline.Value
public import Idealize.ShloMosaic.Lib.Pipeline.ValueKit.Geometry
public import Idealize.ShloMosaic.Lib.Pipeline.ValueKit.Tiles
public import Idealize.ShloMosaic.Lib.StableHlo.Run
public import Idealize.ShloMosaic.Lib.Pointwise

@[expose] public section

set_option maxRecDepth 16384

noncomputable section

namespace Cert.UpIdeal.Val

open Cert.UpIdeal Cert.UpIdeal.Gen
open Cert.Dense Idealize.ShloMosaic Idealize.ShloMosaic.TcCoe Idealize.ShloMosaic.Tactic
open Idealize.SL.Sem

section

variable {F : FTy → Type} [FloatOps F]
variable (m : (ℓ : Loc nD τ sig) → Buf (Elt F) ℓ) (ρ : Dev nD → PrngReg)

/-! ## What the body leaves at a point -/

theorem idx0 : ∀ t : Fin cfg0.N, win0_0.index t = ![t.val % 13, 0] := (by decide +kernel : ∀ t : Fin grid0.N, _)
theorem idx1 : ∀ t : Fin cfg0.N, win0_1.index t = ![0, 0, t.val / 13] := (by decide +kernel : ∀ t : Fin grid0.N, _)
theorem idx2 : ∀ t : Fin cfg0.N, win0_2.index t = ![0, 0, 11 + t.val / 13] := (by decide +kernel : ∀ t : Fin grid0.N, _)
theorem idx3 : ∀ t : Fin cfg0.N, win0_3.index t = ![0, t.val / 13] := (by decide +kernel : ∀ t : Fin grid0.N, _)
theorem idx4 : ∀ t : Fin cfg0.N, win0_4.index t = ![0, 11 + t.val / 13] := (by decide +kernel : ∀ t : Fin grid0.N, _)
theorem idx5 : ∀ t : Fin cfg0.N, win0_5.index t = ![0, t.val / 13] := (by decide +kernel : ∀ t : Fin grid0.N, _)
theorem idx6 : ∀ t : Fin cfg0.N, win0_6.index t = ![0, 11 + t.val / 13] := (by decide +kernel : ∀ t : Fin grid0.N, _)
theorem idx7 : ∀ t : Fin cfg0.N, win0_7.index t = ![t.val % 13, t.val / 13] := (by decide +kernel : ∀ t : Fin grid0.N, _)
theorem lt_N (t : Fin cfg0.N) : t.val < 143 := lt_of_lt_of_eq t.isLt (show cfg0.N = 143 from N_0)

/-- The first point of a column block casts the values' and the gates' weights into the scratches, -/
theorem scr_A (c : Dev nD) (t : Fin cfg0.N) (h0 : t.val % 13 = 0) :
    (outsAt0 m c t.val t.isLt).2 = (k0_pay14 (iblk m c 1 t), k0_pay15 (iblk m c 2 t)) := by
  rw [outsAt0_A m c t h0 (by omega) (by omega)]
  unfold sout0_A_0 sout0_A_1
  dsimp only
  rw [View.read_writes_eq_canon _ _ _ (scover0_A_0 c _ _ _ _ _ _ _ _ _ _ _ _ _ _ _ _ _ _ _ _ _ _ _ _ _ _ _ _ _ _ _),
    View.read_writes_eq_canon _ _ _ (scover0_A_1 c _ _ _ _ _ _ _ _ _ _ _ _ _ _ _ _ _ _ _ _ _ _ _ _ _ _ _ _ _ _ _)]
  unfold kernelRun0_A
  dsimp only
  sl_unfold_words
  simp only [View.readAt_eq_ld, (hs0_1 t).read_unread, (hs0_2 t).read_unread]
  rw [View.canon_unit_zero hz2, View.canon_unit_zero hz2, View.ld_unit_zero (S := S1x2048x512) hz3, View.ld_unit_zero (S := S1x2048x512) hz3]

/-- the weights' blocks are the same along a row of points, -/
theorem iblk1_pred (c : Dev nD) (t t' : Fin cfg0.N) (h : t'.val / 13 = t.val / 13) : iblk m c 1 t = iblk m c 1 t' := by
  funext y
  blk_simp [iblk]
  refine congrArg (V m c main_arg1) ?_
  have e := idx1 t
  have e' := idx1 t'
  rw [h, ← e] at e'
  funext a
  refine Fin.ext ?_
  blk_simp [e']

theorem iblk2_pred (c : Dev nD) (t t' : Fin cfg0.N) (h : t'.val / 13 = t.val / 13) : iblk m c 2 t = iblk m c 2 t' := by
  funext y
  blk_simp [iblk]
  refine congrArg (V m c main_arg1) ?_
  have e := idx2 t
  have e' := idx2 t'
  rw [h, ← e] at e'
  funext a
  refine Fin.ext ?_
  blk_simp [e']

/-- so the scratches hold the cast weights of the point's column block. -/
theorem scr_eq (c : Dev nD) : ∀ (n : ℕ) (h : n < cfg0.N), (outsAt0 m c n h).2 = (k0_pay14 (iblk m c 1 ⟨n, h⟩), k0_pay15 (iblk m c 2 ⟨n, h⟩))
  | 0, h => scr_A m c ⟨0, h⟩ rfl
  | n + 1, h => by
    by_cases h0 : (n + 1) % 13 = 0
    · exact scr_A m c ⟨n + 1, h⟩ h0
    · have hd : n / 13 = (n + 1) / 13 := by omega
      have key := scr_eq c n (Nat.lt_of_succ_lt h)
      rw [iblk1_pred m c ⟨n + 1, h⟩ ⟨n, Nat.lt_of_succ_lt h⟩ hd, iblk2_pred m c ⟨n + 1, h⟩ ⟨n, Nat.lt_of_succ_lt h⟩ hd]
      by_cases h1 : (n + 1) % 13 = 12
      · rw [outsAt0_C m c ⟨n + 1, h⟩ h0 h1 h1]
        exact key
      · rw [outsAt0_B m c ⟨n + 1, h⟩ h0 h1 h1]
        exact key

/-! The three rows of a block of the convolution's weights, as the body reads them. -/

abbrev cw0 (x : Vec F S3x512 .f32) : Vec F S1x512 .f32 := View.ld x (Rect.unit ![0, 0] ![1, 512] inb_S3x512_S1x512_0_0)
abbrev cw1 (x : Vec F S3x512 .f32) : Vec F S1x512 .f32 := View.ld x (Rect.unit ![1, 0] ![1, 512] inb_S3x512_S1x512_1_0)
abbrev cw2 (x : Vec F S3x512 .f32) : Vec F S1x512 .f32 := View.ld x (Rect.unit ![2, 0] ![1, 512] inb_S3x512_S1x512_2_0)

section

variable (x0 : Vec F S1312x2048 .bf16) (wa wg : Vec F S2048x512 .bf16) (x3 x4 : Vec F S3x512 .f32) (x5 x6 : Vec F S1x512 .f32)

/-- The rows the body reads for the block's first half, -/
abbrev rowsLo : Vec F S672x2048 .bf16 := View.ld x0 (Rect.unit ![0, 0] ![672, 2048] inb_S1312x2048_S672x2048_0_0)

/-- and for its second half; -/
abbrev rowsHi : Vec F S672x2048 .bf16 := View.ld x0 (Rect.unit ![640, 0] ![672, 2048] inb_S1312x2048_S672x2048_640_0)

/-- those around the last latent rows, -/
abbrev rowsLat : Vec F S48x2048 .bf16 := View.ld x0 (Rect.unit ![1008, 0] ![48, 2048] inb_S1312x2048_S48x2048_1008_0)

/-- and around the first context rows. -/
abbrev rowsCtx : Vec F S48x2048 .bf16 := View.ld x0 (Rect.unit ![1024, 0] ![48, 2048] inb_S1312x2048_S48x2048_1024_0)

/-- What the body stores: the first half of a point's block, -/
def vLo : Vec F S640x512 .bf16 :=
  k0_pay23 (k0_pay18 (rowsLo x0) wg (cw0 x4) (cw1 x4) (cw2 x4) x6) (k0_pay21 (k0_pay16 (rowsLo x0)) wa) (k0_pay22 (k0_pay16 (rowsLo x0)) wa (cw0 x3) (cw1 x3)) (cw2 x3) x5

/-- the second half, -/
def vHi : Vec F S640x512 .bf16 :=
  k0_pay24 (k0_pay17 (rowsHi x0)) (k0_pay19 (k0_pay17 (rowsHi x0)) wg (cw0 x4) (cw1 x4) (cw2 x4) x6) wa (cw0 x3) (cw1 x3) (cw2 x3) x5

/-- in the last row block over these the 16 last latent rows -/
def vLat : Vec F S16x512 .bf16 :=
  k0_pay25 (k0_pay3 (rowsLat x0)) k0_pay4 k0_pay5 (k0_pay6 (rowsLat x0) wg (cw0 x4) (cw1 x4) (cw2 x4) x6) (k0_pay7 (rowsLat x0) wg (cw0 x4) (cw1 x4) (cw2 x4) x6)
    (Scalar.ofBits .f32 0x3F000000#32) wa (cw0 x3) (cw1 x3) (cw2 x3) x5

/-- and the 16 first context rows. -/
def vCtx : Vec F S16x512 .bf16 :=
  k0_pay1 (k0_pay9 (rowsCtx x0)) k0_pay10 k0_pay11 (k0_pay12 (rowsCtx x0) wg (cw0 x4) (cw1 x4) (cw2 x4) x6) (k0_pay13 (rowsCtx x0) wg (cw0 x4) (cw1 x4) (cw2 x4) x6)
    (Scalar.ofBits .f32 0x3F000000#32) wa (cw0 x3) (cw1 x3) (cw2 x3) x5

/-- The stores of the two halves, -/
def halves : List (View.Piece (Elt F) S1280x512 .bf16) :=
  [⟨Rect.unit ![640, 0] ![640, 512] inb_S1280x512_S640x512_640_0, vHi x0 wa wg x3 x4 x5 x6⟩,
    ⟨Rect.unit ![0, 0] ![640, 512] inb_S1280x512_S640x512_0_0, vLo x0 wa wg x3 x4 x5 x6⟩]

/-- and in the last row block the two over them. -/
def edges : List (View.Piece (Elt F) S1280x512 .bf16) :=
  ⟨Rect.unit ![1024, 0] ![16, 512] inb_S1280x512_S16x512_1024_0, vCtx x0 wa wg x3 x4 x5 x6⟩ ::
    ⟨Rect.unit ![1008, 0] ![16, 512] inb_S1280x512_S16x512_1008_0, vLat x0 wa wg x3 x4 x5 x6⟩ :: halves x0 wa wg x3 x4 x5 x6

end

/-- One point's block of the result. -/
def blkV (b : ℕ) (x0 : Vec F S1312x2048 .bf16) (x1 x2 : Vec F S1x2048x512 .f32) (x3 x4 : Vec F S3x512 .f32) (x5 x6 : Vec F S1x512 .f32) : Vec F S1280x512 .bf16 :=
  if b = 12 then View.canon (edges x0 (k0_pay14 x1) (k0_pay15 x2) x3 x4 x5 x6) else View.canon (halves x0 (k0_pay14 x1) (k0_pay15 x2) x3 x4 x5 x6)

theorem out_eq (c : Dev nD) (t : Fin cfg0.N) : (outsAt0 m c t.val t.isLt).1
    = blkV (t.val % 13) (iblk m c 0 t) (iblk m c 1 t) (iblk m c 2 t) (iblk m c 3 t) (iblk m c 4 t) (iblk m c 5 t) (iblk m c 6 t) := by
  have hN := lt_N t
  unfold blkV
  by_cases h0 : t.val % 13 = 0
  · rw [if_neg (by omega), outsAt0_A m c t h0 (by omega) (by omega)]
    unfold out0_A_7
    dsimp only
    rw [View.read_writes_eq_canon _ _ _ (cover0_A_7 c _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread,
      (hs0_6 t).read_unread, View.readCov_unit_zero (S := S2048x512) _ hz2, View.ld_unit_zero (S := S1x2048x512) hz3, View.ld_unit_zero (S := S1x512) hz2]
    rfl
  · have hs := scr_eq m c (t.val - 1) (Nat.lt_of_le_of_lt (Nat.sub_le _ _) t.isLt)
    have hd : (t.val - 1) / 13 = t.val / 13 := by omega
    rw [← iblk1_pred m c t ⟨t.val - 1, Nat.lt_of_le_of_lt (Nat.sub_le _ _) t.isLt⟩ hd, ← iblk2_pred m c t ⟨t.val - 1, Nat.lt_of_le_of_lt (Nat.sub_le _ _) t.isLt⟩ hd] at hs
    by_cases h1 : t.val % 13 = 12
    · rw [if_pos h1, outsAt0_C m c t h0 h1 h1]
      unfold out0_C_7
      dsimp only
      rw [View.read_writes_eq_canon _ _ _ (cover0_C_7 c _ _ _ _ _ _ _ _ _ _ _ _ _ _ _ _ _ _ _ _ _ _ _ _ _ _ _ _ _ _ _ _ _)]
      unfold kernelRun0_C
      dsimp only
      sl_unfold_words
      simp only [View.readAt_eq_ld, (hs0_0 t).read_unread, (hs0_1 t).read_unread, (hs0_2 t).read_unread, (hs0_3 t).read_unread, (hs0_4 t).read_unread, (hs0_5 t).read_unread,
        (hs0_6 t).read_unread, (Memref.isWhole_whole _).read_unread, View.ld_unit_zero (S := S2048x512) hz2, View.ld_unit_zero (S := S1x512) hz2, hs]
      rfl
    · rw [if_neg h1, outsAt0_B m c t h0 h1 h1]
      unfold out0_B_7
      dsimp only
      rw [View.read_writes_eq_canon _ _ _ (cover0_B_7 c _ _ _ _ _ _ _ _ _ _ _ _ _ _ _ _ _ _ _ _ _ _ _ _ _ _ _ _ _ _ _ _ _)]
      unfold kernelRun0_B
      dsimp only
      sl_unfold_words
      simp only [View.readAt_eq_ld, (hs0_0 t).read_unread, (hs0_1 t).read_unread, (hs0_2 t).read_unread, (hs0_3 t).read_unread, (hs0_4 t).read_unread, (hs0_5 t).read_unread,
        (hs0_6 t).read_unread, (Memref.isWhole_whole _).read_unread, View.ld_unit_zero (S := S2048x512) hz2, View.ld_unit_zero (S := S1x512) hz2, hs]
      rfl

/-! ## Over the extended reals -/

/-- A row of a block and its halo. -/
def brow (i : ℕ) : Fin 1312 := ⟨i % 1312, Nat.mod_lt _ (by norm_num)⟩

theorem brow_eq (i : Fin 1312) (n : ℕ) (h : i.val = n) : i = brow n := by
  subst h
  exact Fin.ext (Nat.mod_eq_of_lt i.isLt).symm

end

section

variable (x0 : Vec Ideal S1312x2048 .bf16) (wa wg : Vec Ideal S2048x512 .bf16) (x3 x4 : Vec Ideal S3x512 .f32) (x5 x6 : Vec Ideal S1x512 .f32)

/-- Such a row by the weights. -/
def bdot (w : Vec Ideal S2048x512 .bf16) (i : ℕ) (j : Fin 512) : EReal := ∑ k : Fin 2048, x0 (ix2 (brow i) k) * w (ix2 k j)

/-- A convolved row of the point's block: the row before counts for nothing under `p`, the row after under `q`. -/
def btap (w : Vec Ideal S2048x512 .bf16) (C : Vec Ideal S3x512 .f32) (b : Vec Ideal S1x512 .f32) (p q : Prop) [Decidable p] [Decidable q] (r : ℕ) (j : Fin 512) : EReal :=
  (if p then 0 else bdot x0 w (r + 15) j * C (ix2 0 j)) + bdot x0 w (r + 16) j * C (ix2 1 j) + (if q then 0 else bdot x0 w (r + 17) j * C (ix2 2 j)) + b (ix2 0 j)

/-- A row of the point's block. -/
def bval (p q : Prop) [Decidable p] [Decidable q] (r : ℕ) (j : Fin 512) : EReal :=
  silu (btap x0 wg x4 x6 p q r j) * btap x0 wa x3 x5 p q r j

theorem cw0_apply (x : Vec Ideal S3x512 .f32) (j : Fin 512) : cw0 x (ix2 0 j) = x (ix2 0 j) := by
  refine congrArg x (ix2_of _ _ _ rfl ?_)
  show 0 + 1 * j.val = j.val
  omega

theorem cw1_apply (x : Vec Ideal S3x512 .f32) (j : Fin 512) : cw1 x (ix2 0 j) = x (ix2 1 j) := by
  refine congrArg x (ix2_of _ _ _ rfl ?_)
  show 0 + 1 * j.val = j.val
  omega

theorem cw2_apply (x : Vec Ideal S3x512 .f32) (j : Fin 512) : cw2 x (ix2 0 j) = x (ix2 2 j) := by
  refine congrArg x (ix2_of _ _ _ rfl ?_)
  show 0 + 1 * j.val = j.val
  omega

/-- A row that a load from row `o` on reads, by the weights. -/
theorem ld_dot {R : ℕ} (o : ℕ) (inb : ∀ a, (![o, 0] : Fin 2 → ℕ) a + (![R, 2048] : Fin 2 → ℕ) a ≤ S1312x2048.size a) (w : Vec Ideal S2048x512 .bf16)
    (i : Fin R) (n : ℕ) (hn : o + i.val = n) (j : Fin 512) :
    (∑ k : Fin 2048, (View.ld (Val := Elt Ideal) (e' := .bf16) x0 (Rect.unit ![o, 0] ![R, 2048] inb) : (⟨2, ![R, 2048]⟩ : Shape).Idx → EReal) (ix2 i k) * w (ix2 k j)) = bdot x0 w n j := by
  have hb : o + R ≤ 1312 := inb 0
  unfold bdot
  refine Finset.sum_congr rfl fun k _ => congrArg (· * _) (congrArg x0 (ix2_of _ _ _ ?_ ?_))
  · show o + 1 * i.val = n % 1312
    have := i.isLt
    omega
  · show 0 + 1 * k.val = k.val
    omega

/-- The comparison of a row's number. -/
theorem select_eq {α : Type} (g v r : ℕ) (h : g + r < 2 ^ 31) (hv : v < 2 ^ 31) (a b : α) :
    Scalar.select (IntOp.cmpi .eq (IntOp.addi (BitVec.ofNat 32 g) (BitVec.ofNat 32 r)) (BitVec.ofNat 32 v)) a b = if g + r = v then a else b := by
  have e : IntOp.addi (BitVec.ofNat 32 g) (BitVec.ofNat 32 r) = BitVec.ofNat 32 (g + r) := by
    show BitVec.ofNat 32 g + BitVec.ofNat 32 r = _
    simp [BitVec.ofNat_add]
  have e2 : IntOp.cmpi .eq (BitVec.ofNat 32 (g + r)) (BitVec.ofNat 32 v) = BitVec.ofBool (decide (g + r = v)) := by
    show BitVec.ofBool (BitVec.ofNat 32 (g + r) == BitVec.ofNat 32 v) = _
    congr 1
    rw [Bool.eq_iff_iff, beq_iff_eq, decide_eq_true_iff, ← BitVec.toNat_inj, BitVec.toNat_ofNat, BitVec.toNat_ofNat]
    omega
  rw [e, e2]
  unfold Scalar.select
  by_cases c : g + r = v <;> simp [c]

theorem vLo_apply (r : Fin 640) (j : Fin 512) : vLo x0 wa wg x3 x4 x5 x6 (ix2 r j) = bval x0 wa wg x3 x4 x5 x6 False False r.val j := by
  unfold vLo k0_pay23 k0_pay18 k0_pay21 k0_pay22 k0_pay20 k0_pay16
  pointwise
  rw [half_tanh]
  rw [cw0_apply x4, cw1_apply x4, cw2_apply x4, cw0_apply x3, cw1_apply x3, cw2_apply x3,
    ld_dot x0 0 _ wg (⟨15 + r.val, by omega⟩ : Fin 672) (r.val + 15) (by dsimp only; omega), ld_dot x0 0 _ wg (⟨16 + r.val, by omega⟩ : Fin 672) (r.val + 16) (by dsimp only; omega), ld_dot x0 0 _ wg (⟨17 + r.val, by omega⟩ : Fin 672) (r.val + 17) (by dsimp only; omega),
    ld_dot x0 0 _ wa (⟨15 + r.val, by omega⟩ : Fin 672) (r.val + 15) (by dsimp only; omega), ld_dot x0 0 _ wa (⟨16 + r.val, by omega⟩ : Fin 672) (r.val + 16) (by dsimp only; omega), ld_dot x0 0 _ wa (⟨17 + r.val, by omega⟩ : Fin 672) (r.val + 17) (by dsimp only; omega)]
  simp only [bval, btap, silu, if_false]

theorem vHi_apply (r : Fin 640) (j : Fin 512) : vHi x0 wa wg x3 x4 x5 x6 (ix2 r j) = bval x0 wa wg x3 x4 x5 x6 False False (640 + r.val) j := by
  unfold vHi k0_pay24 k0_pay19 k0_pay17
  pointwise
  rw [half_tanh]
  rw [cw0_apply x4, cw1_apply x4, cw2_apply x4, cw0_apply x3, cw1_apply x3, cw2_apply x3,
    ld_dot x0 640 _ wg (⟨15 + r.val, by omega⟩ : Fin 672) (640 + r.val + 15) (by dsimp only; omega), ld_dot x0 640 _ wg (⟨16 + r.val, by omega⟩ : Fin 672) (640 + r.val + 16) (by dsimp only; omega), ld_dot x0 640 _ wg (⟨17 + r.val, by omega⟩ : Fin 672) (640 + r.val + 17) (by dsimp only; omega),
    ld_dot x0 640 _ wa (⟨15 + r.val, by omega⟩ : Fin 672) (640 + r.val + 15) (by dsimp only; omega), ld_dot x0 640 _ wa (⟨16 + r.val, by omega⟩ : Fin 672) (640 + r.val + 16) (by dsimp only; omega), ld_dot x0 640 _ wa (⟨17 + r.val, by omega⟩ : Fin 672) (640 + r.val + 17) (by dsimp only; omega)]
  simp only [bval, btap, silu, if_false]

theorem vLat_apply (r : Fin 16) (j : Fin 512) : vLat x0 wa wg x3 x4 x5 x6 (ix2 r j)
    = bval x0 wa wg x3 x4 x5 x6 (16368 + r.val = 16384) (16368 + r.val = 16383) (1008 + r.val) j := by
  have hr := r.isLt
  unfold vLat k0_pay25 k0_pay7 k0_pay6 k0_pay3 k0_pay4 k0_pay5 k0_pay2
  pointwise
  rw [half_tanh]
  rw [cw0_apply x4, cw1_apply x4, cw2_apply x4, cw0_apply x3, cw1_apply x3, cw2_apply x3,
    ld_dot x0 1008 _ wg (⟨15 + r.val, by omega⟩ : Fin 48) (1008 + r.val + 15) (by dsimp only; omega), ld_dot x0 1008 _ wg (⟨16 + r.val, by omega⟩ : Fin 48) (1008 + r.val + 16) (by dsimp only; omega), ld_dot x0 1008 _ wg (⟨17 + r.val, by omega⟩ : Fin 48) (1008 + r.val + 17) (by dsimp only; omega),
    ld_dot x0 1008 _ wa (⟨15 + r.val, by omega⟩ : Fin 48) (1008 + r.val + 15) (by dsimp only; omega), ld_dot x0 1008 _ wa (⟨16 + r.val, by omega⟩ : Fin 48) (1008 + r.val + 16) (by dsimp only; omega), ld_dot x0 1008 _ wa (⟨17 + r.val, by omega⟩ : Fin 48) (1008 + r.val + 17) (by dsimp only; omega)]
  rw [select_eq 16368 16384 r.val (by omega) (by norm_num), select_eq 16368 16384 r.val (by omega) (by norm_num),
    select_eq 16368 16383 r.val (by omega) (by norm_num), select_eq 16368 16383 r.val (by omega) (by norm_num)]
  rfl

theorem vCtx_apply (r : Fin 16) (j : Fin 512) : vCtx x0 wa wg x3 x4 x5 x6 (ix2 r j)
    = bval x0 wa wg x3 x4 x5 x6 (16384 + r.val = 16384) (16384 + r.val = 16383) (1024 + r.val) j := by
  have hr := r.isLt
  unfold vCtx k0_pay1 k0_pay13 k0_pay12 k0_pay9 k0_pay10 k0_pay11 k0_pay8
  pointwise
  rw [half_tanh]
  rw [cw0_apply x4, cw1_apply x4, cw2_apply x4, cw0_apply x3, cw1_apply x3, cw2_apply x3,
    ld_dot x0 1024 _ wg (⟨15 + r.val, by omega⟩ : Fin 48) (1024 + r.val + 15) (by dsimp only; omega), ld_dot x0 1024 _ wg (⟨16 + r.val, by omega⟩ : Fin 48) (1024 + r.val + 16) (by dsimp only; omega), ld_dot x0 1024 _ wg (⟨17 + r.val, by omega⟩ : Fin 48) (1024 + r.val + 17) (by dsimp only; omega),
    ld_dot x0 1024 _ wa (⟨15 + r.val, by omega⟩ : Fin 48) (1024 + r.val + 15) (by dsimp only; omega), ld_dot x0 1024 _ wa (⟨16 + r.val, by omega⟩ : Fin 48) (1024 + r.val + 16) (by dsimp only; omega), ld_dot x0 1024 _ wa (⟨17 + r.val, by omega⟩ : Fin 48) (1024 + r.val + 17) (by dsimp only; omega)]
  rw [select_eq 16384 16384 r.val (by omega) (by norm_num), select_eq 16384 16384 r.val (by omega) (by norm_num),
    select_eq 16384 16383 r.val (by omega) (by norm_num), select_eq 16384 16383 r.val (by omega) (by norm_num)]
  rfl

theorem bval_congr {p q p' q' : Prop} [Decidable p] [Decidable q] [Decidable p'] [Decidable q'] (hp : p ↔ p') (hq : q ↔ q') {r r' : ℕ} (hr : r = r') (j : Fin 512) :
    bval x0 wa wg x3 x4 x5 x6 p q r j = bval x0 wa wg x3 x4 x5 x6 p' q' r' j := by
  subst hr
  simp only [bval, btap, hp, hq]

/-- A row of the block inside the piece laid last: the piece's; -/
theorem canon_in {R : ℕ} (o : ℕ) (inb : ∀ a, (![o, 0] : Fin 2 → ℕ) a + (![R, 512] : Fin 2 → ℕ) a ≤ S1280x512.size a) (w : (⟨2, ![R, 512]⟩ : Shape).Idx → EReal)
    (L : List (View.Piece (Elt Ideal) S1280x512 .bf16)) (r : Fin 1280) (j : Fin 512) (n : Fin R) (h : o + n.val = r.val) :
    View.canon ((⟨Rect.unit (s := S1280x512) ![o, 0] ![R, 512] inb, w⟩ : View.Piece (Elt Ideal) S1280x512 .bf16) :: L) (ix2 r j) = w (ix2 n j) := by
  have e : (ix2 r j : S1280x512.Idx) = (Rect.unit (s := S1280x512) ![o, 0] ![R, 512] inb).emb (ix2 n j) := by
    refine (ix2_of _ _ _ ?_ ?_).symm
    · show o + 1 * n.val = r.val
      omega
    · show 0 + 1 * j.val = j.val
      omega
  rw [e]
  exact View.canon_cons_emb _ _ _ _

/-- outside, that of the pieces before. -/
theorem canon_out {R : ℕ} (o : ℕ) (inb : ∀ a, (![o, 0] : Fin 2 → ℕ) a + (![R, 512] : Fin 2 → ℕ) a ≤ S1280x512.size a) (w : (⟨2, ![R, 512]⟩ : Shape).Idx → EReal)
    (L : List (View.Piece (Elt Ideal) S1280x512 .bf16)) (r : Fin 1280) (j : Fin 512) (h : r.val < o ∨ o + R ≤ r.val) :
    View.canon ((⟨Rect.unit (s := S1280x512) ![o, 0] ![R, 512] inb, w⟩ : View.Piece (Elt Ideal) S1280x512 .bf16) :: L) (ix2 r j) = View.canon L (ix2 r j) := by
  refine View.canon_cons_of_not_mem _ _ ?_
  rw [Rect.mem_set_unit]
  intro hm
  have h0 : o ≤ r.val ∧ r.val < o + R := hm 0
  omega

theorem halves_apply (r : Fin 1280) (j : Fin 512) : View.canon (halves x0 wa wg x3 x4 x5 x6) (ix2 r j) = bval x0 wa wg x3 x4 x5 x6 False False r.val j := by
  have hr := r.isLt
  by_cases h : r.val < 640
  · refine (canon_out 640 inb_S1280x512_S640x512_640_0 _ _ r j (by omega)).trans ((canon_in 0 inb_S1280x512_S640x512_0_0 _ _ r j ⟨r.val, h⟩ (Nat.zero_add _)).trans ?_)
    exact vLo_apply x0 wa wg x3 x4 x5 x6 ⟨r.val, h⟩ j
  · have e : 640 + (r.val - 640) = r.val := by omega
    refine (canon_in 640 inb_S1280x512_S640x512_640_0 _ _ r j ⟨r.val - 640, by omega⟩ e).trans ((vHi_apply x0 wa wg x3 x4 x5 x6 ⟨r.val - 640, by omega⟩ j).trans ?_)
    exact bval_congr _ _ _ _ _ _ _ Iff.rfl Iff.rfl e j

theorem edges_apply (r : Fin 1280) (j : Fin 512) : View.canon (edges x0 wa wg x3 x4 x5 x6) (ix2 r j)
    = bval x0 wa wg x3 x4 x5 x6 (r.val = 1024) (r.val = 1023) r.val j := by
  have hr := r.isLt
  by_cases h : 1024 ≤ r.val ∧ r.val < 1040
  · have e : 1024 + (r.val - 1024) = r.val := by omega
    refine (canon_in 1024 inb_S1280x512_S16x512_1024_0 _ _ r j ⟨r.val - 1024, by omega⟩ e).trans ((vCtx_apply x0 wa wg x3 x4 x5 x6 ⟨r.val - 1024, by omega⟩ j).trans ?_)
    exact bval_congr _ _ _ _ _ _ _ (by dsimp only; omega) (by dsimp only; omega) e j
  · refine (canon_out 1024 inb_S1280x512_S16x512_1024_0 _ _ r j (by omega)).trans ?_
    by_cases h' : 1008 ≤ r.val ∧ r.val < 1024
    · have e : 1008 + (r.val - 1008) = r.val := by omega
      refine (canon_in 1008 inb_S1280x512_S16x512_1008_0 _ _ r j ⟨r.val - 1008, by omega⟩ e).trans ((vLat_apply x0 wa wg x3 x4 x5 x6 ⟨r.val - 1008, by omega⟩ j).trans ?_)
      exact bval_congr _ _ _ _ _ _ _ (by dsimp only; omega) (by dsimp only; omega) e j
    · refine (canon_out 1008 inb_S1280x512_S16x512_1008_0 _ _ r j (by omega)).trans ((halves_apply x0 wa wg x3 x4 x5 x6 r j).trans ?_)
      exact bval_congr _ _ _ _ _ _ _ (iff_of_false id (by omega)) (iff_of_false id (by omega)) rfl j

theorem blkV_apply (b : ℕ) (x1 x2 : Vec Ideal S1x2048x512 .f32) (r : Fin 1280) (j : Fin 512) (hb : b < 13) : blkV b x0 x1 x2 x3 x4 x5 x6 (ix2 r j)
    = bval x0 (k0_pay14 x1) (k0_pay15 x2) x3 x4 x5 x6 (b * 1280 + r.val = 16384) (b * 1280 + r.val = 16383) r.val j := by
  have hr := r.isLt
  unfold blkV
  by_cases h : b = 12
  · rw [if_pos h, edges_apply]
    exact bval_congr _ _ _ _ _ _ _ (by omega) (by omega) rfl j
  · rw [if_neg h, halves_apply]
    exact bval_congr _ _ _ _ _ _ _ (iff_of_false id (by omega)) (iff_of_false id (by omega)) rfl j

theorem pay14_apply (v : Vec Ideal S1x2048x512 .f32) (k : Fin 2048) (c : Fin 512) : k0_pay14 v (ix2 k c) = v (ix3 0 k c) := by
  unfold k0_pay14
  pointwise

theorem pay15_apply (v : Vec Ideal S1x2048x512 .f32) (k : Fin 2048) (c : Fin 512) : k0_pay15 v (ix2 k c) = v (ix3 0 k c) := by
  unfold k0_pay15
  pointwise

/-- The rows with a halo of 16 rows before and after each block of 1280. -/
def haloed (a : Vec Ideal S16640x2048 .bf16) : Vec Ideal S17056x2048 .bf16 :=
  shapeCast _ (concatenate S13x1312x2048 1
    [⟨S13x16x2048, pad S13x16x2048 ![1, 0, 0] ![0, 0, 0] ![0, 0, 0] (extractStridedSlice S12x16x2048 ![0, 1264, 0] (shapeCast S13x1280x2048 a shapeCasts_S16640x2048_S13x1280x2048) slices_S13x1280x2048_S12x16x2048_0_1264_0) (sitofp (F := Ideal) .bf16 (constantI S_ 32 0#32)) pads_S12x16x2048_S13x16x2048_100_000_000 h_S_⟩,
     ⟨S13x1280x2048, shapeCast S13x1280x2048 a shapeCasts_S16640x2048_S13x1280x2048⟩,
     ⟨S13x16x2048, pad S13x16x2048 ![0, 0, 0] ![1, 0, 0] ![0, 0, 0] (extractStridedSlice S12x16x2048 ![1, 0, 0] (shapeCast S13x1280x2048 a shapeCasts_S16640x2048_S13x1280x2048) slices_S13x1280x2048_S12x16x2048_1_0_0) (sitofp (F := Ideal) .bf16 (constantI S_ 32 0#32)) pads_S12x16x2048_S13x16x2048_010_000_000 h_S_⟩]
    concatenates_S13x16x2048_S13x1280x2048_S13x16x2048_S13x1312x2048_d1) shapeCasts_S13x1312x2048_S17056x2048

theorem sitofp_zero : FloatOps.sitofp (F := Ideal) FTy.bf16 0#32 = (0 : EReal) := by
  show (((0#32 : BitVec 32).toInt : ℝ) : EReal) = 0
  simp

/-- The three pieces of a block's rows, read as one: the halo before, the block, the halo after. -/
theorem three {p1 p2 p3 p4 q : Prop} [Decidable p1] [Decidable p2] [Decidable p3] [Decidable p4] [Decidable q] (a : Vec Ideal S16640x2048 .bf16) (k : Fin 2048)
    (i1 : p1 → p2 → Fin 16640) (i2 : ¬p1 → p3 → Fin 16640) (i3 : ¬p1 → ¬p3 → p4 → Fin 16640) (n : Fin 16640)
    (h1 : ∀ h h', i1 h h' = n) (h2 : ∀ h h', i2 h h' = n) (h3 : ∀ h h' h'', i3 h h' h'' = n)
    (hq : q ↔ (p1 ∧ ¬p2) ∨ (¬p1 ∧ ¬p3 ∧ ¬p4)) :
    (if h : p1 then if h' : p2 then a (ix2 (i1 h h') k) else FloatOps.sitofp (F := Ideal) FTy.bf16 0#32
      else if h' : p3 then a (ix2 (i2 h h') k) else if h'' : p4 then a (ix2 (i3 h h' h'') k) else FloatOps.sitofp (F := Ideal) FTy.bf16 0#32)
      = if q then (0 : EReal) else a (ix2 n k) := by
  by_cases c1 : p1 <;> by_cases c2 : p2 <;> by_cases c3 : p3 <;> by_cases c4 : p4 <;> simp [c1, c2, c3, c4, hq, h1, h2, h3, sitofp_zero]

theorem haloed_apply (a : Vec Ideal S16640x2048 .bf16) (b : Fin 13) (i : Fin 1312) (k : Fin 2048) :
    haloed a (ix2 ⟨b.val * 1312 + i.val, by omega⟩ k) = if b.val * 1280 + i.val < 16 ∨ 16656 ≤ b.val * 1280 + i.val then (0 : EReal) else a (ix2 (row (b.val * 1280 + i.val - 16)) k) := by
  have hb := b.isLt
  have hi := i.isLt
  unfold haloed
  pointwise
  exact three (p1 := i.val < 16) (p2 := (1 ≤ b.val ∧ b.val - 1 < 12) ∧ i.val < 16) (p3 := i.val - 16 < 1280) (p4 := b.val < 12 ∧ i.val - 16 - 1280 < 16) a k
    (fun _ _ => ⟨(b.val - 1) * 1280 + (1264 + i.val), by omega⟩) (fun _ _ => ⟨b.val * 1280 + (i.val - 16), by omega⟩) (fun _ _ _ => ⟨(1 + b.val) * 1280 + (i.val - 16 - 1280), by omega⟩)
    (row (b.val * 1280 + i.val - 16)) (fun _ _ => row_eq _ _ (by dsimp only; omega)) (fun _ _ => row_eq _ _ (by dsimp only; omega)) (fun _ _ _ => row_eq _ _ (by dsimp only; omega)) (by omega)

end

section

variable (m : (ℓ : Loc nD τ sig) → Buf (Elt Ideal) ℓ) (ρ : Dev nD → PrngReg)

theorem V_main_v6 (c : Dev nD) : V m c main_v6 = haloed (m ((c : Thread nD τ).loc main_arg0)) := by
  unfold V hostOps0 hostOps0_1 hostOps0_2 hostOps0_3 hostOps0_4
  simp only [StableHlo.TRef.binary, StableHlo.TRef.nullary, StableHlo.TRef.unary, StableHlo.TRef.toBuf, StableHlo.TRef.ofBuf, cast_eq, List.flatten_cons, List.flatten_nil, List.cons_append, List.nil_append, List.append_nil]
  after_results
  rfl

theorem V_main_v7 (c : Dev nD) : V m c main_v7 = shapeCast S1x11264 (m ((c : Thread nD τ).loc main_arg3)) shapeCasts_S11264_S1x11264 := by
  unfold V hostOps0 hostOps0_1 hostOps0_2 hostOps0_3 hostOps0_4
  simp only [StableHlo.TRef.binary, StableHlo.TRef.nullary, StableHlo.TRef.unary, StableHlo.TRef.toBuf, StableHlo.TRef.ofBuf, cast_eq, List.flatten_cons, List.flatten_nil, List.cons_append, List.nil_append, List.append_nil]
  after_results
  rfl

theorem V_main_v8 (c : Dev nD) : V m c main_v8 = shapeCast S1x11264 (m ((c : Thread nD τ).loc main_arg3)) shapeCasts_S11264_S1x11264 := by
  unfold V hostOps0 hostOps0_1 hostOps0_2 hostOps0_3 hostOps0_4
  simp only [StableHlo.TRef.binary, StableHlo.TRef.nullary, StableHlo.TRef.unary, StableHlo.TRef.toBuf, StableHlo.TRef.ofBuf, cast_eq, List.flatten_cons, List.flatten_nil, List.cons_append, List.nil_append, List.append_nil]
  after_results
  rfl

theorem bias_apply (v : Vec Ideal S11264 .f32) (j : Fin 11264) : shapeCast S1x11264 v shapeCasts_S11264_S1x11264 (ix2 0 j) = v (ix1 j) := by
  pointwise

theorem iblk0_apply (c : Dev nD) (t : Fin cfg0.N) (r : Fin 1312) (k : Fin 2048) : iblk m c 0 t (ix2 r k)
    = V m c main_v6 (ix2 ⟨(t.val % 13) * 1312 + r.val, by omega⟩ k) := by
  have e := idx0 t
  blk_simp [iblk]
  refine congrArg (V m c main_v6) ?_
  blk_ext [e]

theorem iblk1_apply (c : Dev nD) (t : Fin cfg0.N) (k : Fin 2048) (j : Fin 512) : iblk m c 1 t (ix3 0 k j)
    = V m c main_arg1 (ix3 0 k (upcol ((t.val / 13) * 512 + j.val))) := by
  have e := idx1 t
  have hN := lt_N t
  rw [← upcol_eq _ (by omega)]
  blk_simp [iblk]
  refine congrArg (V m c main_arg1) ?_
  blk_ext [e]

theorem iblk2_apply (c : Dev nD) (t : Fin cfg0.N) (k : Fin 2048) (j : Fin 512) : iblk m c 2 t (ix3 0 k j)
    = V m c main_arg1 (ix3 0 k (upcol (5632 + ((t.val / 13) * 512 + j.val)))) := by
  have e := idx2 t
  have hN := lt_N t
  rw [← upcol_eq _ (by omega)]
  blk_simp [iblk]
  refine congrArg (V m c main_arg1) ?_
  blk_ext [e]

theorem iblk3_apply (c : Dev nD) (t : Fin cfg0.N) (g : Fin 3) (j : Fin 512) : iblk m c 3 t (ix2 g j)
    = V m c main_arg2 (ix2 g (upcol ((t.val / 13) * 512 + j.val))) := by
  have e := idx3 t
  have hN := lt_N t
  rw [← upcol_eq _ (by omega)]
  blk_simp [iblk]
  refine congrArg (V m c main_arg2) ?_
  blk_ext [e]

theorem iblk4_apply (c : Dev nD) (t : Fin cfg0.N) (g : Fin 3) (j : Fin 512) : iblk m c 4 t (ix2 g j)
    = V m c main_arg2 (ix2 g (upcol (5632 + ((t.val / 13) * 512 + j.val)))) := by
  have e := idx4 t
  have hN := lt_N t
  rw [← upcol_eq _ (by omega)]
  blk_simp [iblk]
  refine congrArg (V m c main_arg2) ?_
  blk_ext [e]

theorem iblk5_apply (c : Dev nD) (t : Fin cfg0.N) (j : Fin 512) : iblk m c 5 t (ix2 0 j)
    = V m c main_v7 (ix2 0 (upcol ((t.val / 13) * 512 + j.val))) := by
  have e := idx5 t
  have hN := lt_N t
  rw [← upcol_eq _ (by omega)]
  blk_simp [iblk]
  refine congrArg (V m c main_v7) ?_
  blk_ext [e]

theorem iblk6_apply (c : Dev nD) (t : Fin cfg0.N) (j : Fin 512) : iblk m c 6 t (ix2 0 j)
    = V m c main_v8 (ix2 0 (upcol (5632 + ((t.val / 13) * 512 + j.val)))) := by
  have e := idx6 t
  have hN := lt_N t
  rw [← upcol_eq _ (by omega)]
  blk_simp [iblk]
  refine congrArg (V m c main_v8) ?_
  blk_ext [e]

/-- A row of the point's block and halo by weights that are a column's. -/
theorem block_dot (c : Dev nD) (t : Fin cfg0.N) (W : Vec Ideal S2x2048x11264 .f32) (w : Vec Ideal S2048x512 .bf16) (j : Fin 512) (J : Fin 11264)
    (hw : ∀ k, w (ix2 k j) = W (ix3 0 k J)) (n g : ℕ) (hn : n < 1312) (hg : (t.val % 13) * 1280 + n = g) :
    bdot (iblk m c 0 t) w n j = if g < 16 ∨ 16656 ≤ g then 0 else prod (m ((c : Thread nD τ).loc main_arg0)) W (row (g - 16)) J := by
  have e : ∀ k, iblk m c 0 t (ix2 (brow n) k) = if g < 16 ∨ 16656 ≤ g then (0 : EReal) else m ((c : Thread nD τ).loc main_arg0) (ix2 (row (g - 16)) k) := fun k => by
    rw [← brow_eq ⟨n, hn⟩ n rfl, iblk0_apply m c t ⟨n, hn⟩ k, V_main_v6, haloed_apply _ ⟨t.val % 13, Nat.mod_lt _ (by norm_num)⟩ ⟨n, hn⟩ k]
    subst hg
    rfl
  unfold bdot
  simp only [e, hw]
  by_cases h : g < 16 ∨ 16656 ≤ g
  · simp only [if_pos h, zero_mul, Finset.sum_const_zero]
  · simp only [if_neg h]
    rfl

/-- A convolved row of the block. -/
theorem block_tap (c : Dev nD) (t : Fin cfg0.N) (W : Vec Ideal S2x2048x11264 .f32) (w : Vec Ideal S2048x512 .bf16) (C : Vec Ideal S3x11264 .f32) (C' : Vec Ideal S3x512 .f32)
    (B : Vec Ideal S11264 .f32) (B' : Vec Ideal S1x512 .f32) (j : Fin 512) (J : Fin 11264)
    (hw : ∀ k, w (ix2 k j) = W (ix3 0 k J)) (hC : ∀ g, C' (ix2 g j) = C (ix2 g J)) (hB : B' (ix2 0 j) = B (ix1 J))
    (r : Fin 1280) (i : Fin 16640) (hi : (t.val % 13) * 1280 + r.val = i.val) :
    btap (iblk m c 0 t) w C' B' ((t.val % 13) * 1280 + r.val = 16384) ((t.val % 13) * 1280 + r.val = 16383) r.val j
      = conv3 (m ((c : Thread nD τ).loc main_arg0)) W C B i J := by
  have hr := r.isLt
  have hl := i.isLt
  unfold btap conv3 tap
  rw [block_dot m c t W w j J hw (r.val + 15) (i.val + 15) (by omega) (by omega), block_dot m c t W w j J hw (r.val + 16) (i.val + 16) (by omega) (by omega),
    block_dot m c t W w j J hw (r.val + 17) (i.val + 17) (by omega) (by omega), hC, hC, hC, hB, hi]
  have e1 : (if i.val = 16384 then (0 : EReal) else (if i.val + 15 < 16 ∨ 16656 ≤ i.val + 15 then 0 else prod (m ((c : Thread nD τ).loc main_arg0)) W (row (i.val + 15 - 16)) J) * C (ix2 0 J))
      = (if i.val = 0 ∨ i.val = 16384 then 0 else prod (m ((c : Thread nD τ).loc main_arg0)) W (row (i.val - 1)) J) * C (ix2 0 J) := by
    by_cases h : i.val = 16384
    · rw [if_pos h, if_pos (Or.inr h), zero_mul]
    · rw [if_neg h]
      by_cases h0 : i.val = 0
      · rw [if_pos (Or.inl (by omega)), if_pos (Or.inl h0)]
      · rw [if_neg (by omega), if_neg (by omega), show i.val + 15 - 16 = i.val - 1 by omega]
  have e3 : (if i.val = 16383 then (0 : EReal) else (if i.val + 17 < 16 ∨ 16656 ≤ i.val + 17 then 0 else prod (m ((c : Thread nD τ).loc main_arg0)) W (row (i.val + 17 - 16)) J) * C (ix2 2 J))
      = (if i.val = 16383 ∨ i.val = 16639 then 0 else prod (m ((c : Thread nD τ).loc main_arg0)) W (row (i.val + 1)) J) * C (ix2 2 J) := by
    by_cases h : i.val = 16383
    · rw [if_pos h, if_pos (Or.inl h), zero_mul]
    · rw [if_neg h]
      by_cases h0 : i.val = 16639
      · rw [if_pos (Or.inr (by omega)), if_pos (Or.inr h0)]
      · rw [if_neg (by omega), if_neg (by omega), show i.val + 17 - 16 = i.val + 1 by omega]
  rw [e1, e3, if_neg (by omega : ¬(i.val + 16 < 16 ∨ 16656 ≤ i.val + 16)), show i.val + 16 - 16 = i.val by omega, ← row_eq i i.val rfl]

theorem point_eq (c : Dev nD) (t : Fin cfg0.N) (r : Fin 1280) (j : Fin 512) :
    blkV (t.val % 13) (iblk m c 0 t) (iblk m c 1 t) (iblk m c 2 t) (iblk m c 3 t) (iblk m c 4 t) (iblk m c 5 t) (iblk m c 6 t) (ix2 r j)
      = up (m ((c : Thread nD τ).loc main_arg0)) (V m c main_arg1) (V m c main_arg2) (m ((c : Thread nD τ).loc main_arg3))
          (ix2 ⟨(t.val % 13) * 1280 + r.val, by omega⟩ ⟨(t.val / 13) * 512 + j.val, by have := lt_N t; omega⟩) := by
  rw [blkV_apply _ _ _ _ _ _ _ _ r j (Nat.mod_lt _ (by norm_num))]
  unfold bval
  rw [block_tap m c t (V m c main_arg1) (k0_pay14 (iblk m c 1 t)) (V m c main_arg2) (iblk m c 3 t) (m ((c : Thread nD τ).loc main_arg3)) (iblk m c 5 t) j (upcol ((t.val / 13) * 512 + j.val))
      (fun k => (pay14_apply _ k j).trans (iblk1_apply m c t k j)) (fun g => iblk3_apply m c t g j) (by rw [iblk5_apply, V_main_v7, bias_apply])
      r ⟨(t.val % 13) * 1280 + r.val, by omega⟩ rfl,
    block_tap m c t (V m c main_arg1) (k0_pay15 (iblk m c 2 t)) (V m c main_arg2) (iblk m c 4 t) (m ((c : Thread nD τ).loc main_arg3)) (iblk m c 6 t) j (upcol (5632 + ((t.val / 13) * 512 + j.val)))
      (fun k => (pay15_apply _ k j).trans (iblk2_apply m c t k j)) (fun g => iblk4_apply m c t g j) (by rw [iblk6_apply, V_main_v8, bias_apply])
      r ⟨(t.val % 13) * 1280 + r.val, by omega⟩ rfl]
  rfl

/-- The result array after the run. -/
theorem final_o (c : Dev nD) : (dats m 0 c).arrAt 7 cfg0.N
    = up (m ((c : Thread nD τ).loc main_arg0)) (V m c main_arg1) (V m c main_arg2) (m ((c : Thread nD τ).loc main_arg3)) := by
  refine (dats m 0 c).arrAt_eq_of_covers 7 _ (by decide +kernel) fun t hf y => ?_
  blk_simp
  rw [after0_7, out_eq]
  have e := idx7 t
  have hN := lt_N t
  have hy0 : (y 0).val < 1280 := (y 0).isLt
  have hy1 : (y 1).val < 512 := (y 1).isLt
  have e0 : ((win0_7.blk t).view.emb y 0).val = (t.val % 13) * 1280 + (y 0).val := by blk_simp [e]
  have e1 : ((win0_7.blk t).view.emb y 1).val = (t.val / 13) * 512 + (y 1).val := by blk_simp [e]
  have ey : (win0_7.blk t).view.emb y = ix2 ⟨(t.val % 13) * 1280 + (y 0).val, by omega⟩ ⟨(t.val / 13) * 512 + (y 1).val, by omega⟩ :=
    ix2_of _ _ _ e0 e1
  exact (congrArg _ (ix2_of y ⟨(y 0).val, hy0⟩ ⟨(y 1).val, hy1⟩ rfl rfl)).trans ((point_eq m c t _ _).trans (congrArg _ ey.symm))

/-- The run: the result array of the argument arrays, which end unchanged. -/
theorem value : θ_run defs (onTc (τ := τ) (main (F := Ideal))) ⟨m, fun _ => 0, ρ⟩ fun r => ∀ c : Dev nD,
      r.2.mem ((c : Thread nD τ).loc main_v9) = up (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 7).trans ((final_o m c).trans (by rw [V_main_arg1, V_main_arg2])), h.2 c⟩)
    (θ_run_and (run_main m ρ) (frame_of m ρ (dats m) (A_eq m) (run_main m ρ)))

end

end Cert.UpIdeal.Val

end
-- ==== Proof.UpRef.lean ====
/-
  The reference of the feed-forward part before its last product: its result array at every index.
-/
module

public import proofs.«01_k».proof.Proof.Gen.UpRefIdeal.Run
public import proofs.«01_k».proof.Proof.Conv

@[expose] public section

set_option maxRecDepth 16384

noncomputable section

namespace Cert.UpRefIdeal.Val

open Cert.UpRefIdeal Cert.UpRefIdeal.Gen
open Cert.Dense Idealize.ShloMosaic Idealize.ShloMosaic.TcCoe Idealize.SL.Sem

/-- The up projection, over all rows. -/
theorem dot_apply (A : Vec Ideal S16640x2048 .bf16) (W : Vec Ideal S2x2048x11264 .f32) (i : Fin 16640) (j : Fin 11264) :
    Host.dotGeneral (F := Ideal) (φ₁ := .f32) (φ₂ := .f32) dot_S16640x2048_S2048x11264_S16640x11264_1_0_0_1_n_n none (extf .f32 A bitsLt_bf16_f32)
      (shapeCast _ (extractStridedSlice S1x2048x11264 ![0, 0, 0] W slices_S2x2048x11264_S1x2048x11264_0_0_0) shapeCasts_S1x2048x11264_S2048x11264) (ix2 i j)
      = prod A W i j := by
  pointwise
  rfl

/-- The latent rows, padded by a zero row on both sides, and convolved; -/
def latR (U : Vec Ideal S16640x11264 .f32) (C : Vec Ideal S3x11264 .f32) (B : Vec Ideal S11264 .f32) : Vec Ideal S16384x11264 .f32 :=
  (addf (F := Ideal) (φ := .f32) (addf (addf (mulf (extractStridedSlice S16384x11264 ![0, 0] (pad S16386x11264 ![1, 0] ![1, 0] ![0, 0] (extractStridedSlice S16384x11264 ![0, 0] U slices_S16640x11264_S16384x11264_0_0) (sitofp (F := Ideal) .f32 (constantI S_ 32 0#32)) pads_S16384x11264_S16386x11264_110_000 h_S_) slices_S16386x11264_S16384x11264_0_0) (broadcastInDim S16384x11264 ![0, 1] bcast_S1x11264_S16384x11264_0_1 (broadcastInDim S1x11264 ![1] bcast_S11264_S1x11264_1 (shapeCast _ (extractStridedSlice S1x11264 ![0, 0] C slices_S3x11264_S1x11264_0_0) shapeCasts_S1x11264_S11264)))) (mulf (extractStridedSlice S16384x11264 ![1, 0] (pad S16386x11264 ![1, 0] ![1, 0] ![0, 0] (extractStridedSlice S16384x11264 ![0, 0] U slices_S16640x11264_S16384x11264_0_0) (sitofp (F := Ideal) .f32 (constantI S_ 32 0#32)) pads_S16384x11264_S16386x11264_110_000 h_S_) slices_S16386x11264_S16384x11264_1_0) (broadcastInDim S16384x11264 ![0, 1] bcast_S1x11264_S16384x11264_0_1 (broadcastInDim S1x11264 ![1] bcast_S11264_S1x11264_1 (shapeCast _ (extractStridedSlice S1x11264 ![1, 0] C slices_S3x11264_S1x11264_1_0) shapeCasts_S1x11264_S11264))))) (mulf (extractStridedSlice S16384x11264 ![2, 0] (pad S16386x11264 ![1, 0] ![1, 0] ![0, 0] (extractStridedSlice S16384x11264 ![0, 0] U slices_S16640x11264_S16384x11264_0_0) (sitofp (F := Ideal) .f32 (constantI S_ 32 0#32)) pads_S16384x11264_S16386x11264_110_000 h_S_) slices_S16386x11264_S16384x11264_2_0) (broadcastInDim S16384x11264 ![0, 1] bcast_S1x11264_S16384x11264_0_1 (broadcastInDim S1x11264 ![1] bcast_S11264_S1x11264_1 (shapeCast _ (extractStridedSlice S1x11264 ![2, 0] C slices_S3x11264_S1x11264_2_0) shapeCasts_S1x11264_S11264))))) (broadcastInDim S16384x11264 ![0, 1] bcast_S1x11264_S16384x11264_0_1 (broadcastInDim S1x11264 ![1] bcast_S11264_S1x11264_1 B)))

/-- the context rows alike; -/
def ctxR (U : Vec Ideal S16640x11264 .f32) (C : Vec Ideal S3x11264 .f32) (B : Vec Ideal S11264 .f32) : Vec Ideal S256x11264 .f32 :=
  (addf (F := Ideal) (φ := .f32) (addf (addf (mulf (extractStridedSlice S256x11264 ![0, 0] (pad S258x11264 ![1, 0] ![1, 0] ![0, 0] (extractStridedSlice S256x11264 ![16384, 0] U slices_S16640x11264_S256x11264_16384_0) (sitofp (F := Ideal) .f32 (constantI S_ 32 0#32)) pads_S256x11264_S258x11264_110_000 h_S_) slices_S258x11264_S256x11264_0_0) (broadcastInDim S256x11264 ![0, 1] bcast_S1x11264_S256x11264_0_1 (broadcastInDim S1x11264 ![1] bcast_S11264_S1x11264_1 (shapeCast _ (extractStridedSlice S1x11264 ![0, 0] C slices_S3x11264_S1x11264_0_0) shapeCasts_S1x11264_S11264)))) (mulf (extractStridedSlice S256x11264 ![1, 0] (pad S258x11264 ![1, 0] ![1, 0] ![0, 0] (extractStridedSlice S256x11264 ![16384, 0] U slices_S16640x11264_S256x11264_16384_0) (sitofp (F := Ideal) .f32 (constantI S_ 32 0#32)) pads_S256x11264_S258x11264_110_000 h_S_) slices_S258x11264_S256x11264_1_0) (broadcastInDim S256x11264 ![0, 1] bcast_S1x11264_S256x11264_0_1 (broadcastInDim S1x11264 ![1] bcast_S11264_S1x11264_1 (shapeCast _ (extractStridedSlice S1x11264 ![1, 0] C slices_S3x11264_S1x11264_1_0) shapeCasts_S1x11264_S11264))))) (mulf (extractStridedSlice S256x11264 ![2, 0] (pad S258x11264 ![1, 0] ![1, 0] ![0, 0] (extractStridedSlice S256x11264 ![16384, 0] U slices_S16640x11264_S256x11264_16384_0) (sitofp (F := Ideal) .f32 (constantI S_ 32 0#32)) pads_S256x11264_S258x11264_110_000 h_S_) slices_S258x11264_S256x11264_2_0) (broadcastInDim S256x11264 ![0, 1] bcast_S1x11264_S256x11264_0_1 (broadcastInDim S1x11264 ![1] bcast_S11264_S1x11264_1 (shapeCast _ (extractStridedSlice S1x11264 ![2, 0] C slices_S3x11264_S1x11264_2_0) shapeCasts_S1x11264_S11264))))) (broadcastInDim S256x11264 ![0, 1] bcast_S1x11264_S256x11264_0_1 (broadcastInDim S1x11264 ![1] bcast_S11264_S1x11264_1 B)))

theorem sitofp_zero : FloatOps.sitofp (F := Ideal) FTy.f32 0#32 = (0 : EReal) := by
  show (((0#32 : BitVec 32).toInt : ℝ) : EReal) = 0
  simp

/-- The convolution's first and last product: a row inside, or the padding's zero. -/
theorem edge {p q : Prop} [Decidable p] [Decidable q] (U : Vec Ideal S16640x11264 .f32) (j : Fin 11264) (i : p → Fin 16640) (k : Fin 16640)
    (hpq : p ↔ ¬q) (hk : ∀ h, i h = k) :
    (if h : p then U (ix2 (i h) j) else FloatOps.sitofp (F := Ideal) FTy.f32 0#32) = if q then 0 else U (ix2 k j) := by
  by_cases h : p
  · rw [dif_pos h, if_neg (hpq.mp h), hk h]
  · rw [dif_neg h, if_pos (not_not.mp fun hq => h (hpq.mpr hq)), sitofp_zero]

theorem latR_apply (U : Vec Ideal S16640x11264 .f32) (C : Vec Ideal S3x11264 .f32) (B : Vec Ideal S11264 .f32) (i : Fin 16384) (j : Fin 11264)
    (n : ℕ) (hn : i.val = n) :
    latR U C B (ix2 i j) = tap C (B (ix1 j)) j (if n = 0 ∨ n = 16384 then 0 else U (ix2 (row (n - 1)) j)) (U (ix2 (row n) j))
      (if n = 16383 ∨ n = 16639 then 0 else U (ix2 (row (n + 1)) j)) := by
  have hi := i.isLt
  unfold latR
  pointwise
  rw [edge U j _ (row (n - 1)) (q := n = 0 ∨ n = 16384) (by omega) fun h => row_eq _ _ (by dsimp only; omega),
    edge U j _ (row (n + 1)) (q := n = 16383 ∨ n = 16639) (by omega) fun h => row_eq _ _ (by dsimp only; omega), ← row_eq ⟨i.val, by omega⟩ n hn]
  rfl

theorem ctxR_apply (U : Vec Ideal S16640x11264 .f32) (C : Vec Ideal S3x11264 .f32) (B : Vec Ideal S11264 .f32) (i : Fin 256) (j : Fin 11264)
    (n : ℕ) (hn : 16384 + i.val = n) :
    ctxR U C B (ix2 i j) = tap C (B (ix1 j)) j (if n = 0 ∨ n = 16384 then 0 else U (ix2 (row (n - 1)) j)) (U (ix2 (row n) j))
      (if n = 16383 ∨ n = 16639 then 0 else U (ix2 (row (n + 1)) j)) := by
  have hi := i.isLt
  unfold ctxR
  pointwise
  rw [edge U j _ (row (n - 1)) (q := n = 0 ∨ n = 16384) (by omega) fun h => row_eq _ _ (by dsimp only; omega),
    edge U j _ (row (n + 1)) (q := n = 16383 ∨ n = 16639) (by omega) fun h => row_eq _ _ (by dsimp only; omega), ← row_eq ⟨16384 + i.val, by omega⟩ n hn]
  rfl

/-- both together: the whole convolved projection. -/
def convR (U : Vec Ideal S16640x11264 .f32) (C : Vec Ideal S3x11264 .f32) (B : Vec Ideal S11264 .f32) : Vec Ideal S16640x11264 .f32 :=
  concatenate S16640x11264 0 [⟨S16384x11264, latR U C B⟩, ⟨S256x11264, ctxR U C B⟩] concatenates_S16384x11264_S256x11264_S16640x11264_d0

variable (A : Vec Ideal S16640x2048 .bf16) (W : Vec Ideal S2x2048x11264 .f32) (C : Vec Ideal S3x11264 .f32) (B : Vec Ideal S11264 .f32)

theorem convR_apply (U : Vec Ideal S16640x11264 .f32) (hU : ∀ i j, U (ix2 i j) = prod A W i j) (i : Fin 16640) (j : Fin 11264) :
    convR U C B (ix2 i j) = conv3 A W C B i j := by
  have hi := i.isLt
  unfold convR
  pointwise
  unfold conv3
  by_cases h : i.val < 16384
  · rw [dif_pos h, latR_apply U C B _ j i.val rfl, hU, hU, hU, ← row_eq i i.val rfl]
  · rw [dif_neg h, ctxR_apply U C B _ j i.val (by dsimp only; omega), hU, hU, hU, ← row_eq i i.val rfl]

/-- The gated product. -/
theorem ref_eq (U : Vec Ideal S16640x11264 .f32) (hU : ∀ i j, U (ix2 i j) = prod A W i j) :
    truncf (F := Ideal) .bf16 (mulf (mulf (extractStridedSlice S16640x5632 ![0, 5632] (convR U C B) slices_S16640x11264_S16640x5632_0_5632) (Host.divf (broadcastInDim S16640x5632 ![] bcast_S_S16640x5632 (constant S_ .f32 0x3F800000#32)) (addf (broadcastInDim S16640x5632 ![] bcast_S_S16640x5632 (constant S_ .f32 0x3F800000#32)) (Host.exp (Host.negf (extractStridedSlice S16640x5632 ![0, 5632] (convR U C B) slices_S16640x11264_S16640x5632_0_5632)))))) (extractStridedSlice S16640x5632 ![0, 0] (convR U C B) slices_S16640x11264_S16640x5632_0_0)) bitsLt_bf16_f32
      = up A W C B := by
  funext y
  obtain ⟨i, j, rfl⟩ : ∃ (i : Fin 16640) (j : Fin 5632), y = ix2 i j := ⟨y 0, y 1, ix2_of y _ _ rfl rfl⟩
  pointwise
  rw [convR_apply A W C B U hU, convR_apply A W C B U hU, upcol_eq, upcol_eq]
  rfl

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = up (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_eq _ _ _ _ _ (dot_apply _ _)), (h c).2⟩) (Cert.UpRefIdeal.Value.run m ρ)

end Cert.UpRefIdeal.Val

end
-- ==== Proof.GatesFrame.lean ====
/-
  The projection to the recurrence's gates as printed: the program runs at every instance, leaves its arguments unchanged
  and every semaphore counter at zero. Nothing is said of the contents of its result, of the weights the body keeps between
  points, or of the rows of the last weight block that lie beyond the array.
-/
module

public import proofs.«01_k».proof.Proof.Gen.Gates.Frame
public import proofs.«01_k».proof.Proof.Gen.Gates.Points
public import Idealize.ShloMosaic.Lib.Claim
public import Idealize.ShloMosaic.Lib.Pipeline.FrameBody
public import Idealize.ShloMosaic.Lib.Pipeline.Cells
public import Idealize.ShloMosaic.Lib.Tactic

@[expose] public section

set_option maxRecDepth 16384

noncomputable section

namespace Cert.Gates.Val

open Cert.Gates Cert.Gates.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whether the body casts the weights at this point. -/
abbrev first (i : grid0.Coords) : Prop := (Scalar.cmpi .ne (Scalar.extui (Scalar.cmpi .eq (BitVec.ofNat 32 (i 1).val) 0#32)) 0#32) = 1#1

set_option maxHeartbeats 1000000 in
/-- The body runs, its inputs' buffers unchanged. -/
theorem run (c : Dev nD) (i : grid0.Coords) (arg2 : Memref sig .tc .vmem S1280x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x128x2048 .f32) (harg7 : arg7.IsWhole) (arg8 : Memref sig .tc .vmem S1280x1024 .bf16) (harg8 : arg8.IsWhole) (arg9 : Memref sig .tc .vmem S1024x2048 .bf16) (harg9 : arg9.IsWhole)
    (x0 : Vec F S1280x2048 .bf16) (x1 x2 x3 x4 : Vec F S1x256x2048 .f32) (x5 : Vec F S1x128x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)) -∗ K ⟨⟩))
      ⊢ wp frame (wpE (defs₀ (F := F)) Variants.none c none) E (cc0_matmul_wt i arg2 harg2 arg3 harg3 arg4 harg4 arg5 harg5 arg6 harg6 arg7 harg7 arg8 harg8 arg9 harg9) K := by
  unfold cc0_matmul_wt
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  by_cases hc : first i
  all_goals
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexists _; isplitr; swap
      · iexact H6
      ipureintro; rfl
    iexists _; iexists _; isplitr; swap
    · iexact HS
    ipureintro; rfl

/-- The buffers the body works on at point `t`: the contents of none are named. -/
def dats (_ : Fin 1) (c : Dev nD) : Dat τ (Elt F) Unit ℕ (UR sig nD τ) ℕ cfg0 c where
  A w := V m c (Pipeline.arrRef spec0 w)
  after _ _ := fun _ => Classical.choice inferInstance
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What lies outside the windows: the weights kept between points, at some contents. -/
theorem PhiA_eq (c : Dev nD) :
    (Pipeline.ΦA spec0 c : sProp 𝕄)
      = iprop(iprop((∃ d, owns (c : Thread nD τ) (Memref.whole cc0_scratch0 : Memref sig .tc .vmem S1024x2048 .bf16) fullShare d)) ∗ (∃ r, prngReg c r)) := by
  unfold Pipeline.ΦA; rw [scopedRest0_eq]; simp only [owns_whole]; try rfl

/-- The windows' buffers, each at some contents. -/
def bufs (c : Dev nD) (t : Fin cfg0.N) : sProp 𝕄 :=
  iprop((∃ d, owns (c : Thread nD τ) (st0_0 t) fullShare d) ∗ (∃ d, owns (c : Thread nD τ) (st0_1 t) fullShare d) ∗ (∃ d, owns (c : Thread nD τ) (st0_2 t) fullShare d)
    ∗ (∃ d, owns (c : Thread nD τ) (st0_3 t) fullShare d) ∗ (∃ d, owns (c : Thread nD τ) (st0_4 t) fullShare d) ∗ (∃ d, owns (c : Thread nD τ) (st0_5 t) fullShare d)
    ∗ (∃ d, owns (c : Thread nD τ) (st0_6 t) fullShare d))

theorem sound_body (c : Dev nD) (t : Fin cfg0.N) :
    iprop((dats m 0 c).Φ t.castSucc ∗ (dats m 0 c).owesAt () t.castSucc ∗ bufs c t)
      ⊢ wp frame (wpE (defs₀ (F := F)) Variants.none c none) Set.univ (bodyAt0 t) (fun _ => iprop((dats m 0 c).Φ t.succ ∗ (dats m 0 c).owesAt () t.succ ∗ bufs c t)) := by
  unfold bufs bodyAt0
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩, H6⟩
  iapply (run c (grid0.coords t) _ _ _ _ _ _ _ _ _ _ _ _ _ _ _ _ d0 d1 d2 d3 d4 d5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexact HS
    iexact Hg
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ (fun _ => true) := fun t => by
  refine triple_restated (sound_body m c t) (congrArg _ (defs₀_row t).symm) ?_ fun _ => ?_
  · rw [bigSep_W0]
    exact .rfl
  · rw [bigSep_W0]
    exact .rfl

set_option backward.isDefEq.respectTransparency.types false in
/-- The run: the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c)⟩, h.2⟩)
    (Pipeline.θ_run_frame_forget_shared (Q' := fun r => Pipeline.RDat.FramePost cfg0 (fun c => (dats m 0 c).toRForget (fun _ => true)) (V m) r ∧ r.2.sem = fun _ => 0)
      cfgs (dats m) (0 : Fin 1) launch₀0 defs₀ Variants.none (fun _ => true) m ρ main
      (hbody := body_obligation m) (hq := fun _ _ _ => rfl) (howed := fun _ _ => rfl) (V := V m) (hmain := hmain m Variants.none) (hA := A_eq m) (hΦ := fun _ _ => rfl))

end Cert.Gates.Val

end
-- ==== Proof.GatesValue.lean ====
/-
  The projection to the recurrence's gates: what the kernel's result array holds. The last of the five weight blocks may
  lie partly beyond the array; the body reads only rows of it that do not.
-/
module

public import proofs.«01_k».proof.Proof.Gen.GatesIdeal.Frame
public import proofs.«01_k».proof.Proof.Gen.GatesIdeal.Points
public import proofs.«01_k».proof.Proof.Dense
public import Idealize.ShloMosaic.Lib.Claim
public import Idealize.ShloMosaic.Lib.Pipeline.FrameBody
public import Idealize.ShloMosaic.Lib.Pipeline.Cells
public import Idealize.ShloMosaic.Lib.Pipeline.Value
public import Idealize.ShloMosaic.Lib.Pipeline.ValueKit.Geometry
public import Idealize.ShloMosaic.Lib.StableHlo.Run
public import Idealize.ShloMosaic.Lib.Pointwise
public import Idealize.ShloMosaic.Lib.Tactic

@[expose] public section

set_option maxRecDepth 16384

noncomputable section

namespace Cert.GatesIdeal.Val

open Cert.GatesIdeal Cert.GatesIdeal.Gen
open Cert.Dense Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

/-! ## The weights and the product -/

/-- Rows of four blocks of 256 and one of 128, without the first 32, cast. -/
def cast5 (x1 x2 x3 x4 : Vec Ideal S1x256x2048 .f32) (x5 : Vec Ideal S1x128x2048 .f32) : FVec Ideal S1024x2048 .bf16 :=
  shapeCast S1024x2048
    (truncf .bf16
      (extractStridedSlice S1024x2048 ![32, 0]
        (concatenate S1152x2048 0
          [⟨S256x2048, shapeCast S256x2048 x1 shapeCasts_S1x256x2048_S256x2048⟩, ⟨S256x2048, shapeCast S256x2048 x2 shapeCasts_S1x256x2048_S256x2048⟩,
            ⟨S256x2048, shapeCast S256x2048 x3 shapeCasts_S1x256x2048_S256x2048⟩, ⟨S256x2048, shapeCast S256x2048 x4 shapeCasts_S1x256x2048_S256x2048⟩,
            ⟨S128x2048, shapeCast S128x2048 x5 shapeCasts_S1x128x2048_S128x2048⟩]
          concatenates_S256x2048_S256x2048_S256x2048_S256x2048_S128x2048_S1152x2048_d0 : FVec Ideal S1152x2048 .f32)
        slices_S1152x2048_o32_0_S1024x2048 : FVec Ideal S1024x2048 .f32)
      bitsLt_bf16_f32 : FVec Ideal S1024x2048 .bf16)
    shapeCasts_S1024x2048_S1024x2048

/-- The product of a block of rows and such weights, cast. -/
def prodB (x : Vec Ideal S1280x2048 .bf16) (w : Vec Ideal S1024x2048 .bf16) : FVec Ideal S1280x1024 .bf16 :=
  truncf .bf16 (matmul (φ₁ := .bf16) (φ₂ := .bf16) dot_S1280x2048_S1024x2048_S1280x1024_1_1_0_0_n_n none x w (constant S1280x1024 .f32 0x00000000#32) : FVec Ideal S1280x1024 .f32) bitsLt_bf16_f32

/-- Rows `256 b` to `256 b + 255` of the transposed weights. -/
def rowsB (A : Vec Ideal S2x13856x2048 .f32) (b : ℕ) : Vec Ideal S1x256x2048 .f32 := fun y => A (ix3 0 (col (256 * b + (y 1).val)) (y 2))

/-- The weights of column block `b`. -/
def wS (A : Vec Ideal S2x13856x2048 .f32) (b : ℕ) : Vec Ideal S1024x2048 .bf16 :=
  fun y => (A (ix3 0 (col (5664 + (1024 * b + (y 0).val))) (y 1)) : EReal)

/-- The weights cast are those of the column block, whatever lies beyond the 32nd row of the last block. -/
theorem cast5_eq (A : Vec Ideal S2x13856x2048 .f32) (b : ℕ) (x5 : Vec Ideal S1x128x2048 .f32)
    (h5 : ∀ (r : Fin 128) (k : Fin 2048), r.val < 32 → x5 (ix3 0 r k) = A (ix3 0 (col (128 * (52 + 8 * b) + r.val)) k)) :
    cast5 (rowsB A (22 + 4 * b + 0)) (rowsB A (22 + 4 * b + 1)) (rowsB A (22 + 4 * b + 2)) (rowsB A (22 + 4 * b + 3)) x5 = wS A b := by
  funext y
  rw [ix2_of y (y 0) (y 1) rfl rfl]
  generalize hr : y 0 = r
  generalize y 1 = k
  have hr' : r.val < 1024 := r.isLt
  have key : ∀ (b' : ℕ) (r' : Fin 256), 256 * b' + r'.val = 5664 + (1024 * b + r.val) →
      rowsB A b' (ix3 0 r' k) = A (ix3 0 (col (5664 + (1024 * b + r.val))) k) := fun b' r' h => by rw [← h]; rfl
  have keyE : ∀ (r' : Fin 128), r'.val < 32 → 128 * (52 + 8 * b) + r'.val = 5664 + (1024 * b + r.val) →
      x5 (ix3 0 r' k) = A (ix3 0 (col (5664 + (1024 * b + r.val))) k) := fun r' h' h => by rw [← h]; exact h5 r' k h'
  unfold wS cast5
  pointwise
  split_ifs <;> first | exact key _ _ (by dsimp only; omega) | exact keyE _ (by dsimp only; omega) (by dsimp only; omega)

theorem prodB_apply (x : Vec Ideal S1280x2048 .bf16) (w : Vec Ideal S1024x2048 .bf16) (r : Fin 1280) (c : Fin 1024) :
    prodB x w (ix2 r c) = ∑ k : Fin 2048, x (ix2 r k) * w (ix2 c k) := by
  unfold prodB
  pointwise

/-! ## The body -/

/-- Whether the body casts the weights at this point. -/
abbrev first (i : grid0.Coords) : Prop := (Scalar.cmpi .ne (Scalar.extui (Scalar.cmpi .eq (BitVec.ofNat 32 (i 1).val) 0#32)) 0#32) = 1#1

/-- A buffer one store covers holds what was stored. -/
theorem stored2 {κ : Kind} {sp : Space} {a b : ℕ} {e : EltTy} (v : View sig κ sp (⟨2, ![a, b]⟩ : Shape) e) (f : v.ty.Contents (Elt Ideal))
    (inb : ∀ x, (![0, 0] : Fin 2 → ℕ) x + (⟨2, ![a, b]⟩ : Shape).size x ≤ (⟨2, ![a, b]⟩ : Shape).size x) (w : (⟨2, ![a, b]⟩ : Shape).Idx → Elt Ideal e) :
    v.read (Elt Ideal) (v.writes (Elt Ideal) f [⟨Rect.unit ![0, 0] (⟨2, ![a, b]⟩ : Shape).size inb, w⟩]) = w := by
  rw [View.read_writes_eq_canon v f _ fun y => ⟨_, List.mem_singleton_self _, ?_⟩]
  · exact View.canon_unit_zero hz2 inb w
  · have h : Rect.unit (s := (⟨2, ![a, b]⟩ : Shape)) ![0, 0] (⟨2, ![a, b]⟩ : Shape).size inb = Rect.whole _ := by
      simp only [hz2]; rfl
    show y ∈ (Rect.unit (s := (⟨2, ![a, b]⟩ : Shape)) ![0, 0] (⟨2, ![a, b]⟩ : Shape).size inb).set
    rw [h, Rect.set_whole]
    exact Finset.mem_univ y

/-- A load of a whole buffer reads what it holds. -/
theorem load {κ : Kind} {sp : Space} {S : Shape} {e : EltTy} (a : Memref sig κ sp S e) (h : a.IsWhole) (x : S.Idx → Elt Ideal e) {off : Fin S.rank → ℕ}
    (ho : off = fun _ => 0) (inb : ∀ y, off y + S.size y ≤ S.size y) :
    View.ld (a.view.read (Elt Ideal) (h.unread x)) (Rect.unit off S.size inb) = x := by
  rw [h.read_unread]
  exact View.ld_unit_zero ho inb x

theorem cast5_congr {x1 x1' x2 x2' x3 x3' x4 x4' : Vec Ideal S1x256x2048 .f32} {x5 x5' : Vec Ideal S1x128x2048 .f32} (h1 : x1 = x1') (h2 : x2 = x2')
    (h3 : x3 = x3') (h4 : x4 = x4') (h5 : x5 = x5') : cast5 x1 x2 x3 x4 x5 = cast5 x1' x2' x3' x4' x5' := by
  rw [h1, h2, h3, h4, h5]

theorem prodB_congr {x x' : Vec Ideal S1280x2048 .bf16} {w w' : Vec Ideal S1024x2048 .bf16} (h : x = x') (h' : w = w') : prodB x w = prodB x' w' := by
  rw [h, h']

set_option maxHeartbeats 1000000 in
/-- The first point of a column block casts the weights and multiplies by them; -/
theorem run_first (c : Dev nD) (i : grid0.Coords) (arg2 : Memref sig .tc .vmem S1280x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x128x2048 .f32) (harg7 : arg7.IsWhole) (arg8 : Memref sig .tc .vmem S1280x1024 .bf16) (harg8 : arg8.IsWhole) (arg9 : Memref sig .tc .vmem S1024x2048 .bf16) (harg9 : arg9.IsWhole) (hc : first i)
    (x0 : Vec Ideal S1280x2048 .bf16) (x1 x2 x3 x4 : Vec Ideal S1x256x2048 .f32) (x5 : Vec Ideal S1x128x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (prodB x0 (cast5 x1 x2 x3 x4 x5)) ∗ owns (c : Thread nD τ) arg9 fullShare (cast5 x1 x2 x3 x4 x5)) -∗ K ⟨⟩))
      ⊢ wp frame (wpE (defs₀ (F := Ideal)) Variants.none c none) E (cc0_matmul_wt i arg2 harg2 arg3 harg3 arg4 harg4 arg5 harg5 arg6 harg6 arg7 harg7 arg8 harg8 arg9 harg9) K := by
  unfold cc0_matmul_wt
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    ipureintro
    refine (stored2 (a := 1280) (b := 1024) arg8.view f6 inb_S1280x1024_S1280x1024_0_0 _).trans ?_
    sl_unfold_words
    simp only [View.readAt_eq_ld, harg2.read_unread, View.ld_unit_zero (S := S1280x2048) hz2, View.readCov_unit_zero (S := S1024x2048) _ hz2]
    exact congrArg (prodB x0) (cast5_congr (load arg3 harg3 x1 hz3 _) (load arg4 harg4 x2 hz3 _) (load arg5 harg5 x3 hz3 _) (load arg6 harg6 x4 hz3 _) (load arg7 harg7 x5 hz3 _))
  iexists _; isplitr; swap
  · iexact HS
  ipureintro
  refine (stored2 (a := 1024) (b := 2048) arg9.view fs inb_S1024x2048_S1024x2048_0_0 _).trans ?_
  exact cast5_congr (load arg3 harg3 x1 hz3 _) (load arg4 harg4 x2 hz3 _) (load arg5 harg5 x3 hz3 _) (load arg6 harg6 x4 hz3 _) (load arg7 harg7 x5 hz3 _)

set_option maxHeartbeats 1000000 in
/-- the others multiply by the weights kept. -/
theorem run_next (c : Dev nD) (i : grid0.Coords) (arg2 : Memref sig .tc .vmem S1280x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x128x2048 .f32) (harg7 : arg7.IsWhole) (arg8 : Memref sig .tc .vmem S1280x1024 .bf16) (harg8 : arg8.IsWhole) (arg9 : Memref sig .tc .vmem S1024x2048 .bf16) (harg9 : arg9.IsWhole) (hc : ¬first i)
    (x0 : Vec Ideal S1280x2048 .bf16) (x1 x2 x3 x4 : Vec Ideal S1x256x2048 .f32) (x5 : Vec Ideal S1x128x2048 .f32) (xs : Vec Ideal S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (prodB x0 xs) ∗ owns (c : Thread nD τ) arg9 fullShare xs) -∗ K ⟨⟩))
      ⊢ wp frame (wpE (defs₀ (F := Ideal)) Variants.none c none) E (cc0_matmul_wt i arg2 harg2 arg3 harg3 arg4 harg4 arg5 harg5 arg6 harg6 arg7 harg7 arg8 harg8 arg9 harg9) K := by
  unfold cc0_matmul_wt
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    ipureintro
    refine (stored2 (a := 1280) (b := 1024) arg8.view f6 inb_S1280x1024_S1280x1024_0_0 _).trans ?_
    exact prodB_congr (load arg2 harg2 x0 hz2 _) (load arg9 harg9 xs hz2 _)
  iexists _; isplitr; swap
  · iexact HS
  ipureintro
  exact harg9.read_unread _

/-! ## What the body finds and leaves at a point -/

variable (m : (ℓ : Loc nD τ sig) → Buf (Elt Ideal) ℓ) (ρ : Dev nD → PrngReg)

theorem idx0 : ∀ t : Fin cfg0.N, win0_0.index t = ![t.val % 13, 0] := (by decide +kernel : ∀ t : Fin grid0.N, _)
theorem idx1 : ∀ t : Fin cfg0.N, win0_1.index t = ![0, 22 + 4 * (t.val / 13) + 0, 0] := (by decide +kernel : ∀ t : Fin grid0.N, _)
theorem idx2 : ∀ t : Fin cfg0.N, win0_2.index t = ![0, 22 + 4 * (t.val / 13) + 1, 0] := (by decide +kernel : ∀ t : Fin grid0.N, _)
theorem idx3 : ∀ t : Fin cfg0.N, win0_3.index t = ![0, 22 + 4 * (t.val / 13) + 2, 0] := (by decide +kernel : ∀ t : Fin grid0.N, _)
theorem idx4 : ∀ t : Fin cfg0.N, win0_4.index t = ![0, 22 + 4 * (t.val / 13) + 3, 0] := (by decide +kernel : ∀ t : Fin grid0.N, _)
theorem idx5 : ∀ t : Fin cfg0.N, win0_5.index t = ![0, 52 + 8 * (t.val / 13), 0] := (by decide +kernel : ∀ t : Fin grid0.N, _)
theorem idx6 : ∀ t : Fin cfg0.N, win0_6.index t = ![t.val % 13, t.val / 13] := (by decide +kernel : ∀ t : Fin grid0.N, _)
theorem lt_N (t : Fin cfg0.N) : t.val < 104 := lt_of_lt_of_eq t.isLt (show cfg0.N = 104 from N_0)

theorem X1_eq (c : Dev nD) (t : Fin cfg0.N) : X0_1 m c t = rowsB (V m c main_v0) (22 + 4 * (t.val / 13) + 0) := by
  funext y
  have e := idx1 t
  have hN := lt_N t
  unfold X0_1 Pipeline.Window.fill rowsB col
  rw [dif_pos (moved0_1 t y)]
  blk_simp [iblk]
  refine congrArg (V m c main_v0) ?_
  blk_ext [e]

theorem X2_eq (c : Dev nD) (t : Fin cfg0.N) : X0_2 m c t = rowsB (V m c main_v0) (22 + 4 * (t.val / 13) + 1) := by
  funext y
  have e := idx2 t
  have hN := lt_N t
  unfold X0_2 Pipeline.Window.fill rowsB col
  rw [dif_pos (moved0_2 t y)]
  blk_simp [iblk]
  refine congrArg (V m c main_v0) ?_
  blk_ext [e]

theorem X3_eq (c : Dev nD) (t : Fin cfg0.N) : X0_3 m c t = rowsB (V m c main_v0) (22 + 4 * (t.val / 13) + 2) := by
  funext y
  have e := idx3 t
  have hN := lt_N t
  unfold X0_3 Pipeline.Window.fill rowsB col
  rw [dif_pos (moved0_3 t y)]
  blk_simp [iblk]
  refine congrArg (V m c main_v0) ?_
  blk_ext [e]

theorem X4_eq (c : Dev nD) (t : Fin cfg0.N) : X0_4 m c t = rowsB (V m c main_v0) (22 + 4 * (t.val / 13) + 3) := by
  funext y
  have e := idx4 t
  have hN := lt_N t
  unfold X0_4 Pipeline.Window.fill rowsB col
  rw [dif_pos (moved0_4 t y)]
  blk_simp [iblk]
  refine congrArg (V m c main_v0) ?_
  blk_ext [e]

/-- At least 32 rows of the last weight block lie inside the array. -/
theorem xsize5 : ∀ t : Fin cfg0.N, ∀ a, (![1, 32, 2048] : Fin 3 → ℕ) a ≤ (cfg0.win 5).xsize (cfg0.grid.coords t) a := by decide +kernel

/-- The last weight block, over contents `d`. -/
def fill5 (c : Dev nD) (t : Fin cfg0.N) (d : (cfg0.win 5).block.Idx → Elt Ideal (cfg0.win 5).elt) : (cfg0.win 5).block.Idx → Elt Ideal (cfg0.win 5).elt :=
  (cfg0.win 5).fill (cfg0.grid.coords t) d (iblk m c 5 t)

theorem fill5_apply (c : Dev nD) (t : Fin cfg0.N) (d : (cfg0.win 5).block.Idx → Elt Ideal (cfg0.win 5).elt) (r : Fin 128) (k : Fin 2048) (hr : r.val < 32) :
    fill5 m c t d (ix3 0 r k) = V m c main_v0 (ix3 0 (col (128 * (52 + 8 * (t.val / 13)) + r.val)) k) := by
  have e := idx5 t
  have hN := lt_N t
  have hm : (cfg0.win 5).moved (cfg0.grid.coords t) (ix3 0 r k) = true := ((cfg0.win 5).moved_iff _ _).mpr fun a => by
    refine lt_of_lt_of_le ?_ (xsize5 t a)
    fin_cases a
    · exact Nat.zero_lt_one
    · exact hr
    · exact k.isLt
  unfold fill5 Pipeline.Window.fill col
  rw [dif_pos hm]
  blk_simp [iblk]
  refine congrArg (V m c main_v0) ?_
  blk_ext [e]

/-- The weights the body casts at a column block's first point. -/
theorem cast_point (c : Dev nD) (t : Fin cfg0.N) (d : (cfg0.win 5).block.Idx → Elt Ideal (cfg0.win 5).elt) :
    cast5 (X0_1 m c t) (X0_2 m c t) (X0_3 m c t) (X0_4 m c t) (fill5 m c t d) = wS (V m c main_v0) (t.val / 13) := by
  rw [X1_eq, X2_eq, X3_eq, X4_eq]
  exact cast5_eq _ _ _ fun r k hr => fill5_apply m c t d r k hr

theorem hfirst (t : Fin cfg0.N) : first (grid0.coords t) ↔ t.val % 13 = 0 := by
  have ht := lt_N t
  have e0 : (grid0.coords t 0).val = t.val / 13 % 8 := Pipeline.Grid.coords_val t 0 (by decide) rfl
  have e1 : (grid0.coords t 1).val = t.val / 1 % 13 := Pipeline.Grid.coords_val t 1 (by decide) rfl
  simp only [first, e1]
  word_cmp

/-! ## The invariant -/

/-- Where the weights are kept between points. -/
abbrev scM : Memref sig .tc .vmem S1024x2048 .bf16 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before point 0 the weights kept are at some contents, after point `n` those of its column block. -/
def Inv (c : Dev nD) : (n : ℕ) → n ≤ cfg0.N → sProp 𝕄
  | 0, _ => Pipeline.ΦA spec0 c
  | n + 1, _ => iprop(iprop(owns (c : Thread nD τ) scM fullShare (wS (V m c main_v0) (n / 13))) ∗ (∃ r, prngReg c r))

theorem Inv_pos (c : Dev nD) (n : ℕ) (h : n ≤ cfg0.N) (hz : n ≠ 0) :
    Inv m c n h = iprop(iprop(owns (c : Thread nD τ) scM fullShare (wS (V m c main_v0) ((n - 1) / 13))) ∗ (∃ r, prngReg c r)) := by
  cases n with
  | zero => exact absurd rfl hz
  | succ n => rfl

/-- At any point the weights kept are at some contents. -/
theorem Inv_any (c : Dev nD) (n : ℕ) (h : n ≤ cfg0.N) : Inv m c n h ⊢ Pipeline.ΦA spec0 c := by
  cases n with
  | zero => exact .rfl
  | succ n =>
    rw [PhiA_eq]
    unfold Inv
    iintro ⟨HS, Hg⟩
    isplitl [HS]
    · iexists _; iexact HS
    iexact Hg

/-- What the body finds and leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => X0_4 m c t
    | ⟨5, _⟩ => fill5 m c t fun _ => (0 : EReal)
    | ⟨6, _⟩ => prodB (iblk m c 0 t) (wS (V m c main_v0) (t.val / 13))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = X0_2 m c t := by dsimp only [dats]
theorem after3 (c : Dev nD) (t : Fin cfg0.N) : (dats m 0 c).after 3 t = X0_3 m c t := by dsimp only [dats]
theorem after4 (c : Dev nD) (t : Fin cfg0.N) : (dats m 0 c).after 4 t = X0_4 m c t := by dsimp only [dats]
theorem after5 (c : Dev nD) (t : Fin cfg0.N) : (dats m 0 c).after 5 t = fill5 m c t fun _ => (0 : EReal) := by dsimp only [dats]
theorem after6 (c : Dev nD) (t : Fin cfg0.N) : (dats m 0 c).after 6 t = prodB (iblk m c 0 t) (wS (V m c main_v0) (t.val / 13)) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = X0_1 m c t := before0_1_of m (dats m 0 c) (A_eq m c 1) (after1 m c) t d
theorem before2 (c : Dev nD) (t : Fin cfg0.N) (d) : (dats m 0 c).before 2 t d = X0_2 m c t := before0_2_of m (dats m 0 c) (A_eq m c 2) (after2 m c) t d
theorem before3 (c : Dev nD) (t : Fin cfg0.N) (d) : (dats m 0 c).before 3 t d = X0_3 m c t := before0_3_of m (dats m 0 c) (A_eq m c 3) (after3 m c) t d
theorem before4 (c : Dev nD) (t : Fin cfg0.N) (d) : (dats m 0 c).before 4 t d = X0_4 m c t := before0_4_of m (dats m 0 c) (A_eq m c 4) (after4 m c) t d

/-- What is moved of the last weight block, whatever the rest. -/
theorem block5 (c : Dev nD) (t : Fin cfg0.N) : (dats m 0 c).blockOf 5 t = iblk m c 5 t := by
  unfold Dat.blockOf iblk; rw [A_eq]

theorem cut5 (c : Dev nD) (t : Fin cfg0.N) (d) : (cfg0.win 5).cut (cfg0.grid.coords t) (fill5 m c t d) = iblk m c 5 t := by
  unfold fill5; rw [Pipeline.Window.cut_fill]

theorem before5 (c : Dev nD) (t : Fin cfg0.N) (d) : (dats m 0 c).before 5 t d = fill5 m c t d :=
  ((dats m 0 c).before_in_eq_fetched 5 rfl (fun _ => rfl)
      (fun t t' h => funext fun a => congrArg (fun n => Pipeline.Clip.of n ((cfg0.win 5).size a) (S2x13856x2048.size a)) (congrFun h a))
      (fun t => by rw [after5, cut5, block5]) t d).trans
    (by unfold Dat.fetched fill5; rw [block5])

/-- The windows' buffers before the body. -/
def bufs (c : Dev nD) (t : Fin cfg0.N) : sProp 𝕄 :=
  iprop((∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)))

/-- An input's buffer after the body: its moved part, over some contents. -/
def left (c : Dev nD) (t : Fin cfg0.N) (w : Fin cfg0.W) : sProp 𝕄 :=
  iprop(∃ d, owns (c : Thread nD τ) ((cfg0.win w).stage (cfg0.slots t w)) fullShare
    ((cfg0.win w).fill (cfg0.grid.coords t) d ((cfg0.win w).cut (cfg0.grid.coords t) ((dats m 0 c).after w t))))

theorem left_intro (c : Dev nD) (t : Fin cfg0.N) (w : Fin cfg0.W) :
    owns (c : Thread nD τ) ((cfg0.win w).stage (cfg0.slots t w)) fullShare ((dats m 0 c).after w t) ⊢ left m c t w := by
  unfold left
  iintro H
  iexists (dats m 0 c).after w t
  rw [(cfg0.win w).fill_cut]
  iexact H

theorem left5_intro (c : Dev nD) (t : Fin cfg0.N) (d) :
    owns (c : Thread nD τ) (st0_5 t) fullShare (fill5 m c t d) ⊢ left m c t 5 := by
  unfold left
  iintro H
  iexists d
  rw [after5, cut5]
  unfold fill5
  iexact H

/-- The windows' buffers after the body. -/
def bufs' (c : Dev nD) (t : Fin cfg0.N) : sProp 𝕄 :=
  iprop(owns (c : Thread nD τ) (st0_0 t) fullShare ((dats m 0 c).after 0 t) ∗ left m c t 1 ∗ left m c t 2 ∗ left m c t 3 ∗ left m c t 4 ∗ left m c t 5
    ∗ owns (c : Thread nD τ) (st0_6 t) fullShare ((dats m 0 c).after 6 t))

theorem l1 (c : Dev nD) (t : Fin cfg0.N) : owns (c : Thread nD τ) (st0_1 t) fullShare (X0_1 m c t) ⊢ left m c t 1 := by
  rw [← after1]; exact left_intro m c t 1
theorem l2 (c : Dev nD) (t : Fin cfg0.N) : owns (c : Thread nD τ) (st0_2 t) fullShare (X0_2 m c t) ⊢ left m c t 2 := by
  rw [← after2]; exact left_intro m c t 2
theorem l3 (c : Dev nD) (t : Fin cfg0.N) : owns (c : Thread nD τ) (st0_3 t) fullShare (X0_3 m c t) ⊢ left m c t 3 := by
  rw [← after3]; exact left_intro m c t 3
theorem l4 (c : Dev nD) (t : Fin cfg0.N) : owns (c : Thread nD τ) (st0_4 t) fullShare (X0_4 m c t) ⊢ left m c t 4 := by
  rw [← after4]; exact left_intro m c t 4

theorem sound_body (c : Dev nD) (t : Fin cfg0.N) :
    iprop((dats m 0 c).Φ t.castSucc ∗ (dats m 0 c).owesAt () t.castSucc ∗ bufs m c t)
      ⊢ wp frame (wpE (defs₀ (F := Ideal)) Variants.none c none) Set.univ (bodyAt0 t) (fun _ => iprop((dats m 0 c).Φ t.succ ∗ (dats m 0 c).owesAt () t.succ ∗ bufs' m c t)) := by
  unfold bufs bufs' bodyAt0
  simp only [before0, before1, before2, before3, before4, before5]
  rw [show (dats m 0 c).owesAt () t.succ = (dats m 0 c).owesAt () t.castSucc from rfl, after0, after6]
  rw [show (dats m 0 c).Φ t.succ
    = iprop(iprop(owns (c : Thread nD τ) scM fullShare (wS (V m c main_v0) (t.val / 13))) ∗ (∃ r, prngReg c r)) from rfl]
  have hN := lt_N t
  rw [Inv_castSucc m c t]
  by_cases h0 : t.val % 13 = 0
  · have hI := Inv_any m c t.val (Nat.le_of_lt t.isLt)
    rw [PhiA_eq] at hI
    refine (BI.sep_mono hI (Idealize.SL.BI.Entails.refl _)).trans ?_
    show iprop(iprop((∃ d, owns (c : Thread nD τ) scM fullShare d) ∗ (∃ r, prngReg c r)) ∗ _) ⊢ _
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ ((hfirst t).mpr h0) (iblk m c 0 t) (X0_1 m c t) (X0_2 m c t) (X0_3 m c t) (X0_4 m c t) (fill5 m c t d5) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    rw [cast_point]
    iintro ⟨H0, H1, H2, H3, H4, H5, H6, HS⟩
    isplitl [HS Hg]
    · isplitl [HS]
      · iexact HS
      iexact Hg
    isplitl [Ho]; · iexact Ho
    isplitl [H0]; · iexact H0
    isplitl [H1]; · iapply (l1 m c t); iexact H1
    isplitl [H2]; · iapply (l2 m c t); iexact H2
    isplitl [H3]; · iapply (l3 m c t); iexact H3
    isplitl [H4]; · iapply (l4 m c t); iexact H4
    isplitl [H5]; · iapply (left5_intro m c t d5); iexact H5
    iexact H6
  · rw [Inv_pos m c _ _ (fun h => h0 (by rw [h])), show (t.val - 1) / 13 = t.val / 13 by omega]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_next c (grid0.coords t) _ _ _ _ _ _ _ _ _ _ _ _ _ _ _ _ (fun h => h0 ((hfirst t).mp h)) (iblk m c 0 t) (X0_1 m c t) (X0_2 m c t) (X0_3 m c t) (X0_4 m c t) (fill5 m c t d5) (wS (V m c main_v0) (t.val / 13)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iapply (l1 m c t); iexact H1
    isplitl [H2]; · iapply (l2 m c t); iexact H2
    isplitl [H3]; · iapply (l3 m c t); iexact H3
    isplitl [H4]; · iapply (l4 m c t); iexact H4
    isplitl [H5]; · iapply (left5_intro m c t d5); iexact H5
    iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  refine triple_restated (sound_body m c t) (congrArg _ (defs₀_row t).symm) ?_ fun _ => ?_
  · rw [bigSep_W0]
    exact .rfl
  · rw [bigSep_W0]
    exact .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl]
  exact Inv_any m c _ _

set_option backward.isDefEq.respectTransparency.types false in
theorem run_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_quiescent m ρ)

/-- The run: the arguments unchanged, every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

/-! ## The value -/

theorem wS_apply (A : Vec Ideal S2x13856x2048 .f32) (b : ℕ) (r : Fin 1024) (k : Fin 2048) :
    wS A b (ix2 r k) = A (ix3 0 (col (5664 + (1024 * b + r.val))) k) := rfl

theorem iblk0_apply (c : Dev nD) (t : Fin cfg0.N) (r : Fin 1280) (k : Fin 2048) : iblk m c 0 t (ix2 r k)
    = V m c main_arg0 (ix2 ⟨(t.val % 13) * 1280 + r.val, by omega⟩ k) := by
  have e := idx0 t
  blk_simp [iblk]
  refine congrArg (V m c main_arg0) ?_
  blk_ext [e]

theorem V_main_v0_apply (c : Dev nD) (j : Fin 13856) (k : Fin 2048) :
    V m c main_v0 (ix3 0 j k) = m ((c : Thread nD τ).loc main_arg1) (ix3 0 k j) := by
  have h : V m c main_v0 = transpose S2x13856x2048 [0, 2, 1] (m ((c : Thread nD τ).loc main_arg1)) transposes_S2x2048x13856_S2x13856x2048_0_2_1 := by
    unfold V hostOps0; after_results
  rw [h]
  pointwise

theorem point_eq (c : Dev nD) (t : Fin cfg0.N) (r : Fin 1280) (j : Fin 1024) :
    prodB (iblk m c 0 t) (wS (V m c main_v0) (t.val / 13)) (ix2 r j)
      = proj (n := 8192) 5664 (V m c main_arg0) (m ((c : Thread nD τ).loc main_arg1))
          (ix2 ⟨(t.val % 13) * 1280 + r.val, by omega⟩ (⟨(t.val / 13) * 1024 + j.val, by have := lt_N t; omega⟩ : Fin 8192)) := by
  rw [prodB_apply]
  simp only [iblk0_apply m c t r, wS_apply]
  unfold proj prod
  rw [show 1024 * (t.val / 13) + j.val = (t.val / 13) * 1024 + j.val by omega]
  exact Finset.sum_congr rfl fun k _ => congrArg _ (V_main_v0_apply m c _ k)

/-- The result array after the run. -/
theorem final_o (c : Dev nD) : (dats m 0 c).arrAt 6 cfg0.N = proj (n := 8192) 5664 (V m c main_arg0) (m ((c : Thread nD τ).loc main_arg1)) := by
  refine (dats m 0 c).arrAt_eq_of_covers 6 _ (by decide +kernel) fun t hf y => ?_
  blk_simp
  rw [after6]
  have e := idx6 t
  have hN := lt_N t
  have hy0 : (y 0).val < 1280 := (y 0).isLt
  have hy1 : (y 1).val < 1024 := (y 1).isLt
  have e0 : ((win0_6.blk t).view.emb y 0).val = (t.val % 13) * 1280 + (y 0).val := by blk_simp [e]
  have e1 : ((win0_6.blk t).view.emb y 1).val = (t.val / 13) * 1024 + (y 1).val := by blk_simp [e]
  have ey : (win0_6.blk t).view.emb y = ix2 ⟨(t.val % 13) * 1280 + (y 0).val, by omega⟩ ⟨(t.val / 13) * 1024 + (y 1).val, by omega⟩ :=
    ix2_of _ _ _ e0 e1
  exact (congrArg _ (ix2_of y ⟨(y 0).val, hy0⟩ ⟨(y 1).val, hy1⟩ rfl rfl)).trans ((point_eq m c t _ _).trans (congrArg _ ey.symm))

/-- The run: the result array of the argument arrays, which end unchanged. -/
theorem value : θ_run defs (onTc (τ := τ) (main (F := Ideal))) ⟨m, fun _ => 0, ρ⟩ fun r => ∀ c : Dev nD,
      r.2.mem ((c : Thread nD τ).loc main_v1) = proj (n := 8192) 5664 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 6).trans ((final_o m c).trans (by rw [V_main_arg0])), h.2 c⟩)
    (θ_run_and (run_main m ρ) (frame_of m ρ (dats m) (A_eq m) (run_main m ρ)))

end Cert.GatesIdeal.Val

end
-- ==== Proof.GatesRef.lean ====
/-
  The reference of the projection to the recurrence's gates: its result array at every index.
-/
module

public import proofs.«01_k».proof.Proof.Gen.GatesRefIdeal.Run
public import proofs.«01_k».proof.Proof.Dense

@[expose] public section

set_option maxRecDepth 16384

noncomputable section

namespace Cert.GatesRefIdeal.Val

open Cert.GatesRefIdeal Cert.GatesRefIdeal.Gen
open Cert.Dense Idealize.ShloMosaic Idealize.ShloMosaic.TcCoe Idealize.SL.Sem

/-- The product, over all rows and columns. -/
theorem dot_apply (A : Vec Ideal S16640x2048 .bf16) (W : Vec Ideal S2x2048x13856 .f32) (i : Fin 16640) (j : Fin 13856) :
    Host.dotGeneral (F := Ideal) (φ₁ := .f32) (φ₂ := .f32) dot_S16640x2048_S2048x13856_S16640x13856_1_0_0_1_n_n none (extf .f32 A bitsLt_bf16_f32)
      (shapeCast _ (extractStridedSlice S1x2048x13856 ![0, 0, 0] W slices_S2x2048x13856_S1x2048x13856_0_0_0) shapeCasts_S1x2048x13856_S2048x13856) (ix2 i j)
      = prod A W i j := by
  pointwise
  rfl

/-- Its columns, cast. -/
theorem ref_eq (Y : Vec Ideal S16640x13856 .f32) (A : Vec Ideal S16640x2048 .bf16) (W : Vec Ideal S2x2048x13856 .f32) (hY : ∀ i j, Y (ix2 i j) = prod A W i j) :
    truncf (F := Ideal) .bf16 (extractStridedSlice S16640x8192 ![0, 5664] Y slices_S16640x13856_S16640x8192_0_5664) bitsLt_bf16_f32 = proj (n := 8192) 5664 A W := by
  funext y
  rw [ix2_of y (y 0) (y 1) rfl rfl]
  generalize y 0 = i
  generalize y 1 = j
  have hj : j.val < 8192 := j.isLt
  pointwise
  refine Eq.trans (congrArg Y ?_) (hY i (col (5664 + j.val)))
  refine ix2_of _ _ _ ?_ ?_
  · rfl
  · show _ = (5664 + j.val) % 13856
    dsimp
    omega

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = proj (n := 8192) 5664 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq _ _ _ (dot_apply _ _)), (h c).2⟩) (Cert.GatesRefIdeal.Value.run m ρ)

end Cert.GatesRefIdeal.Val

end
-- ==== Proof.RowNorm.lean ====
/-
  What the norms have in common: a row by the reciprocal root of the mean of its squares, with a gain, a shift and a
  scale; and 256 rows of it as the kernels compute them.
-/
module

public import proofs.«01_k».proof.Proof.Gen.FinalIdeal.Skeleton
public import proofs.«01_k».proof.Proof.Dense
public import Idealize.ShloMosaic.Lib.Pipeline.Value
public import Idealize.ShloMosaic.Lib.Pointwise

@[expose] public section

set_option maxRecDepth 16384

noncomputable section

namespace Cert.RowNorm

open Cert.FinalIdeal Cert.FinalIdeal.Gen Cert.Dense Idealize.ShloMosaic
open scoped BigOperators

/-- The reciprocal root of the mean of a row's squares and a small constant. -/
def inv (x : Fin 2048 → EReal) : EReal :=
  Ideal.rsqrt (Ideal.div (∑ k, x k * x k) (Ideal.ofBits .f32 0x45000000#32) + Ideal.ofBits .f32 0x358637BD#32)

variable {R : ℕ}

/-- Row `i` normalised, with the gain, at column `j`. -/
def norm (H : (⟨2, ![R, 2048]⟩ : Shape).Idx → EReal) (G : (⟨1, ![2048]⟩ : Shape).Idx → EReal) (i : Fin R) (j : Fin 2048) : EReal :=
  H (ix2 i j) * inv (fun k => H (ix2 i k)) * G (ix1 j)

/-- The same, scaled and shifted: one scale and shift for the latent rows, one for the context rows. -/
def modulated (H : (⟨2, ![R, 2048]⟩ : Shape).Idx → EReal) (G : (⟨1, ![2048]⟩ : Shape).Idx → EReal)
    (T S : (⟨2, ![2, 2048]⟩ : Shape).Idx → EReal) (i : Fin R) (j : Fin 2048) : EReal :=
  norm H G i j * (1 + (if i.val < 16384 then S (ix2 0 j) else S (ix2 1 j))) + (if i.val < 16384 then T (ix2 0 j) else T (ix2 1 j))

/-- All the rows. -/
def result (H : (⟨2, ![16640, 2048]⟩ : Shape).Idx → EReal) (G : (⟨1, ![2048]⟩ : Shape).Idx → EReal)
    (T S : (⟨2, ![2, 2048]⟩ : Shape).Idx → EReal) : (⟨2, ![16640, 2048]⟩ : Shape).Idx → EReal :=
  fun y => modulated H G T S (y 0) (y 1)

section

variable {F : FTy → Type} [FloatOps F]

/-- One of the two scales or shifts, as the bodies read it, -/
abbrev half0 (x : Vec F S2x1x2048 .f32) : Vec F S1x1x2048 .f32 := View.ld x (Rect.unit ![0, 0, 0] ![1, 1, 2048] inb_S2x1x2048_S1x1x2048_0_0_0)

/-- the other one, -/
abbrev half1 (x : Vec F S2x1x2048 .f32) : Vec F S1x1x2048 .f32 := View.ld x (Rect.unit ![1, 0, 0] ![1, 1, 2048] inb_S2x1x2048_S1x1x2048_1_0_0)

/-- the gain, -/
abbrev gain (x : Vec F S1x2048 .f32) : Vec F S1x2048 .f32 := View.ld x (Rect.unit ![0, 0] ![1, 2048] inb_S1x2048_S1x2048_0_0)

/-- and the 256 rows that a body computes at a time: latent ones under `l`, any rows at all under `n`. -/
def rows (x : Vec F S256x2048 .f32) (l n : BitVec 1) (g : Vec F S1x2048 .f32) (t s : Vec F S2x1x2048 .f32) : Vec F S256x2048 .f32 :=
  k0_pay1 x l n (k0_pay12 (gain g)) (k0_pay13 (half0 s)) (half1 s) (half0 t) (half1 t)

end

theorem ix3_of {a b c : ℕ} (y : (⟨3, ![a, b, c]⟩ : Shape).Idx) (i : Fin a) (j : Fin b) (k : Fin c) (h0 : (y 0).val = i.val) (h1 : (y 1).val = j.val)
    (h2 : (y 2).val = k.val) : y = ix3 i j k := by
  funext q
  refine Fin.ext ?_
  match q with
  | ⟨0, _⟩ => exact h0
  | ⟨1, _⟩ => exact h1
  | ⟨2, _⟩ => exact h2

theorem half0_apply (x : Vec Ideal S2x1x2048 .f32) (j : Fin 2048) : half0 x (ix3 0 0 j) = x (ix3 0 0 j) := by
  refine congrArg x (ix3_of _ _ _ _ rfl rfl ?_)
  show 0 + 1 * j.val = j.val
  omega

theorem half1_apply (x : Vec Ideal S2x1x2048 .f32) (j : Fin 2048) : half1 x (ix3 0 0 j) = x (ix3 1 0 j) := by
  refine congrArg x (ix3_of _ _ _ _ rfl rfl ?_)
  show 0 + 1 * j.val = j.val
  omega

theorem gain_apply (x : Vec Ideal S1x2048 .f32) (j : Fin 2048) : gain x (ix2 0 j) = x (ix2 0 j) := by
  refine congrArg x (ix2_of _ _ _ rfl ?_)
  show 0 + 1 * j.val = j.val
  omega

theorem cast_apply (x : Vec Ideal S1x1x2048 .f32) (j : Fin 2048) : shapeCast S1x2048 x shapeCasts_S1x1x2048_S1x2048 (ix2 0 j) = x (ix3 0 0 j) := by
  pointwise

theorem select_apply (l : Bool) (x y : Vec Ideal S1x1x2048 .f32) (j : Fin 2048) :
    (if l = true then shapeCast S1x2048 x shapeCasts_S1x1x2048_S1x2048 else shapeCast S1x2048 y shapeCasts_S1x1x2048_S1x2048) (ix2 0 j)
      = if l = true then x (ix3 0 0 j) else y (ix3 0 0 j) := by
  cases l
  · exact cast_apply y j
  · exact cast_apply x j

theorem pay_apply (x : Vec Ideal S256x2048 .f32) (l : Bool) (g : Vec Ideal S1x2048 .f32) (s0 s1 t0 t1 : Vec Ideal S1x1x2048 .f32) (r : Fin 256) (j : Fin 2048) :
    k0_pay1 x (BitVec.ofBool l) 1#1 (k0_pay12 g) (k0_pay13 s0) s1 t0 t1 (ix2 r j)
      = x (ix2 r j) * inv (fun k => x (ix2 r k)) * (g (ix2 0 j) * (1 + (if l then s0 (ix3 0 0 j) else s1 (ix3 0 0 j)))) + (if l then t0 (ix3 0 0 j) else t1 (ix3 0 0 j)) := by
  unfold k0_pay1 k0_pay12 k0_pay13
  pointwise
  exact congrArg₂ (fun a b : EReal => x (ix2 r j) * inv (fun k => x (ix2 r k)) * (g (ix2 0 j) * (1 + a)) + b) (select_apply l s0 s1 j) (select_apply l t0 t1 j)

theorem rows_apply (x : Vec Ideal S256x2048 .f32) (l : Bool) (g : Vec Ideal S1x2048 .f32) (t s : Vec Ideal S2x1x2048 .f32) (r : Fin 256) (j : Fin 2048) :
    rows x (BitVec.ofBool l) 1#1 g t s (ix2 r j)
      = x (ix2 r j) * inv (fun k => x (ix2 r k)) * (g (ix2 0 j) * (1 + (if l then s (ix3 0 0 j) else s (ix3 1 0 j)))) + (if l then t (ix3 0 0 j) else t (ix3 1 0 j)) := by
  unfold rows
  rw [pay_apply, gain_apply, half0_apply, half1_apply, half0_apply, half1_apply]

end Cert.RowNorm

end
-- ==== Proof.FinalValue.lean ====
/-
  The last norm: what the kernel's result array holds.
-/
module

public import proofs.«01_k».proof.Proof.Gen.FinalIdeal.Frame
public import proofs.«01_k».proof.Proof.RowNorm
public import Idealize.ShloMosaic.Lib.Claim
public import Idealize.ShloMosaic.Lib.Pipeline.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.FinalIdeal.Val

open Cert.FinalIdeal Cert.FinalIdeal.Gen
open Cert.Dense Cert.RowNorm Idealize.ShloMosaic Idealize.ShloMosaic.TcCoe Idealize.ShloMosaic.Tactic
open Idealize.SL.Sem

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)
theorem lt_N (t : Fin cfg0.N) : t.val < 16 := lt_of_lt_of_eq t.isLt (show cfg0.N = 16 from N_0)

/-- The body's comparisons: rows from `o` on in the block at `b` are latent ones, -/
abbrev lat (b o : BitVec 32) : BitVec 1 := Scalar.cmpi .slt (Scalar.addi (Scalar.muli b 1024#32) o) 16384#32

/-- and rows at all. -/
abbrev row (b o : BitVec 32) : BitVec 1 :=
  Scalar.andi (Scalar.cmpi .sge (Scalar.addi (Scalar.muli b 1024#32) o) 0#32) (Scalar.cmpi .slt (Scalar.addi (Scalar.muli b 1024#32) o) 16640#32)

theorem bits : ∀ (b : Fin 16) (q : Fin 4), lat (BitVec.ofNat 32 b.val) (BitVec.ofNat 32 (256 * q.val)) = BitVec.ofBool true ∧ row (BitVec.ofNat 32 b.val) (BitVec.ofNat 32 (256 * q.val)) = 1#1 := by
  decide +kernel

theorem co0 : ∀ t : Fin cfg0.N, (grid0.coords t 0).val = t.val := (by decide +kernel : ∀ t : Fin grid0.N, _)

section

variable {F : FTy → Type} [FloatOps F]

/-- A quarter of a block. -/
abbrev part (o : ℕ) (inb : ∀ a, (![o, 0] : Fin 2 → ℕ) a + (![256, 2048] : Fin 2 → ℕ) a ≤ S1024x2048.size a) : Rect S1024x2048 :=
  Rect.unit ![o, 0] ![256, 2048] inb

/-- What the body stores there, -/
def piece (b : ℕ) (x : Vec F S1024x2048 .f32) (g : Vec F S1x2048 .f32) (t s : Vec F S2x1x2048 .f32) (o : ℕ)
    (inb : ∀ a, (![o, 0] : Fin 2 → ℕ) a + (![256, 2048] : Fin 2 → ℕ) a ≤ S1024x2048.size a) : View.Piece (Elt F) S1024x2048 .f32 :=
  ⟨part o inb, rows (View.ld x (part o inb)) (lat (BitVec.ofNat 32 b) (BitVec.ofNat 32 o)) (row (BitVec.ofNat 32 b) (BitVec.ofNat 32 o)) g t s⟩

/-- and all its stores. -/
def pieces (b : ℕ) (x : Vec F S1024x2048 .f32) (g : Vec F S1x2048 .f32) (t s : Vec F S2x1x2048 .f32) : List (View.Piece (Elt F) S1024x2048 .f32) :=
  [piece b x g t s 768 inb_S1024x2048_S256x2048_768_0, piece b x g t s 512 inb_S1024x2048_S256x2048_512_0,
    piece b x g t s 256 inb_S1024x2048_S256x2048_256_0, piece b x g t s 0 inb_S1024x2048_S256x2048_0_0]

variable (m : (ℓ : Loc nD τ sig) → Buf (Elt F) ℓ) (ρ : Dev nD → PrngReg)

theorem run_pieces (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (X0_0 m c t) (iblk m c 1 t) (iblk m c 2 t) (iblk m c 3 t)).1
      = pieces (grid0.coords t 0).val (X0_0 m c t) (iblk m c 1 t) (iblk m c 2 t) (iblk m c 3 t) := by
  unfold kernelRun0_A
  dsimp only
  sl_unfold_words
  simp only [View.readAt_eq_ld, (hs0_0 t).read_unread, (hs0_1 t).read_unread, (hs0_2 t).read_unread, (hs0_3 t).read_unread]
  rfl

theorem out_eq (c : Dev nD) (t : Fin cfg0.N) :
    outsAt0 m c t = View.canon (pieces (grid0.coords t 0).val (X0_0 m c t) (iblk m c 1 t) (iblk m c 2 t) (iblk m c 3 t)) := by
  unfold outsAt0 out0_A_4
  rw [View.read_writes_eq_canon _ _ _ (cover0_A_4 c _ _ _ _ _ _ _ _ _ _ _ _ _ _ _), run_pieces]

theorem cover (c : Dev nD) (t : Fin cfg0.N) (y : S1024x2048.Idx) :
    ∃ p ∈ pieces (grid0.coords t 0).val (X0_0 m c t) (iblk m c 1 t) (iblk m c 2 t) (iblk m c 3 t), y ∈ p.1.set := by
  rw [← run_pieces]
  exact cover0_A_4 c _ _ _ _ _ _ _ _ _ _ _ _ _ _ _ y

theorem X0_eq (c : Dev nD) (t : Fin cfg0.N) (r : Fin 1024) (k : Fin 2048) :
    X0_0 m c t (ix2 r k) = V m c main_arg0 (ix2 ⟨t.val * 1024 + r.val, by have := lt_N t; omega⟩ k) := by
  have e := idx0 t
  have hN := lt_N t
  unfold X0_0 Pipeline.Window.fill
  rw [dif_pos (moved0_0 t _)]
  blk_simp [iblk]
  refine congrArg (V m c main_arg0) ?_
  blk_ext [e]

end

section

variable (m : (ℓ : Loc nD τ sig) → Buf (Elt Ideal) ℓ) (ρ : Dev nD → PrngReg)

/-! ## Over the extended reals -/

/-- A row of a block, from the block's rows and the gain. -/
def bval (x : Vec Ideal S1024x2048 .f32) (g : Vec Ideal S1x2048 .f32) (r : Fin 1024) (j : Fin 2048) : EReal :=
  x (ix2 r j) * inv (fun k => x (ix2 r k)) * g (ix2 0 j)

theorem piece_apply (b : Fin 16) (x : Vec Ideal S1024x2048 .f32) (g : Vec Ideal S1x2048 .f32) (t s : Vec Ideal S2x1x2048 .f32)
    (ht : t = fun _ => (0 : EReal)) (hs : s = fun _ => (0 : EReal)) (o : ℕ) (inb) (q : Fin 4) (ho : o = 256 * q.val)
    (y : S256x2048.Idx) : (piece b.val x g t s o inb).2 y = bval x g ⟨o + (y 0).val, by have : (y 0).val < 256 := (y 0).isLt; have := q.isLt; omega⟩ (y 1) := by
  have hy : ∀ (k : Fin 2048), View.ld x (part o inb) (ix2 (y 0 : Fin 256) k) = x (ix2 ⟨o + (y 0).val, by have : (y 0).val < 256 := (y 0).isLt; have := q.isLt; omega⟩ k) := fun k => by
    refine congrArg x (ix2_of _ _ _ ?_ ?_)
    · show o + 1 * (y 0).val = o + (y 0).val
      omega
    · show 0 + 1 * k.val = k.val
      omega
  have e : y = ix2 (y 0 : Fin 256) (y 1 : Fin 2048) := ix2_of y _ _ rfl rfl
  obtain ⟨h1, h2⟩ := ho ▸ bits b q
  show rows (View.ld x (part o inb)) (lat (BitVec.ofNat 32 b.val) (BitVec.ofNat 32 o)) (row (BitVec.ofNat 32 b.val) (BitVec.ofNat 32 o)) g t s y = _
  rw [h1, h2]
  refine (congrArg _ e).trans ((rows_apply _ true g t s _ _).trans ?_)
  rw [ht, hs]
  simp only [hy, if_true, add_zero, mul_one]
  exact congrArg (fun a => a * inv (fun k => x (ix2 ⟨o + (y 0).val, _⟩ k)) * g (ix2 0 (y 1))) (hy (y 1))

theorem block_eq (b : Fin 16) (x : Vec Ideal S1024x2048 .f32) (g : Vec Ideal S1x2048 .f32) (t s : Vec Ideal S2x1x2048 .f32)
    (ht : t = fun _ => (0 : EReal)) (hs : s = fun _ => (0 : EReal)) (y : S1024x2048.Idx) (hy : ∃ p ∈ pieces b.val x g t s, y ∈ p.1.set) :
    View.canon (pieces b.val x g t s) y = bval x g (y 0) (y 1) := by
  refine View.canon_apply_of_pieces (Val := Elt Ideal) (e := .f32) (fun y : S1024x2048.Idx => bval x g (y 0) (y 1)) _ (fun p hp z => ?_) y hy
  have key : ∀ (o : ℕ) (inb) (q : Fin 4) (ho : o = 256 * q.val) (z : S256x2048.Idx),
      (piece b.val x g t s o inb).2 z = bval x g ((part o inb).emb z 0) ((part o inb).emb z 1) := fun o inb q ho z => by
    refine (piece_apply b x g t s ht hs o inb q ho z).trans (congrArg₂ (bval x g) (Fin.ext ?_) (Fin.ext ?_))
    · show o + (z 0).val = o + 1 * (z 0).val
      omega
    · show (z 1).val = 0 + 1 * (z 1).val
      omega
  unfold pieces at hp
  simp only [List.mem_cons, List.not_mem_nil, or_false] at hp
  rcases hp with rfl | rfl | rfl | rfl
  · exact key 768 _ 3 rfl z
  · exact key 512 _ 2 rfl z
  · exact key 256 _ 1 rfl z
  · exact key 0 _ 0 rfl z

theorem iblk1_apply (c : Dev nD) (t : Fin cfg0.N) (j : Fin 2048) : iblk m c 1 t (ix2 0 j) = V m c main_v1 (ix2 0 j) := by
  have e := idx1 t
  blk_simp [iblk]
  refine congrArg (V m c main_v1) ?_
  blk_ext [e]

theorem iblk2_eq (c : Dev nD) (t : Fin cfg0.N) : iblk m c 2 t = fun _ => (0 : EReal) := by
  funext y
  have h : V m c main_v2 = fun _ => (0 : EReal) := by
    unfold V hostOps0
    after_results
    funext z
    exact Ideal.ofBits_zero .f32
  blk_simp [iblk]
  exact congrFun h _

theorem iblk3_eq (c : Dev nD) (t : Fin cfg0.N) : iblk m c 3 t = fun _ => (0 : EReal) := by
  funext y
  have h : V m c main_v3 = fun _ => (0 : EReal) := by
    unfold V hostOps0
    after_results
    funext z
    exact Ideal.ofBits_zero .f32
  blk_simp [iblk]
  exact congrFun h _

theorem V_main_v1_apply (c : Dev nD) (j : Fin 2048) : V m c main_v1 (ix2 0 j) = m ((c : Thread nD τ).loc main_arg1) (ix1 j) := by
  have h : V m c main_v1 = shapeCast S1x2048 (m ((c : Thread nD τ).loc main_arg1)) shapeCasts_S2048_S1x2048 := by
    unfold V hostOps0; after_results; rfl
  rw [h]
  pointwise

/-- The latent rows, normalised. -/
def latent (H : Vec Ideal S16640x2048 .f32) (G : Vec Ideal S2048 .f32) : Vec Ideal S16384x2048 .f32 :=
  fun y => RowNorm.norm H G ⟨(y 0).val, by have : (y 0).val < 16384 := (y 0).isLt; omega⟩ (y 1)

theorem point_eq (c : Dev nD) (t : Fin cfg0.N) (y : S1024x2048.Idx) :
    outsAt0 m c t y = RowNorm.norm (V m c main_arg0) (m ((c : Thread nD τ).loc main_arg1))
      ⟨t.val * 1024 + (y 0).val, by have := lt_N t; have : (y 0).val < 1024 := (y 0).isLt; omega⟩ (y 1) := by
  rw [out_eq]
  have hb : (grid0.coords t 0).val < 16 := (co0 t).symm ▸ lt_N t
  refine (block_eq ⟨_, hb⟩ _ _ _ _ (iblk2_eq m c t) (iblk3_eq m c t) y (cover m c t y)).trans ?_
  unfold bval RowNorm.norm
  exact congrArg₂ (· * ·) (congrArg₂ (fun a b => a * inv b) (X0_eq m c t _ _) (funext fun k => X0_eq m c t _ k)) ((iblk1_apply m c t _).trans (V_main_v1_apply m c _))

/-- The result array after the run. -/
theorem final_o (c : Dev nD) : (dats m 0 c).arrAt 4 cfg0.N = latent (V m c main_arg0) (m ((c : Thread nD τ).loc main_arg1)) := by
  refine (dats m 0 c).arrAt_eq_of_covers 4 _ (by decide +kernel) fun t hf y => ?_
  blk_simp
  rw [after0_4]
  refine (point_eq m c t y).trans ?_
  have e := idx4 t
  have hN := lt_N t
  have e0 : ((win0_4.blk t).view.emb y 0).val = t.val * 1024 + (y 0).val := by blk_simp [e]
  have e1 : ((win0_4.blk t).view.emb y 1).val = (y 1).val := by blk_simp [e]
  unfold latent
  exact congrArg₂ (RowNorm.norm _ _) (Fin.ext e0.symm) (Fin.ext e1.symm)

/-- The run: the result array of the argument arrays, which end unchanged. -/
theorem value : θ_run defs (onTc (τ := τ) (main (F := Ideal))) ⟨m, fun _ => 0, ρ⟩ fun r => ∀ c : Dev nD,
      r.2.mem ((c : Thread nD τ).loc main_v4) = latent (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 4).trans ((final_o m c).trans (by rw [V_main_arg0])), h.2 c⟩)
    (θ_run_and (run_main m ρ) (frame_of m ρ (dats m) (A_eq m) (run_main m ρ)))

end

end Cert.FinalIdeal.Val

end
-- ==== Proof.FinalRef.lean ====
/-
  The reference of the last norm: its result array at every index.
-/
module

public import proofs.«01_k».proof.Proof.Gen.FinalRefIdeal.Run
public import proofs.«01_k».proof.Proof.FinalValue

@[expose] public section

set_option maxRecDepth 16384

noncomputable section

namespace Cert.FinalRefIdeal.Val

open Cert.FinalRefIdeal Cert.FinalRefIdeal.Gen
open Cert.Dense Cert.RowNorm Idealize.ShloMosaic Idealize.ShloMosaic.TcCoe Idealize.SL.Sem

/-- The reciprocal roots, one for each latent row. -/
theorem inv_apply (H : Vec Ideal S16640x2048 .f32) (i : Fin 16384) :
    Host.rsqrt (F := Ideal) (φ := .f32) (addf (Host.divf (broadcastInDim S16384x1 ![0] bcast_S16384_S16384x1_0 (Host.reduceAdd (mulf (extractStridedSlice S16384x2048 ![0, 0] H slices_S16640x2048_S16384x2048_0_0) (extractStridedSlice S16384x2048 ![0, 0] H slices_S16640x2048_S16384x2048_0_0)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32))) (ix2 i 0)
      = inv (fun k => H (ix2 ⟨i.val, by omega⟩ k)) := by
  pointwise
  rfl

/-- The rows, of the reciprocal roots. -/
theorem ref_eq (H : Vec Ideal S16640x2048 .f32) (G : Vec Ideal S2048 .f32) (q : Vec Ideal S16384x1 .f32)
    (hq : ∀ i : Fin 16384, q (ix2 i 0) = inv (fun k => H (ix2 ⟨i.val, by omega⟩ k))) :
    mulf (F := Ideal) (φ := .f32) (mulf (extractStridedSlice S16384x2048 ![0, 0] H slices_S16640x2048_S16384x2048_0_0) (broadcastInDim S16384x2048 ![0, 1] bcast_S16384x1_S16384x2048_0_1 q)) (broadcastInDim S16384x2048 ![0, 1] bcast_S1x2048_S16384x2048_0_1 (broadcastInDim S1x2048 ![1] bcast_S2048_S1x2048_1 G))
      = Cert.FinalIdeal.Val.latent H G := by
  funext y
  rw [ix2_of y (y 0) (y 1) rfl rfl]
  generalize y 0 = i
  generalize y 1 = j
  pointwise
  exact congrArg (fun z => H (ix2 ⟨i.val, _⟩ j) * z * G (ix1 j)) (hq i)

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Cert.FinalIdeal.Val.latent (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq _ _ _ (inv_apply _)), (h c).2⟩) (Cert.FinalRefIdeal.Value.run m ρ)

end Cert.FinalRefIdeal.Val

end
-- ==== Proof.NormValue.lean ====
/-
  A layer's norm: what the kernel's result array holds.
-/
module

public import proofs.«01_k».proof.Proof.Gen.NormIdeal.Frame
public import proofs.«01_k».proof.Proof.RowNorm
public import Idealize.ShloMosaic.Lib.Claim
public import Idealize.ShloMosaic.Lib.Pipeline.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.NormIdeal.Val

open Cert.NormIdeal Cert.NormIdeal.Gen
open Cert.Dense Cert.RowNorm Idealize.ShloMosaic Idealize.ShloMosaic.TcCoe Idealize.ShloMosaic.Tactic
open Idealize.SL.Sem

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)
theorem lt_N (t : Fin cfg0.N) : t.val < 13 := lt_of_lt_of_eq t.isLt (show cfg0.N = 13 from N_0)
theorem co0 : ∀ t : Fin cfg0.N, (grid0.coords t 0).val = t.val := (by decide +kernel : ∀ t : Fin grid0.N, _)

/-- The body's comparisons: rows from `o` on in the block at `b` are latent ones, -/
abbrev lat (b o : BitVec 32) : BitVec 1 := Scalar.cmpi .slt (Scalar.addi (Scalar.muli b 1280#32) o) 16384#32

/-- and rows at all. -/
abbrev row (b o : BitVec 32) : BitVec 1 :=
  Scalar.andi (Scalar.cmpi .sge (Scalar.addi (Scalar.muli b 1280#32) o) 0#32) (Scalar.cmpi .slt (Scalar.addi (Scalar.muli b 1280#32) o) 16640#32)

theorem bits : ∀ (b : Fin 13) (q : Fin 5), lat (BitVec.ofNat 32 b.val) (BitVec.ofNat 32 (256 * q.val)) = BitVec.ofBool (decide (b.val * 1280 + 256 * q.val < 16384)) ∧ row (BitVec.ofNat 32 b.val) (BitVec.ofNat 32 (256 * q.val)) = 1#1 := by
  decide +kernel

section

variable {F : FTy → Type} [FloatOps F]

/-- A fifth of a block. -/
abbrev part (o : ℕ) (inb : ∀ a, (![o, 0] : Fin 2 → ℕ) a + (![256, 2048] : Fin 2 → ℕ) a ≤ S1280x2048.size a) : Rect S1280x2048 :=
  Rect.unit ![o, 0] ![256, 2048] inb

/-- What the body stores there, -/
def piece (b : ℕ) (x : Vec F S1280x2048 .f32) (g : Vec F S1x2048 .f32) (t s : Vec F S2x1x2048 .f32) (o : ℕ)
    (inb : ∀ a, (![o, 0] : Fin 2 → ℕ) a + (![256, 2048] : Fin 2 → ℕ) a ≤ S1280x2048.size a) : View.Piece (Elt F) S1280x2048 .bf16 :=
  ⟨part o inb, truncf (φ := .f32) .bf16 (rows (View.ld x (part o inb)) (lat (BitVec.ofNat 32 b) (BitVec.ofNat 32 o)) (row (BitVec.ofNat 32 b) (BitVec.ofNat 32 o)) g t s) bitsLt_bf16_f32⟩

/-- and all its stores. -/
def pieces (b : ℕ) (x : Vec F S1280x2048 .f32) (g : Vec F S1x2048 .f32) (t s : Vec F S2x1x2048 .f32) : List (View.Piece (Elt F) S1280x2048 .bf16) :=
  [piece b x g t s 1024 inb_S1280x2048_S256x2048_1024_0, piece b x g t s 768 inb_S1280x2048_S256x2048_768_0, piece b x g t s 512 inb_S1280x2048_S256x2048_512_0,
    piece b x g t s 256 inb_S1280x2048_S256x2048_256_0, piece b x g t s 0 inb_S1280x2048_S256x2048_0_0]

theorem out_eq (i : grid0.Coords) (x : Vec F S1280x2048 .f32) (g : Vec F S1x2048 .f32) (t s : Vec F S2x1x2048 .f32) :
    out0_4 i x g t s = View.canon (pieces (i 0).val x g t s) := rfl

theorem cover (b : ℕ) (x : Vec F S1280x2048 .f32) (g : Vec F S1x2048 .f32) (t s : Vec F S2x1x2048 .f32) (y : S1280x2048.Idx) :
    ∃ p ∈ pieces b x g t s, y ∈ p.1.set := cover0_4 _ _ _ _ _ y

end

section

variable (m : (ℓ : Loc nD τ sig) → Buf (Elt Ideal) ℓ) (ρ : Dev nD → PrngReg)

/-! ## Over the extended reals -/

/-- A row of the block at `b`, from the block's rows, the gain, the shifts and the scales. -/
def bval (b : ℕ) (x : Vec Ideal S1280x2048 .f32) (g : Vec Ideal S1x2048 .f32) (t s : Vec Ideal S2x1x2048 .f32) (r : Fin 1280) (j : Fin 2048) : EReal :=
  x (ix2 r j) * inv (fun k => x (ix2 r k)) * (g (ix2 0 j) * (1 + (if b * 1280 + r.val < 16384 then s (ix3 0 0 j) else s (ix3 1 0 j))))
    + (if b * 1280 + r.val < 16384 then t (ix3 0 0 j) else t (ix3 1 0 j))

theorem piece_apply (b : Fin 13) (x : Vec Ideal S1280x2048 .f32) (g : Vec Ideal S1x2048 .f32) (t s : Vec Ideal S2x1x2048 .f32)
    (o : ℕ) (inb) (q : Fin 5) (ho : o = 256 * q.val) (y : S256x2048.Idx) :
    (piece b.val x g t s o inb).2 y = bval b.val x g t s ⟨o + (y 0).val, by have : (y 0).val < 256 := (y 0).isLt; have := q.isLt; omega⟩ (y 1) := by
  have hy0 : (y 0).val < 256 := (y 0).isLt
  have hq := q.isLt
  have hy : ∀ (k : Fin 2048), View.ld x (part o inb) (ix2 (y 0 : Fin 256) k) = x (ix2 ⟨o + (y 0).val, by omega⟩ k) := fun k => by
    refine congrArg x (ix2_of _ _ _ ?_ ?_)
    · show o + 1 * (y 0).val = o + (y 0).val
      omega
    · show 0 + 1 * k.val = k.val
      omega
  have e : y = ix2 (y 0 : Fin 256) (y 1 : Fin 2048) := ix2_of y _ _ rfl rfl
  obtain ⟨h1, h2⟩ := ho ▸ bits b q
  show rows (View.ld x (part o inb)) (lat (BitVec.ofNat 32 b.val) (BitVec.ofNat 32 o)) (row (BitVec.ofNat 32 b.val) (BitVec.ofNat 32 o)) g t s y = _
  rw [h1, h2]
  refine (congrArg _ e).trans ((rows_apply _ _ g t s _ _).trans ?_)
  have hl : decide (b.val * 1280 + o < 16384) = decide (b.val * 1280 + (o + (y 0).val) < 16384) := by
    have := b.isLt
    refine decide_eq_decide.2 ⟨fun h => ?_, fun h => ?_⟩ <;> omega
  unfold bval
  simp only [hy, hl, decide_eq_true_eq]
  exact congrArg (fun a => a * inv (fun k => x (ix2 ⟨o + (y 0).val, _⟩ k)) * (g (ix2 0 (y 1)) * (1 + (if b.val * 1280 + (o + (y 0).val) < 16384 then s (ix3 0 0 (y 1)) else s (ix3 1 0 (y 1)))))
    + (if b.val * 1280 + (o + (y 0).val) < 16384 then t (ix3 0 0 (y 1)) else t (ix3 1 0 (y 1)))) (hy (y 1))

theorem block_eq (b : Fin 13) (x : Vec Ideal S1280x2048 .f32) (g : Vec Ideal S1x2048 .f32) (t s : Vec Ideal S2x1x2048 .f32) (y : S1280x2048.Idx) :
    View.canon (pieces b.val x g t s) y = bval b.val x g t s (y 0) (y 1) := by
  refine View.canon_apply_of_pieces (Val := Elt Ideal) (e := .bf16) (fun y : S1280x2048.Idx => bval b.val x g t s (y 0) (y 1)) _ (fun p hp z => ?_) y (cover b.val x g t s y)
  have key : ∀ (o : ℕ) (inb) (q : Fin 5) (ho : o = 256 * q.val) (z : S256x2048.Idx),
      (piece b.val x g t s o inb).2 z = bval b.val x g t s ((part o inb).emb z 0) ((part o inb).emb z 1) := fun o inb q ho z => by
    refine (piece_apply b x g t s o inb q ho z).trans (congrArg₂ (bval b.val x g t s) (Fin.ext ?_) (Fin.ext ?_))
    · show o + (z 0).val = o + 1 * (z 0).val
      omega
    · show (z 1).val = 0 + 1 * (z 1).val
      omega
  unfold pieces at hp
  simp only [List.mem_cons, List.not_mem_nil, or_false] at hp
  rcases hp with rfl | rfl | rfl | rfl | rfl
  · exact key 1024 _ 4 rfl z
  · exact key 768 _ 3 rfl z
  · exact key 512 _ 2 rfl z
  · exact key 256 _ 1 rfl z
  · exact key 0 _ 0 rfl z

theorem iblk0_apply (c : Dev nD) (t : Fin cfg0.N) (r : Fin 1280) (k : Fin 2048) :
    iblk m c 0 t (ix2 r k) = V m c main_arg0 (ix2 ⟨t.val * 1280 + r.val, by have := lt_N t; omega⟩ k) := by
  have e := idx0 t
  have hN := lt_N t
  blk_simp [iblk]
  refine congrArg (V m c main_arg0) ?_
  blk_ext [e]

theorem iblk1_apply (c : Dev nD) (t : Fin cfg0.N) (j : Fin 2048) : iblk m c 1 t (ix2 0 j) = V m c main_v0 (ix2 0 j) := by
  have e := idx1 t
  blk_simp [iblk]
  refine congrArg (V m c main_v0) ?_
  blk_ext [e]

theorem iblk2_apply (c : Dev nD) (t : Fin cfg0.N) (p : Fin 2) (j : Fin 2048) : iblk m c 2 t (ix3 p 0 j) = V m c main_v1 (ix3 p 0 j) := by
  have e := idx2 t
  blk_simp [iblk]
  refine congrArg (V m c main_v1) ?_
  blk_ext [e]

theorem iblk3_apply (c : Dev nD) (t : Fin cfg0.N) (p : Fin 2) (j : Fin 2048) : iblk m c 3 t (ix3 p 0 j) = V m c main_v2 (ix3 p 0 j) := by
  have e := idx3 t
  blk_simp [iblk]
  refine congrArg (V m c main_v2) ?_
  blk_ext [e]

theorem V_main_v0_apply (c : Dev nD) (j : Fin 2048) : V m c main_v0 (ix2 0 j) = m ((c : Thread nD τ).loc main_arg1) (ix1 j) := by
  have h : V m c main_v0 = shapeCast S1x2048 (m ((c : Thread nD τ).loc main_arg1)) shapeCasts_S2048_S1x2048 := by
    unfold V hostOps0; after_results; rfl
  rw [h]
  pointwise

theorem V_main_v1_apply (c : Dev nD) (p : Fin 2) (j : Fin 2048) : V m c main_v1 (ix3 p 0 j) = m ((c : Thread nD τ).loc main_arg2) (ix2 p j) := by
  have h : V m c main_v1 = shapeCast S2x1x2048 (m ((c : Thread nD τ).loc main_arg2)) shapeCasts_S2x2048_S2x1x2048 := by
    unfold V hostOps0; after_results; rfl
  rw [h]
  pointwise

theorem V_main_v2_apply (c : Dev nD) (p : Fin 2) (j : Fin 2048) : V m c main_v2 (ix3 p 0 j) = m ((c : Thread nD τ).loc main_arg3) (ix2 p j) := by
  have h : V m c main_v2 = shapeCast S2x1x2048 (m ((c : Thread nD τ).loc main_arg3)) shapeCasts_S2x2048_S2x1x2048 := by
    unfold V hostOps0; after_results; rfl
  rw [h]
  pointwise

theorem point_eq (c : Dev nD) (t : Fin cfg0.N) (y : S1280x2048.Idx) :
    out0_4 (grid0.coords t) (iblk m c 0 t) (iblk m c 1 t) (iblk m c 2 t) (iblk m c 3 t) y
      = modulated (V m c main_arg0) (m ((c : Thread nD τ).loc main_arg1)) (m ((c : Thread nD τ).loc main_arg2)) (m ((c : Thread nD τ).loc main_arg3))
        ⟨t.val * 1280 + (y 0).val, by have := lt_N t; have : (y 0).val < 1280 := (y 0).isLt; omega⟩ (y 1) := by
  have hb : (grid0.coords t 0).val < 13 := (co0 t).symm ▸ lt_N t
  rw [out_eq]
  refine (block_eq ⟨_, hb⟩ _ _ _ _ y).trans ?_
  show bval (grid0.coords t 0).val _ _ _ _ _ _ = _
  rw [co0 t]
  have hx : ∀ k : Fin 2048, iblk m c 0 t (ix2 (y 0 : Fin 1280) k) = V m c main_arg0 (ix2 ⟨t.val * 1280 + (y 0).val, _⟩ k) := fun k => iblk0_apply m c t _ k
  have hg : iblk m c 1 t (ix2 0 (y 1)) = m ((c : Thread nD τ).loc main_arg1) (ix1 (y 1)) := (iblk1_apply m c t _).trans (V_main_v0_apply m c _)
  have ht : ∀ p : Fin 2, iblk m c 2 t (ix3 p 0 (y 1)) = m ((c : Thread nD τ).loc main_arg2) (ix2 p (y 1)) := fun p => (iblk2_apply m c t p _).trans (V_main_v1_apply m c p _)
  have hs : ∀ p : Fin 2, iblk m c 3 t (ix3 p 0 (y 1)) = m ((c : Thread nD τ).loc main_arg3) (ix2 p (y 1)) := fun p => (iblk3_apply m c t p _).trans (V_main_v2_apply m c p _)
  unfold modulated RowNorm.norm
  rw [mul_assoc (_ * inv _)]
  refine congrArg₂ (· + ·) (congrArg₂ (· * ·) (congrArg₂ (fun a b => a * inv b) (hx _) (funext hx)) (congrArg₂ (fun a b : EReal => a * (1 + b)) hg ?_)) ?_
  · exact congrArg₂ (fun a b : EReal => if t.val * 1280 + (y 0).val < 16384 then a else b) (hs 0) (hs 1)
  · exact congrArg₂ (fun a b : EReal => if t.val * 1280 + (y 0).val < 16384 then a else b) (ht 0) (ht 1)

/-- The result array after the run. -/
theorem final_o (c : Dev nD) : (dats m 0 c).arrAt 4 cfg0.N = result (V m c main_arg0) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  refine (point_eq m c t y).trans ?_
  have e := idx4 t
  have hN := lt_N t
  have e0 : ((win0_4.blk t).view.emb y 0).val = t.val * 1280 + (y 0).val := by blk_simp [e]
  have e1 : ((win0_4.blk t).view.emb y 1).val = (y 1).val := by blk_simp [e]
  unfold result
  exact congrArg₂ (modulated _ _ _ _) (Fin.ext e0.symm) (Fin.ext e1.symm)

/-- The run: the result array of the argument arrays, which end unchanged. -/
theorem value : θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans ((final_o m c).trans (by rw [V_main_arg0])), h.2 c⟩)
    (θ_run_and (run_main m ρ) (unchanged m ρ))

end

end Cert.NormIdeal.Val

end
-- ==== Proof.NormRef.lean ====
/-
  The reference of a layer's norm: its result array at every index.
-/
module

public import proofs.«01_k».proof.Proof.Gen.NormRefIdeal.Run
public import proofs.«01_k».proof.Proof.RowNorm

@[expose] public section

set_option maxRecDepth 16384

noncomputable section

namespace Cert.NormRefIdeal.Val

open Cert.NormRefIdeal Cert.NormRefIdeal.Gen
open Cert.Dense Cert.RowNorm Idealize.ShloMosaic Idealize.ShloMosaic.TcCoe Idealize.SL.Sem

/-- The reciprocal roots of the latent rows, -/
theorem latent_inv (H : Vec Ideal S16640x2048 .f32) (i : Fin 16384) :
    Host.rsqrt (F := Ideal) (φ := .f32) (addf (Host.divf (broadcastInDim S16384x1 ![0] bcast_S16384_S16384x1_0 (Host.reduceAdd (mulf (extractStridedSlice S16384x2048 ![0, 0] H slices_S16640x2048_S16384x2048_0_0) (extractStridedSlice S16384x2048 ![0, 0] H slices_S16640x2048_S16384x2048_0_0)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32))) (ix2 i 0)
      = inv (fun k => H (ix2 ⟨i.val, by omega⟩ k)) := by
  pointwise
  rfl

/-- and of the context rows. -/
theorem context_inv (H : Vec Ideal S16640x2048 .f32) (i : Fin 256) :
    Host.rsqrt (F := Ideal) (φ := .f32) (addf (Host.divf (broadcastInDim S256x1 ![0] bcast_S256_S256x1_0 (Host.reduceAdd (mulf (extractStridedSlice S256x2048 ![16384, 0] H slices_S16640x2048_S256x2048_16384_0) (extractStridedSlice S256x2048 ![16384, 0] H slices_S16640x2048_S256x2048_16384_0)) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32))) (ix2 i 0)
      = inv (fun k => H (ix2 ⟨16384 + i.val, by omega⟩ k)) := by
  pointwise
  rfl

/-- The latent rows, of their reciprocal roots, -/
theorem latent_apply (H : Vec Ideal S16640x2048 .f32) (G : Vec Ideal S2048 .f32) (T S : Vec Ideal S2x2048 .f32) (q : Vec Ideal S16384x1 .f32)
    (hq : ∀ i : Fin 16384, q (ix2 i 0) = inv (fun k => H (ix2 ⟨i.val, by omega⟩ k))) (i : Fin 16384) (j : Fin 2048) :
    addf (F := Ideal) (φ := .f32) (mulf (mulf (mulf (extractStridedSlice S16384x2048 ![0, 0] H slices_S16640x2048_S16384x2048_0_0) (broadcastInDim S16384x2048 ![0, 1] bcast_S16384x1_S16384x2048_0_1 q)) (broadcastInDim S16384x2048 ![0, 1] bcast_S1x2048_S16384x2048_0_1 (broadcastInDim S1x2048 ![1] bcast_S2048_S1x2048_1 G))) (broadcastInDim S16384x2048 ![0, 1] bcast_S1x2048_S16384x2048_0_1 (broadcastInDim S1x2048 ![1] bcast_S2048_S1x2048_1 (addf (broadcastInDim S2048 ![] bcast_S_S2048 (constant S_ .f32 0x3F800000#32)) (shapeCast _ (extractStridedSlice S1x2048 ![0, 0] S slices_S2x2048_S1x2048_0_0) shapeCasts_S1x2048_S2048))))) (broadcastInDim S16384x2048 ![0, 1] bcast_S1x2048_S16384x2048_0_1 (broadcastInDim S1x2048 ![1] bcast_S2048_S1x2048_1 (shapeCast _ (extractStridedSlice S1x2048 ![0, 0] T slices_S2x2048_S1x2048_0_0) shapeCasts_S1x2048_S2048))) (ix2 i j)
      = RowNorm.norm H G ⟨i.val, by omega⟩ j * (1 + S (ix2 0 j)) + T (ix2 0 j) := by
  pointwise
  exact congrArg (fun z => H (ix2 ⟨i.val, _⟩ j) * z * G (ix1 j) * (1 + S (ix2 0 j)) + T (ix2 0 j)) (hq i)

/-- and the context rows. -/
theorem context_apply (H : Vec Ideal S16640x2048 .f32) (G : Vec Ideal S2048 .f32) (T S : Vec Ideal S2x2048 .f32) (q : Vec Ideal S256x1 .f32)
    (hq : ∀ i : Fin 256, q (ix2 i 0) = inv (fun k => H (ix2 ⟨16384 + i.val, by omega⟩ k))) (i : Fin 256) (j : Fin 2048) :
    addf (F := Ideal) (φ := .f32) (mulf (mulf (mulf (extractStridedSlice S256x2048 ![16384, 0] H slices_S16640x2048_S256x2048_16384_0) (broadcastInDim S256x2048 ![0, 1] bcast_S256x1_S256x2048_0_1 q)) (broadcastInDim S256x2048 ![0, 1] bcast_S1x2048_S256x2048_0_1 (broadcastInDim S1x2048 ![1] bcast_S2048_S1x2048_1 G))) (broadcastInDim S256x2048 ![0, 1] bcast_S1x2048_S256x2048_0_1 (broadcastInDim S1x2048 ![1] bcast_S2048_S1x2048_1 (addf (broadcastInDim S2048 ![] bcast_S_S2048 (constant S_ .f32 0x3F800000#32)) (shapeCast _ (extractStridedSlice S1x2048 ![1, 0] S slices_S2x2048_S1x2048_1_0) shapeCasts_S1x2048_S2048))))) (broadcastInDim S256x2048 ![0, 1] bcast_S1x2048_S256x2048_0_1 (broadcastInDim S1x2048 ![1] bcast_S2048_S1x2048_1 (shapeCast _ (extractStridedSlice S1x2048 ![1, 0] T slices_S2x2048_S1x2048_1_0) shapeCasts_S1x2048_S2048))) (ix2 i j)
      = RowNorm.norm H G ⟨16384 + i.val, by omega⟩ j * (1 + S (ix2 1 j)) + T (ix2 1 j) := by
  pointwise
  exact congrArg (fun z => H (ix2 ⟨16384 + i.val, _⟩ j) * z * G (ix1 j) * (1 + S (ix2 1 j)) + T (ix2 1 j)) (hq i)

/-- The latent rows beside the context rows. -/
theorem ref_eq (H : Vec Ideal S16640x2048 .f32) (G : Vec Ideal S2048 .f32) (T S : Vec Ideal S2x2048 .f32)
    (A : Vec Ideal S16384x2048 .f32) (B : Vec Ideal S256x2048 .f32)
    (hA : ∀ (i : Fin 16384) (j : Fin 2048), A (ix2 i j) = RowNorm.norm H G ⟨i.val, by omega⟩ j * (1 + S (ix2 0 j)) + T (ix2 0 j))
    (hB : ∀ (i : Fin 256) (j : Fin 2048), B (ix2 i j) = RowNorm.norm H G ⟨16384 + i.val, by omega⟩ j * (1 + S (ix2 1 j)) + T (ix2 1 j)) :
    truncf (F := Ideal) .bf16 (concatenate S16640x2048 0 [⟨S16384x2048, A⟩, ⟨S256x2048, B⟩] concatenates_S16384x2048_S256x2048_S16640x2048_d0) bitsLt_bf16_f32
      = result H G T S := by
  funext y
  rw [ix2_of y (y 0) (y 1) rfl rfl]
  generalize y 0 = i
  generalize y 1 = j
  pointwise
  show _ = modulated H G T S i j
  unfold modulated
  by_cases h : i.val < 16384
  · rw [dif_pos h, if_pos h, if_pos h]
    exact hA ⟨i.val, h⟩ j
  · have hi : i.val < 16640 := i.isLt
    have e : (⟨16384 + (i.val - 16384), by omega⟩ : Fin 16640) = i := Fin.ext (by show 16384 + (i.val - 16384) = i.val; omega)
    rw [dif_neg h, if_neg h, if_neg h]
    exact (hB ⟨i.val - 16384, by omega⟩ j).trans (congrArg (fun r => RowNorm.norm H G r j * (1 + S (ix2 1 j)) + T (ix2 1 j)) e)

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ref_eq _ _ _ _ _ _ (latent_apply _ _ _ _ _ (latent_inv _)) (context_apply _ _ _ _ _ (context_inv _))), (h c).2⟩) (Cert.NormRefIdeal.Value.run m ρ)

end Cert.NormRefIdeal.Val

end
-- ==== Proof.CAValue.lean ====
/-
  The columns of the input projection that feed the recurrence's gates: what the kernel's result array holds.
-/
module

public import proofs.«01_k».proof.Proof.Gen.CAIdeal.Frame
public import proofs.«01_k».proof.Proof.Dense
public import Idealize.ShloMosaic.Lib.Claim
public import Idealize.ShloMosaic.Lib.Pipeline.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.CAIdeal.Val

open Cert.CAIdeal Cert.CAIdeal.Gen
open Cert.Dense Idealize.ShloMosaic Idealize.ShloMosaic.TcCoe Idealize.ShloMosaic.Tactic
open Idealize.SL.Sem

/-- Columns 3584 to 3615 of the rows by the first layer's input weights, beside 96 columns of zeros. -/
def result (A : Vec Ideal S16640x2048 .bf16) (W : Vec Ideal S2x2048x13856 .f32) : Vec Ideal S16640x128 .f32 :=
  fun y => if (y 1).val < 32 then prod A W (y 0) (col (3584 + (y 1).val)) else 0

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)
theorem lt_N (t : Fin cfg0.N) : t.val < 13 := lt_of_lt_of_eq t.isLt (show cfg0.N = 13 from N_0)

section

variable {F : FTy → Type} [FloatOps F]
variable (m : (ℓ : Loc nD τ sig) → Buf (Elt F) ℓ) (ρ : Dev nD → PrngReg)

/-! ## What the body leaves at a point -/

theorem iblk1_eq (c : Dev nD) (t : Fin cfg0.N) : iblk m c 1 t = V m c main_v5 := by
  funext y
  have e := idx1 t
  blk_simp [iblk]
  refine congrArg (V m c main_v5) ?_
  blk_ext [e]

/-- The first point casts the weights into the scratch, -/
theorem scr_A (c : Dev nD) (t : Fin cfg0.N) (h0 : t.val % 13 = 0) : (outsAt0 m c t.val t.isLt).2 = k0_pay1 (V m c main_v5) := by
  rw [outsAt0_A m c t h0]
  unfold sout0_A_0
  dsimp only
  rw [View.read_writes_eq_canon _ _ _ (scover0_A_0 c _ _ _ _ _ _ _ _ _ _ _ _)]
  unfold kernelRun0_A
  dsimp only
  sl_unfold_words
  simp only [View.readAt_eq_ld, (hs0_0 t).read_unread, (hs0_1 t).read_unread, (Memref.isWhole_whole _).read_unread]
  simp only [View.canon_unit_zero (S := S2048x128) hz2, View.ld_unit_zero (S := S1x2048x128) hz3, iblk1_eq]

/-- and the later ones keep them. -/
theorem scr_eq (c : Dev nD) : ∀ (n : ℕ) (h : n < cfg0.N), (outsAt0 m c n h).2 = k0_pay1 (V m c main_v5)
  | 0, h => scr_A m c ⟨0, h⟩ rfl
  | n + 1, h => by
    by_cases h0 : (n + 1) % 13 = 0
    · exact scr_A m c ⟨n + 1, h⟩ h0
    · rw [outsAt0_B m c ⟨n + 1, h⟩ h0]
      exact scr_eq c n (Nat.lt_of_succ_lt h)

theorem out_eq (c : Dev nD) (t : Fin cfg0.N) :
    (outsAt0 m c t.val t.isLt).1 = k0_pay2 (iblk m c 0 t) (k0_pay1 (V m c main_v5)) := by
  by_cases h0 : t.val % 13 = 0
  · rw [outsAt0_A m c t h0]
    unfold out0_A_2
    dsimp only
    rw [View.read_writes_eq_canon _ _ _ (cover0_A_2 c _ _ _ _ _ _ _ _ _ _ _ _)]
    unfold kernelRun0_A
    dsimp only
    sl_unfold_words
    simp only [View.readAt_eq_ld, (hs0_0 t).read_unread, (hs0_1 t).read_unread, (Memref.isWhole_whole _).read_unread]
    simp only [View.canon_unit_zero (S := S1280x128) hz2, View.ld_unit_zero (S := S1x2048x128) hz3, View.ld_unit_zero (S := S1280x2048) hz2,
      View.readCov_unit_zero (S := S2048x128) _ hz2, iblk1_eq]
  · rw [outsAt0_B m c t h0]
    unfold out0_B_2
    dsimp only
    rw [View.read_writes_eq_canon _ _ _ (cover0_B_2 c _ _ _ _ _ _ _ _ _ _ _ _ _)]
    unfold kernelRun0_B
    dsimp only
    sl_unfold_words
    simp only [View.readAt_eq_ld, (hs0_0 t).read_unread, (hs0_1 t).read_unread, (Memref.isWhole_whole _).read_unread]
    simp only [View.canon_unit_zero (S := S1280x128) hz2, View.ld_unit_zero (S := S1280x2048) hz2, View.ld_unit_zero (S := S2048x128) hz2,
      scr_eq m c (t.val - 1) _]

end

section

variable (m : (ℓ : Loc nD τ sig) → Buf (Elt Ideal) ℓ) (ρ : Dev nD → PrngReg)

/-! ## Over the extended reals -/

theorem pay_apply (v : Vec Ideal S1280x2048 .bf16) (w : Vec Ideal S1x2048x128 .f32) (r : Fin 1280) (j : Fin 128) :
    k0_pay2 v (k0_pay1 w) (ix2 r j) = ∑ k : Fin 2048, v (ix2 r k) * w (ix3 0 k j) := by
  unfold k0_pay2 k0_pay1
  pointwise

theorem iblk0_apply (c : Dev nD) (t : Fin cfg0.N) (r : Fin 1280) (k : Fin 2048) : iblk m c 0 t (ix2 r k)
    = V m c main_arg0 (ix2 ⟨t.val * 1280 + r.val, by have := lt_N t; omega⟩ k) := by
  have e := idx0 t
  have hN := lt_N t
  blk_simp [iblk]
  refine congrArg (V m c main_arg0) ?_
  blk_ext [e]

/-- The padding. -/
theorem zero_cast : FloatOps.sitofp (F := Ideal) FTy.f32 0#32 = (0 : EReal) := by
  show (((0#32).toInt : ℝ) : EReal) = 0
  simp

/-- The weights as the region finds them: 32 columns of the input weights, padded. -/
theorem padded_apply (W : Vec Ideal S2x2048x13856 .f32) (k : Fin 2048) (j : Fin 128) :
    broadcastInDim S1x2048x128 ![1, 2] bcast_S2048x128_S1x2048x128_1_2 (pad S2048x128 ![0, 0] ![0, 96] ![0, 0]
      (transpose S2048x32 [1, 0] (shapeCast S32x2048 (extractStridedSlice S1x32x2048 ![0, 3584, 0] (transpose S2x13856x2048 [0, 2, 1] W transposes_S2x2048x13856_S2x13856x2048_0_2_1)
        slices_S2x13856x2048_S1x32x2048_0_3584_0) shapeCasts_S1x32x2048_S32x2048) transposes_S32x2048_S2048x32_1_0)
      (sitofp (F := Ideal) .f32 (constantI S_ 32 0#32)) pads_S2048x32_S2048x128_000_0960 h_S_) (ix3 0 k j)
      = if j.val < 32 then W (ix3 0 k (col (3584 + j.val))) else (0 : EReal) := by
  pointwise
  by_cases h : j.val < 32
  · rw [dif_pos h, if_pos h]
    refine congrArg (fun q => W (ix3 0 k q)) (Fin.ext ?_)
    show _ = (3584 + j.val) % 13856
    dsimp only
    omega
  · rw [dif_neg h, if_neg h]
    exact zero_cast

theorem V_main_v5_apply (c : Dev nD) (k : Fin 2048) (j : Fin 128) :
    V m c main_v5 (ix3 0 k j) = if j.val < 32 then m ((c : Thread nD τ).loc main_arg1) (ix3 0 k (col (3584 + j.val))) else (0 : EReal) := by
  refine Eq.trans (congrFun ?_ _) (padded_apply (m ((c : Thread nD τ).loc main_arg1)) k j)
  unfold V hostOps0 hostOps0_1 hostOps0_2
  after_results
  rfl

theorem point_eq (c : Dev nD) (t : Fin cfg0.N) (r : Fin 1280) (j : Fin 128) :
    k0_pay2 (iblk m c 0 t) (k0_pay1 (V m c main_v5)) (ix2 r j)
      = result (V m c main_arg0) (m ((c : Thread nD τ).loc main_arg1)) (ix2 ⟨t.val * 1280 + r.val, by have := lt_N t; omega⟩ j) := by
  rw [pay_apply]
  simp only [iblk0_apply m c t r, V_main_v5_apply m c _ j]
  unfold result prod
  by_cases h : j.val < 32
  · rw [if_pos (show ((ix2 (⟨t.val * 1280 + r.val, _⟩ : Fin 16640) j : S16640x128.Idx) 1).val < 32 from h)]
    simp only [if_pos h]
    rfl
  · rw [if_neg (show ¬((ix2 (⟨t.val * 1280 + r.val, _⟩ : Fin 16640) j : S16640x128.Idx) 1).val < 32 from h)]
    simp only [if_neg h, mul_zero, Finset.sum_const_zero]

/-- The result array after the run. -/
theorem final_o (c : Dev nD) : (dats m 0 c).arrAt 2 cfg0.N = result (V m c main_arg0) (m ((c : Thread nD τ).loc main_arg1)) := by
  refine (dats m 0 c).arrAt_eq_of_covers 2 _ (by decide +kernel) fun t hf y => ?_
  blk_simp
  rw [after0_2, out_eq]
  have e := idx2 t
  have hN := lt_N t
  have hy0 : (y 0).val < 1280 := (y 0).isLt
  have hy1 : (y 1).val < 128 := (y 1).isLt
  have e0 : ((win0_2.blk t).view.emb y 0).val = t.val * 1280 + (y 0).val := by blk_simp [e]
  have e1 : ((win0_2.blk t).view.emb y 1).val = (y 1).val := by blk_simp [e]
  have ey : (win0_2.blk t).view.emb y = ix2 ⟨t.val * 1280 + (y 0).val, by omega⟩ ⟨(y 1).val, hy1⟩ := ix2_of _ _ _ e0 e1
  exact (congrArg _ (ix2_of y ⟨(y 0).val, hy0⟩ ⟨(y 1).val, hy1⟩ rfl rfl)).trans ((point_eq m c t _ _).trans (congrArg _ ey.symm))

/-- The run: the result array of the argument arrays, which end unchanged. -/
theorem value : θ_run defs (onTc (τ := τ) (main (F := Ideal))) ⟨m, fun _ => 0, ρ⟩ fun r => ∀ c : Dev nD,
      r.2.mem ((c : Thread nD τ).loc main_v6) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans ((final_o m c).trans (by rw [V_main_arg0])), h.2 c⟩)
    (θ_run_and (run_main m ρ) (frame_of m ρ (dats m) (A_eq m) (run_main m ρ)))

end

end Cert.CAIdeal.Val

end
-- ==== Proof.CARef.lean ====
/-
  The reference of the columns that feed the recurrence's gates: its result array at every index.
-/
module

public import proofs.«01_k».proof.Proof.Gen.CARefIdeal.Run
public import proofs.«01_k».proof.Proof.CAValue

@[expose] public section

set_option maxRecDepth 16384

noncomputable section

namespace Cert.CARefIdeal.Val

open Cert.CARefIdeal Cert.CARefIdeal.Gen
open Cert.Dense Idealize.ShloMosaic Idealize.ShloMosaic.TcCoe Idealize.SL.Sem

/-- The product, over all rows and columns. -/
theorem dot_apply (A : Vec Ideal S16640x2048 .bf16) (W : Vec Ideal S2x2048x13856 .f32) (i : Fin 16640) (j : Fin 13856) :
    Host.dotGeneral (F := Ideal) (φ₁ := .f32) (φ₂ := .f32) dot_S16640x2048_S2048x13856_S16640x13856_1_0_0_1_n_n none (extf .f32 A bitsLt_bf16_f32)
      (shapeCast _ (extractStridedSlice S1x2048x13856 ![0, 0, 0] W slices_S2x2048x13856_S1x2048x13856_0_0_0) shapeCasts_S1x2048x13856_S2048x13856) (ix2 i j)
      = prod A W i j := by
  pointwise
  rfl

/-- Its columns, padded. -/
theorem ref_eq (Y : Vec Ideal S16640x13856 .f32) (A : Vec Ideal S16640x2048 .bf16) (W : Vec Ideal S2x2048x13856 .f32) (hY : ∀ i j, Y (ix2 i j) = prod A W i j) :
    pad S16640x128 ![0, 0] ![0, 96] ![0, 0] (extractStridedSlice S16640x32 ![0, 3584] Y slices_S16640x13856_S16640x32_0_3584) (sitofp (F := Ideal) .f32 (constantI S_ 32 0#32))
      pads_S16640x32_S16640x128_000_0960 h_S_ = Cert.CAIdeal.Val.result A W := by
  funext y
  rw [ix2_of y (y 0) (y 1) rfl rfl]
  generalize y 0 = i
  generalize y 1 = j
  have hj : j.val < 128 := j.isLt
  pointwise
  show _ = if j.val < 32 then prod A W i (col (3584 + j.val)) else 0
  by_cases h : j.val < 32
  · rw [dif_pos h, if_pos h]
    refine Eq.trans (congrArg Y ?_) (hY i (col (3584 + j.val)))
    refine ix2_of _ _ _ rfl ?_
    show _ = (3584 + j.val) % 13856
    dsimp
    omega
  · rw [dif_neg h, if_neg h]
    exact Cert.CAIdeal.Val.zero_cast

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.CAIdeal.Val.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq _ _ _ (dot_apply _ _)), (h c).2⟩) (Cert.CARefIdeal.Value.run m ρ)

end Cert.CARefIdeal.Val

end
-- ==== Proof.ModValue.lean ====
/-
  The shifts, scales and gates: what the kernel's result array holds.
-/
module

public import proofs.«01_k».proof.Proof.Gen.ModIdeal.Frame
public import proofs.«01_k».proof.Proof.Dense
public import Idealize.ShloMosaic.Lib.Claim
public import Idealize.ShloMosaic.Lib.Pipeline.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.ModIdeal.Val

open Cert.ModIdeal Cert.ModIdeal.Gen
open Cert.Dense Idealize.ShloMosaic Idealize.ShloMosaic.TcCoe Idealize.ShloMosaic.Tactic
open Idealize.SL.Sem

/-- The rows by the first layer's weights, with the first layer's bias. -/
def result (A : Vec Ideal S16x2048 .bf16) (W : Vec Ideal S2x2048x12288 .f32) (B : Vec Ideal S2x12288 .f32) : Vec Ideal S16x12288 .f32 :=
  fun y => prod A W (y 0) (y 1) + B (ix2 0 (y 1))

theorem idx0 : ∀ t : Fin cfg0.N, win0_0.index t = ![0, 0] := (by decide +kernel : ∀ t : Fin grid0.N, _)
theorem idx1 : ∀ t : Fin cfg0.N, win0_1.index t = ![0, 0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem lt_N (t : Fin cfg0.N) : t.val < 12 := lt_of_lt_of_eq t.isLt (show cfg0.N = 12 from N_0)

section

variable {F : FTy → Type} [FloatOps F]
variable (m : (ℓ : Loc nD τ sig) → Buf (Elt F) ℓ) (ρ : Dev nD → PrngReg)

/-- What the body leaves at a point. -/
theorem out_eq (c : Dev nD) (t : Fin cfg0.N) :
    outsAt0 m c t = k0_pay2 (iblk m c 0 t) (k0_pay1 (iblk m c 1 t)) (iblk m c 2 t) := by
  unfold outsAt0 out0_A_3
  dsimp only
  rw [View.read_writes_eq_canon _ _ _ (cover0_A_3 c _ _ _ _ _ _ _ _ _ _ _ _ _ _ _)]
  unfold kernelRun0_A
  dsimp only
  sl_unfold_words
  simp only [View.readAt_eq_ld, (hs0_0 t).read_unread, (hs0_1 t).read_unread, (hs0_2 t).read_unread, (Memref.isWhole_whole _).read_unread]
  simp only [View.canon_unit_zero (S := S16x1024) hz2, View.ld_unit_zero (S := S1x2048x1024) hz3, View.ld_unit_zero (S := S16x2048) hz2, View.ld_unit_zero (S := S1x1024) hz2,
    View.readCov_unit_zero (S := S2048x1024) _ hz2]

end

section

variable (m : (ℓ : Loc nD τ sig) → Buf (Elt Ideal) ℓ) (ρ : Dev nD → PrngReg)

/-! ## Over the extended reals -/

theorem pay_apply (v : Vec Ideal S16x2048 .bf16) (w : Vec Ideal S1x2048x1024 .f32) (b : Vec Ideal S1x1024 .f32) (r : Fin 16) (j : Fin 1024) :
    k0_pay2 v (k0_pay1 w) b (ix2 r j) = (∑ k : Fin 2048, v (ix2 r k) * w (ix3 0 k j)) + b (ix2 0 j) := by
  unfold k0_pay2 k0_pay1
  pointwise

theorem iblk0_apply (c : Dev nD) (t : Fin cfg0.N) (r : Fin 16) (k : Fin 2048) : iblk m c 0 t (ix2 r k) = V m c main_arg0 (ix2 r k) := by
  have e := idx0 t
  blk_simp [iblk]
  refine congrArg (V m c main_arg0) ?_
  blk_ext [e]

theorem iblk1_apply (c : Dev nD) (t : Fin cfg0.N) (k : Fin 2048) (j : Fin 1024) : iblk m c 1 t (ix3 0 k j)
    = V m c main_arg1 (ix3 0 k ⟨t.val * 1024 + j.val, by have := lt_N t; omega⟩) := by
  have e := idx1 t
  have hN := lt_N t
  blk_simp [iblk]
  refine congrArg (V m c main_arg1) ?_
  blk_ext [e]

theorem iblk2_apply (c : Dev nD) (t : Fin cfg0.N) (j : Fin 1024) : iblk m c 2 t (ix2 0 j)
    = V m c main_v2 (ix2 0 ⟨t.val * 1024 + j.val, by have := lt_N t; omega⟩) := by
  have e := idx2 t
  have hN := lt_N t
  blk_simp [iblk]
  refine congrArg (V m c main_v2) ?_
  blk_ext [e]

/-- The bias as the region finds it. -/
theorem bias_apply (B : Vec Ideal S2x12288 .f32) (j : Fin 12288) :
    shapeCast S1x12288 (shapeCast S12288 (extractStridedSlice S1x12288 ![0, 0] B slices_S2x12288_S1x12288_0_0) shapeCasts_S1x12288_S12288) shapeCasts_S12288_S1x12288 (ix2 0 j)
      = B (ix2 0 j) := by
  pointwise

theorem V_main_v2_apply (c : Dev nD) (j : Fin 12288) : V m c main_v2 (ix2 0 j) = m ((c : Thread nD τ).loc main_arg2) (ix2 0 j) := by
  refine Eq.trans (congrFun ?_ _) (bias_apply (m ((c : Thread nD τ).loc main_arg2)) j)
  unfold V hostOps0
  after_results
  rfl

theorem point_eq (c : Dev nD) (t : Fin cfg0.N) (r : Fin 16) (j : Fin 1024) :
    k0_pay2 (iblk m c 0 t) (k0_pay1 (iblk m c 1 t)) (iblk m c 2 t) (ix2 r j)
      = result (V m c main_arg0) (V m c main_arg1) (m ((c : Thread nD τ).loc main_arg2)) (ix2 r ⟨t.val * 1024 + j.val, by have := lt_N t; omega⟩) := by
  rw [pay_apply]
  exact congrArg₂ (· + ·) (Finset.sum_congr rfl fun k _ => congrArg₂ (· * ·) (iblk0_apply m c t r k) (iblk1_apply m c t k j))
    ((iblk2_apply m c t j).trans (V_main_v2_apply m c _))

/-- The result array after the run. -/
theorem final_o (c : Dev nD) : (dats m 0 c).arrAt 3 cfg0.N = result (V m c main_arg0) (V m c main_arg1) (m ((c : Thread nD τ).loc main_arg2)) := by
  refine (dats m 0 c).arrAt_eq_of_covers 3 _ (by decide +kernel) fun t hf y => ?_
  blk_simp
  rw [after0_3, out_eq]
  have e := idx3 t
  have hN := lt_N t
  have hy0 : (y 0).val < 16 := (y 0).isLt
  have hy1 : (y 1).val < 1024 := (y 1).isLt
  have e0 : ((win0_3.blk t).view.emb y 0).val = (y 0).val := by blk_simp [e]
  have e1 : ((win0_3.blk t).view.emb y 1).val = t.val * 1024 + (y 1).val := by blk_simp [e]
  have ey : (win0_3.blk t).view.emb y = ix2 ⟨(y 0).val, hy0⟩ ⟨t.val * 1024 + (y 1).val, by omega⟩ := ix2_of _ _ _ e0 e1
  exact (congrArg _ (ix2_of y ⟨(y 0).val, hy0⟩ ⟨(y 1).val, hy1⟩ rfl rfl)).trans ((point_eq m c t _ _).trans (congrArg _ ey.symm))

/-- The run: the result array of the argument arrays, which end unchanged. -/
theorem value : θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans ((final_o m c).trans (by rw [V_main_arg0, V_main_arg1])), h.2 c⟩)
    (θ_run_and (run_main m ρ) (frame_of m ρ (dats m) (A_eq m) (run_main m ρ)))

end

end Cert.ModIdeal.Val

end
-- ==== Proof.ModRef.lean ====
/-
  The reference of the shifts, scales and gates: its result array at every index.
-/
module

public import proofs.«01_k».proof.Proof.Gen.ModRefIdeal.Run
public import proofs.«01_k».proof.Proof.ModValue

@[expose] public section

set_option maxRecDepth 16384

noncomputable section

namespace Cert.ModRefIdeal.Val

open Cert.ModRefIdeal Cert.ModRefIdeal.Gen
open Cert.Dense Idealize.ShloMosaic Idealize.ShloMosaic.TcCoe Idealize.SL.Sem

/-- The product. -/
theorem dot_apply (A : Vec Ideal S16x2048 .bf16) (W : Vec Ideal S2x2048x12288 .f32) (i : Fin 16) (j : Fin 12288) :
    Host.dotGeneral (F := Ideal) (φ₁ := .f32) (φ₂ := .f32) dot_S16x2048_S2048x12288_S16x12288_1_0_0_1_n_n none (extf .f32 A bitsLt_bf16_f32)
      (shapeCast _ (extractStridedSlice S1x2048x12288 ![0, 0, 0] W slices_S2x2048x12288_S1x2048x12288_0_0_0) shapeCasts_S1x2048x12288_S2048x12288) (ix2 i j)
      = prod A W i j := by
  pointwise
  rfl

/-- With the bias. -/
theorem ref_eq (Y : Vec Ideal S16x12288 .f32) (A : Vec Ideal S16x2048 .bf16) (W : Vec Ideal S2x2048x12288 .f32) (B : Vec Ideal S2x12288 .f32)
    (hY : ∀ i j, Y (ix2 i j) = prod A W i j) :
    addf (F := Ideal) (φ := .f32) Y (broadcastInDim S16x12288 ![0, 1] bcast_S1x12288_S16x12288_0_1 (broadcastInDim S1x12288 ![1] bcast_S12288_S1x12288_1 (shapeCast _ (extractStridedSlice S1x12288 ![0, 0] B slices_S2x12288_S1x12288_0_0) shapeCasts_S1x12288_S12288)))
      = Cert.ModIdeal.Val.result A W B := by
  funext y
  rw [ix2_of y (y 0) (y 1) rfl rfl]
  generalize y 0 = i
  generalize y 1 = j
  pointwise
  exact congrArg (fun z => z + B (ix2 0 j)) (hY i j)

/-- The run: the result array of the argument arrays, which end unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Cert.ModIdeal.Val.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _ _ (dot_apply _ _)), (h c).2⟩) (Cert.ModRefIdeal.Value.run m ρ)

end Cert.ModRefIdeal.Val

end
-- ==== Proof.lean ====
/-
  The proof of `Cert.Claim` (proofs.«01_k».proof.Defs): the attention and, one by one, the dense calls and the norms. The witnesses of the
  programs' stated facts come first, then each claim from the modules that prove it.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.FlashValue
public import proofs.«01_k».proof.Proof.FlashSpec
public import proofs.«01_k».proof.Proof.FlashClaim
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_finite_qk
public import proofs.«01_k».proof.Proof.Gen.P1
public import proofs.«01_k».proof.Proof.Gen.P1.Frame
public import proofs.«01_k».proof.Proof.P1Value
public import proofs.«01_k».proof.Proof.P1Ref
public import proofs.«01_k».proof.Proof.Gen.P1Ideal
public import proofs.«01_k».proof.Proof.Gen.P1RefIdeal
public import proofs.«01_k».proof.Proof.Gen.PB
public import proofs.«01_k».proof.Proof.Gen.PB.Frame
public import proofs.«01_k».proof.Proof.PBValue
public import proofs.«01_k».proof.Proof.PBRef
public import proofs.«01_k».proof.Proof.Gen.PBIdeal
public import proofs.«01_k».proof.Proof.Gen.PBRefIdeal
public import proofs.«01_k».proof.Proof.Gen.WOut
public import proofs.«01_k».proof.Proof.Gen.WOut.Frame
public import proofs.«01_k».proof.Proof.WOutValue
public import proofs.«01_k».proof.Proof.WOutRef
public import proofs.«01_k».proof.Proof.Gen.WOutIdeal
public import proofs.«01_k».proof.Proof.Gen.WOutRefIdeal
public import proofs.«01_k».proof.Proof.Gen.Down
public import proofs.«01_k».proof.Proof.Gen.Down.Frame
public import proofs.«01_k».proof.Proof.DownValue
public import proofs.«01_k».proof.Proof.DownRef
public import proofs.«01_k».proof.Proof.Gen.DownIdeal
public import proofs.«01_k».proof.Proof.Gen.DownRefIdeal
public import proofs.«01_k».proof.Proof.Gen.Up
public import proofs.«01_k».proof.Proof.Gen.Up.Frame
public import proofs.«01_k».proof.Proof.UpValue
public import proofs.«01_k».proof.Proof.UpRef
public import proofs.«01_k».proof.Proof.Gen.UpIdeal
public import proofs.«01_k».proof.Proof.Gen.UpRefIdeal
public import proofs.«01_k».proof.Proof.Gen.Gates
public import proofs.«01_k».proof.Proof.GatesFrame
public import proofs.«01_k».proof.Proof.GatesValue
public import proofs.«01_k».proof.Proof.GatesRef
public import proofs.«01_k».proof.Proof.Gen.GatesIdeal
public import proofs.«01_k».proof.Proof.Gen.GatesRefIdeal
public import proofs.«01_k».proof.Proof.Gen.Final
public import proofs.«01_k».proof.Proof.Gen.Final.Frame
public import proofs.«01_k».proof.Proof.Gen.FinalIdeal
public import proofs.«01_k».proof.Proof.FinalValue
public import proofs.«01_k».proof.Proof.Gen.FinalRefIdeal
public import proofs.«01_k».proof.Proof.FinalRef
public import proofs.«01_k».proof.Proof.Gen.Norm
public import proofs.«01_k».proof.Proof.Gen.Norm.Frame
public import proofs.«01_k».proof.Proof.Gen.NormIdeal
public import proofs.«01_k».proof.Proof.NormValue
public import proofs.«01_k».proof.Proof.Gen.NormRefIdeal
public import proofs.«01_k».proof.Proof.NormRef
public import proofs.«01_k».proof.Proof.Gen.CA
public import proofs.«01_k».proof.Proof.Gen.CA.Frame
public import proofs.«01_k».proof.Proof.Gen.CAIdeal
public import proofs.«01_k».proof.Proof.CAValue
public import proofs.«01_k».proof.Proof.Gen.CARefIdeal
public import proofs.«01_k».proof.Proof.CARef
public import proofs.«01_k».proof.Proof.Gen.Mod
public import proofs.«01_k».proof.Proof.Gen.Mod.Frame
public import proofs.«01_k».proof.Proof.Gen.ModIdeal
public import proofs.«01_k».proof.Proof.ModValue
public import proofs.«01_k».proof.Proof.Gen.ModRefIdeal
public import proofs.«01_k».proof.Proof.ModRef
public import Idealize.ShloMosaic.Adequacy
public import Idealize.ShloMosaic.Init

@[expose] public section

noncomputable section

namespace Cert.Proof

open Idealize.ShloMosaic Idealize.SL.Sem Cert.Kernel

/-- The reference's result term is `ref` of its arguments. -/
theorem value_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v23)
          = Cert.ReferenceIdeal.Flash.ref (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  Cert.ReferenceIdeal.Value.run (F := Ideal) m ρ

/-- For finite queries and keys the kernel's array and the reference's are one. -/
theorem arrays_eq (Q : FVec Ideal Cert.KernelIdeal.S16640x512 .f32) (K V : FVec Ideal Cert.KernelIdeal.S16640x256 .f32)
    (hp : Cert.Pre_finite_qk.fn (F := Ideal) Q K V = fun _ => 1#1) :
    Cert.KernelIdeal.Flash.result (F := Ideal) Q (truncf (F := Ideal) .bf16 K Cert.KernelIdeal.Gen.bitsLt_bf16_f32) (Cert.KernelIdeal.Flash.vS V)
      = Cert.ReferenceIdeal.Flash.ref (F := Ideal) Q K V := by
  obtain ⟨hQ, hK⟩ := Cert.ReferenceIdeal.Flash.finite_of_pre Q K V hp
  funext i
  have hi : i = ix2 (i 0) (i 1) := funext fun a => by fin_cases a <;> rfl
  rw [hi]
  exact (Cert.KernelIdeal.Flash.result_apply Q K V _ _ hQ hK (i 0) (i 1)).trans
    (Cert.ReferenceIdeal.Flash.ref_apply Q K V _ _ hQ hK (i 0) (i 1)).symm

theorem algebraic : Cert.algebraic_KernelIdeal_ReferenceIdeal_pre_finite_qk :=
  fun m ρ m' ρ' hpre hag =>
    ⟨fun c => Cert.KernelIdeal.Flash.result (m ((c.tc : Thread Cert.KernelIdeal.nD Cert.KernelIdeal.τ).loc Cert.KernelIdeal.main_arg0))
        (truncf (F := Ideal) .bf16 (m ((c.tc : Thread Cert.KernelIdeal.nD Cert.KernelIdeal.τ).loc Cert.KernelIdeal.main_arg1)) Cert.KernelIdeal.Gen.bitsLt_bf16_f32)
        (Cert.KernelIdeal.Flash.vS (m ((c.tc : Thread Cert.KernelIdeal.nD Cert.KernelIdeal.τ).loc Cert.KernelIdeal.main_arg2))),
      Cert.KernelIdeal.Flash.value m ρ,
      (θ_run _ _ _).mono (fun r h c => ⟨(h c).1.trans (by
        rw [(hag c).1, (hag c).2.1, (hag c).2.2]
        exact (arrays_eq _ _ _ (hpre c)).symm), (h c).2⟩) (value_ref m' ρ')⟩

theorem algebraic_P1 : Cert.algebraic_P1Ideal_P1RefIdeal :=
  fun m ρ m' ρ' _ hag =>
    ⟨fun c => Cert.Dense.proj (n := 3584) 0 (m (c.tc.loc Cert.P1Ideal.main_arg0)) (m (c.tc.loc Cert.P1Ideal.main_arg1)),
      Cert.P1Ideal.Val.value m ρ,
      (θ_run _ _ _).mono (fun r h c => ⟨(h c).1.trans (by rw [(hag c).1, (hag c).2]), (h c).2⟩) (Cert.P1RefIdeal.Val.value m' ρ')⟩

theorem algebraic_PB : Cert.algebraic_PBIdeal_PBRefIdeal :=
  fun m ρ m' ρ' _ hag =>
    ⟨fun c => Cert.Dense.proj (n := 2048) 3616 (m (c.tc.loc Cert.PBIdeal.main_arg0)) (m (c.tc.loc Cert.PBIdeal.main_arg1)),
      Cert.PBIdeal.Val.value m ρ,
      (θ_run _ _ _).mono (fun r h c => ⟨(h c).1.trans (by rw [(hag c).1, (hag c).2]), (h c).2⟩) (Cert.PBRefIdeal.Val.value m' ρ')⟩

theorem algebraic_WOut : Cert.algebraic_WOutIdeal_WOutRefIdeal :=
  fun m ρ m' ρ' _ hag =>
    ⟨fun c => Cert.Dense.resid (m (c.tc.loc Cert.WOutIdeal.main_arg0)) (m (c.tc.loc Cert.WOutIdeal.main_arg1)) (m (c.tc.loc Cert.WOutIdeal.main_arg2)) (m (c.tc.loc Cert.WOutIdeal.main_arg3)),
      Cert.WOutIdeal.Val.value m ρ,
      (θ_run _ _ _).mono (fun r h c => ⟨(h c).1.trans (by rw [(hag c).1, (hag c).2.1, (hag c).2.2.1, (hag c).2.2.2]), (h c).2⟩) (Cert.WOutRefIdeal.Val.value m' ρ')⟩

theorem algebraic_Down : Cert.algebraic_DownIdeal_DownRefIdeal :=
  fun m ρ m' ρ' _ hag =>
    ⟨fun c => Cert.Dense.resid (m (c.tc.loc Cert.DownIdeal.main_arg0)) (m (c.tc.loc Cert.DownIdeal.main_arg1)) (m (c.tc.loc Cert.DownIdeal.main_arg2)) (m (c.tc.loc Cert.DownIdeal.main_arg3)),
      Cert.DownIdeal.Val.value m ρ,
      (θ_run _ _ _).mono (fun r h c => ⟨(h c).1.trans (by rw [(hag c).1, (hag c).2.1, (hag c).2.2.1, (hag c).2.2.2]), (h c).2⟩) (Cert.DownRefIdeal.Val.value m' ρ')⟩

theorem algebraic_Up : Cert.algebraic_UpIdeal_UpRefIdeal :=
  fun m ρ m' ρ' _ hag =>
    ⟨fun c => Cert.Dense.up (m (c.tc.loc Cert.UpIdeal.main_arg0)) (m (c.tc.loc Cert.UpIdeal.main_arg1)) (m (c.tc.loc Cert.UpIdeal.main_arg2)) (m (c.tc.loc Cert.UpIdeal.main_arg3)),
      Cert.UpIdeal.Val.value m ρ,
      (θ_run _ _ _).mono (fun r h c => ⟨(h c).1.trans (by rw [(hag c).1, (hag c).2.1, (hag c).2.2.1, (hag c).2.2.2]), (h c).2⟩) (Cert.UpRefIdeal.Val.value m' ρ')⟩

theorem algebraic_Gates : Cert.algebraic_GatesIdeal_GatesRefIdeal :=
  fun m ρ m' ρ' _ hag =>
    ⟨fun c => Cert.Dense.proj (n := 8192) 5664 (m (c.tc.loc Cert.GatesIdeal.main_arg0)) (m (c.tc.loc Cert.GatesIdeal.main_arg1)),
      Cert.GatesIdeal.Val.value m ρ,
      (θ_run _ _ _).mono (fun r h c => ⟨(h c).1.trans (by rw [(hag c).1, (hag c).2]), (h c).2⟩) (Cert.GatesRefIdeal.Val.value m' ρ')⟩

theorem algebraic_Final : Cert.algebraic_FinalIdeal_FinalRefIdeal :=
  fun m ρ m' ρ' _ hag =>
    ⟨fun c => Cert.FinalIdeal.Val.latent (m (c.tc.loc Cert.FinalIdeal.main_arg0)) (m (c.tc.loc Cert.FinalIdeal.main_arg1)),
      Cert.FinalIdeal.Val.value m ρ,
      (θ_run _ _ _).mono (fun r h c => ⟨(h c).1.trans (by rw [(hag c).1, (hag c).2]), (h c).2⟩) (Cert.FinalRefIdeal.Val.value m' ρ')⟩

theorem algebraic_Norm : Cert.algebraic_NormIdeal_NormRefIdeal :=
  fun m ρ m' ρ' _ hag =>
    ⟨fun c => Cert.RowNorm.result (m (c.tc.loc Cert.NormIdeal.main_arg0)) (m (c.tc.loc Cert.NormIdeal.main_arg1)) (m (c.tc.loc Cert.NormIdeal.main_arg2)) (m (c.tc.loc Cert.NormIdeal.main_arg3)),
      Cert.NormIdeal.Val.value m ρ,
      (θ_run _ _ _).mono (fun r h c => ⟨(h c).1.trans (by rw [(hag c).1, (hag c).2.1, (hag c).2.2.1, (hag c).2.2.2]), (h c).2⟩) (Cert.NormRefIdeal.Val.value m' ρ')⟩

theorem algebraic_CA : Cert.algebraic_CAIdeal_CARefIdeal :=
  fun m ρ m' ρ' _ hag =>
    ⟨fun c => Cert.CAIdeal.Val.result (m (c.tc.loc Cert.CAIdeal.main_arg0)) (m (c.tc.loc Cert.CAIdeal.main_arg1)),
      Cert.CAIdeal.Val.value m ρ,
      (θ_run _ _ _).mono (fun r h c => ⟨(h c).1.trans (by rw [(hag c).1, (hag c).2]), (h c).2⟩) (Cert.CARefIdeal.Val.value m' ρ')⟩

theorem algebraic_Mod : Cert.algebraic_ModIdeal_ModRefIdeal :=
  fun m ρ m' ρ' _ hag =>
    ⟨fun c => Cert.ModIdeal.Val.result (m (c.tc.loc Cert.ModIdeal.main_arg0)) (m (c.tc.loc Cert.ModIdeal.main_arg1)) (m (c.tc.loc Cert.ModIdeal.main_arg2)),
      Cert.ModIdeal.Val.value m ρ,
      (θ_run _ _ _).mono (fun r h c => ⟨(h c).1.trans (by rw [(hag c).1, (hag c).2.1, (hag c).2.2]), (h c).2⟩) (Cert.ModRefIdeal.Val.value m' ρ')⟩

theorem claim : Cert.Claim := ⟨Cert.Kernel.Gen.facts, Cert.KernelIdeal.Gen.facts, Cert.ReferenceIdeal.Gen.facts, Cert.Reference.Gen.facts, Cert.P1.Gen.facts, Cert.P1Ideal.Gen.facts, Cert.P1RefIdeal.Gen.facts, Cert.PB.Gen.facts, Cert.PBIdeal.Gen.facts, Cert.PBRefIdeal.Gen.facts, Cert.WOut.Gen.facts, Cert.WOutIdeal.Gen.facts, Cert.WOutRefIdeal.Gen.facts, Cert.Down.Gen.facts, Cert.DownIdeal.Gen.facts, Cert.DownRefIdeal.Gen.facts, Cert.Up.Gen.facts, Cert.UpIdeal.Gen.facts, Cert.UpRefIdeal.Gen.facts, Cert.Gates.Gen.facts, Cert.GatesIdeal.Gen.facts, Cert.GatesRefIdeal.Gen.facts, Cert.Final.Gen.facts, Cert.FinalIdeal.Gen.facts, Cert.FinalRefIdeal.Gen.facts, Cert.Norm.Gen.facts, Cert.NormIdeal.Gen.facts, Cert.NormRefIdeal.Gen.facts, Cert.CA.Gen.facts, Cert.CAIdeal.Gen.facts, Cert.CARefIdeal.Gen.facts, Cert.Mod.Gen.facts, Cert.ModIdeal.Gen.facts, Cert.ModRefIdeal.Gen.facts, Cert.Pre_finite_qk.Gen.facts,
  fun m ρ _ => Cert.Kernel.Flash.frame m ρ,
  fun m ρ _ => Cert.KernelIdeal.Flash.frame m ρ,
  fun m ρ _ => Cert.KernelIdeal.Flash.frame m ρ,
  fun m ρ _ => (θ_run _ _ _).mono (fun r h => ⟨fun c => (h c).2, Idealize.ShloMosaic.sem_eq_zero_of_no_sems (by decide) r.2⟩) (Cert.ReferenceIdeal.Value.run m ρ),
  fun m ρ _ => (θ_run _ _ _).mono (fun r h => ⟨fun c => (h c).2, Idealize.ShloMosaic.sem_eq_zero_of_no_sems (by decide) r.2⟩) (Cert.ReferenceIdeal.Value.run m ρ),
  fun m ρ _ => (θ_run _ _ _).mono (fun r h => ⟨fun c => (h c).2, Idealize.ShloMosaic.sem_eq_zero_of_no_sems (by decide) r.2⟩) (Cert.Reference.Value.run m ρ),
  fun m ρ _ => Cert.P1.Gen.frame m ρ,
  fun m ρ _ => Cert.P1Ideal.Gen.frame m ρ,
  fun m ρ _ => (θ_run _ _ _).mono (fun r h => ⟨fun c => (h c).2, Idealize.ShloMosaic.sem_eq_zero_of_no_sems (by decide) r.2⟩) (Cert.P1RefIdeal.Value.run m ρ),
  fun m ρ _ => Cert.PB.Gen.frame m ρ,
  fun m ρ _ => Cert.PBIdeal.Gen.frame m ρ,
  fun m ρ _ => (θ_run _ _ _).mono (fun r h => ⟨fun c => (h c).2, Idealize.ShloMosaic.sem_eq_zero_of_no_sems (by decide) r.2⟩) (Cert.PBRefIdeal.Value.run m ρ),
  fun m ρ _ => Cert.WOut.Gen.frame m ρ,
  fun m ρ _ => Cert.WOutIdeal.Gen.frame m ρ,
  fun m ρ _ => (θ_run _ _ _).mono (fun r h => ⟨fun c => (h c).2, Idealize.ShloMosaic.sem_eq_zero_of_no_sems (by decide) r.2⟩) (Cert.WOutRefIdeal.Value.run m ρ),
  fun m ρ _ => Cert.Down.Gen.frame m ρ,
  fun m ρ _ => Cert.DownIdeal.Gen.frame m ρ,
  fun m ρ _ => (θ_run _ _ _).mono (fun r h => ⟨fun c => (h c).2, Idealize.ShloMosaic.sem_eq_zero_of_no_sems (by decide) r.2⟩) (Cert.DownRefIdeal.Value.run m ρ),
  fun m ρ _ => Cert.Up.Gen.frame m ρ,
  fun m ρ _ => Cert.UpIdeal.Gen.frame m ρ,
  fun m ρ _ => (θ_run _ _ _).mono (fun r h => ⟨fun c => (h c).2, Idealize.ShloMosaic.sem_eq_zero_of_no_sems (by decide) r.2⟩) (Cert.UpRefIdeal.Value.run m ρ),
  fun m ρ _ => Cert.Gates.Val.frame m ρ,
  fun m ρ _ => Cert.GatesIdeal.Val.frame m ρ,
  fun m ρ _ => (θ_run _ _ _).mono (fun r h => ⟨fun c => (h c).2, Idealize.ShloMosaic.sem_eq_zero_of_no_sems (by decide) r.2⟩) (Cert.GatesRefIdeal.Value.run m ρ),
  fun m ρ _ => Cert.Final.Gen.frame m ρ,
  fun m ρ _ => Cert.FinalIdeal.Gen.frame m ρ,
  fun m ρ _ => (θ_run _ _ _).mono (fun r h => ⟨fun c => (h c).2, Idealize.ShloMosaic.sem_eq_zero_of_no_sems (by decide) r.2⟩) (Cert.FinalRefIdeal.Value.run m ρ),
  fun m ρ _ => Cert.Norm.Gen.frame m ρ,
  fun m ρ _ => Cert.NormIdeal.Gen.frame m ρ,
  fun m ρ _ => (θ_run _ _ _).mono (fun r h => ⟨fun c => (h c).2, Idealize.ShloMosaic.sem_eq_zero_of_no_sems (by decide) r.2⟩) (Cert.NormRefIdeal.Value.run m ρ),
  fun m ρ _ => Cert.CA.Gen.frame m ρ,
  fun m ρ _ => Cert.CAIdeal.Gen.frame m ρ,
  fun m ρ _ => (θ_run _ _ _).mono (fun r h => ⟨fun c => (h c).2, Idealize.ShloMosaic.sem_eq_zero_of_no_sems (by decide) r.2⟩) (Cert.CARefIdeal.Value.run m ρ),
  fun m ρ _ => Cert.Mod.Gen.frame m ρ,
  fun m ρ _ => Cert.ModIdeal.Gen.frame m ρ,
  fun m ρ _ => (θ_run _ _ _).mono (fun r h => ⟨fun c => (h c).2, Idealize.ShloMosaic.sem_eq_zero_of_no_sems (by decide) r.2⟩) (Cert.ModRefIdeal.Value.run m ρ),
  IdealRules.named_const.statement Cert.KernelIdeal.κ "qk_scale" .f32 0x3E0293EE#32 (((Real.sqrt 128)⁻¹ * (Real.log 2)⁻¹ : ℝ) : EReal) rfl,
  trivial, algebraic, trivial, algebraic_P1, trivial, algebraic_PB, trivial, algebraic_WOut, trivial, algebraic_Down, trivial, algebraic_Up, trivial, algebraic_Gates, trivial, algebraic_Final, trivial, algebraic_Norm, trivial, algebraic_CA, trivial, algebraic_Mod⟩

end Cert.Proof

end
